-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 4096, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = Layout.block ⟨3, ![2, 128, 512]⟩ ⟨3, ![2, 4096, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x512 : Shape := ⟨2, ![512, 512]⟩
abbrev S2x128x256x64 : Shape := ⟨4, ![2, 128, 256, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x128x256x64 : S_.BroadcastsInDim S2x128x256x64 (![] : Fin 0 → Fin S2x128x256x64.rank)
  reducesTo_S2x128x256x64_S_d0_1_2_3 : S2x128x256x64.ReducesTo [0, 1, 2, 3] S_

variable [Facts]

def fn {F : FTy → Type} [FloatOps F] (main_arg0 : FVec F S2x128x512 .f32) (main_arg1 : FVec F S512x512 .f32) (main_arg2 : FVec F S2x128x256x64 .f32) (main_arg3 : FVec F S2x128x256x64 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2x128x256x64 .f32 := Host.absf main_arg2
  let main_cst_2 : FVec F S_ .f32 := constant S_ .f32 0x7F800000#32
  let main_v10 : FVec F S2x128x256x64 .f32 := broadcastInDim S2x128x256x64 ![] bcast_S_S2x128x256x64 main_cst_2
  let main_v11 : IVec S2x128x256x64 1 := cmpf .olt main_v9 main_v10
  let main_c_3 : IVec S_ 1 := constantI S_ 1 1#1
  let main_v12 : IVec S_ 1 := (fun x v => Host.reduce IntOp.andi x v reducesTo_S2x128x256x64_S_d0_1_2_3 h_S_) main_v11 main_c_3
  let main_v13 : IVec S_ 1 := andi main_v8 main_v12
  main_v13
-- ==== Pre_finite_ReferenceIdeal.lean ====
abbrev S2x4096x512 : Shape := ⟨3, ![2, 4096, 512]⟩
abbrev S512x16384 : Shape := ⟨2, ![512, 16384]⟩
abbrev S2x128x256x64 : Shape := ⟨4, ![2, 128, 256, 64]⟩
abbrev S16384x512 : Shape := ⟨2, ![16384, 512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S512x16384 : S_.BroadcastsInDim S512x16384 (![] : Fin 0 → Fin S512x16384.rank)
  reducesTo_S512x16384_S_d0_1 : S512x16384.ReducesTo [0, 1] S_
  bcast_S_S2x128x256x64 : S_.BroadcastsInDim S2x128x256x64 (![] : Fin 0 → Fin S2x128x256x64.rank)
  reducesTo_S2x128x256x64_S_d0_1_2_3 : S2x128x256x64.ReducesTo [0, 1, 2, 3] S_

variable [Facts]

def fn {F : FTy → Type} [FloatOps F] (main_arg0 : FVec F S2x4096x512 .f32) (main_arg1 : FVec F S512x16384 .f32) (main_arg2 : FVec F S2x128x256x64 .f32) (main_arg3 : FVec F S2x128x256x64 .f32) (main_arg4 : FVec F S16384x512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S512x16384 .f32 := Host.absf main_arg1
  let main_cst_0 : FVec F S_ .f32 := constant S_ .f32 0x7F800000#32
  let main_v5 : FVec F S512x16384 .f32 := broadcastInDim S512x16384 ![] bcast_S_S512x16384 main_cst_0
  let main_v6 : IVec S512x16384 1 := cmpf .olt main_v4 main_v5
  let main_c_1 : IVec S_ 1 := constantI S_ 1 1#1
  let main_v7 : IVec S_ 1 := (fun x v => Host.reduce IntOp.andi x v reducesTo_S512x16384_S_d0_1 h_S_) main_v6 main_c_1
  let main_v8 : IVec S_ 1 := andi main_v3 main_v7
  let main_v9 : FVec F S2x128x256x64 .f32 := Host.absf main_arg2
  let main_cst_2 : FVec F S_ .f32 := constant S_ .f32 0x7F800000#32
  let main_v10 : FVec F S2x128x256x64 .f32 := broadcastInDim S2x128x256x64 ![] bcast_S_S2x128x256x64 main_cst_2
  let main_v11 : IVec S2x128x256x64 1 := cmpf .olt main_v9 main_v10
  let main_c_3 : IVec S_ 1 := constantI S_ 1 1#1
  let main_v12 : IVec S_ 1 := (fun x v => Host.reduce IntOp.andi x v reducesTo_S2x128x256x64_S_d0_1_2_3 h_S_) main_v11 main_c_3
  let main_v13 : IVec S_ 1 := andi main_v8 main_v12
  main_v13
-- ==== Kernel.lean ====
abbrev S2x128x512 : Shape := ⟨3, ![2, 128, 512]⟩
abbrev S512x512 : Shape := ⟨2, ![512, 512]⟩
abbrev S2x128x256x64 : Shape := ⟨4, ![2, 128, 256, 64]⟩
abbrev S_ : Shape := ⟨0, ![]⟩
abbrev S2x128x8x64 : Shape := ⟨4, ![2, 128, 8, 64]⟩
abbrev S2x8x128x64 : Shape := ⟨4, ![2, 8, 128, 64]⟩
abbrev S8x128x512 : Shape := ⟨3, ![8, 128, 512]⟩
abbrev S8 : Shape := ⟨1, ![8]⟩
abbrev S4 : Shape := ⟨1, ![4]⟩
abbrev S1 : Shape := ⟨1, ![1]⟩
abbrev S1x128x512 : Shape := ⟨3, ![1, 128, 512]⟩
abbrev S128x512 : Shape := ⟨2, ![128, 512]⟩
abbrev S256x512 : Shape := ⟨2, ![256, 512]⟩
abbrev S128x64 : Shape := ⟨2, ![128, 64]⟩
abbrev S1x1x128x64 : Shape := ⟨4, ![1, 1, 128, 64]⟩
abbrev S128x128 : Shape := ⟨2, ![128, 128]⟩
abbrev S128 : Shape := ⟨1, ![128]⟩
abbrev S128x1 : Shape := ⟨2, ![128, 1]⟩

abbrev nBuf : Space → Nat
  | .hbm => 36
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x128x256x64, .f32⟩
  | .hbm, ⟨3, _⟩ => ⟨S2x128x256x64, .f32⟩
  | .hbm, ⟨4, _⟩ => ⟨S512x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x8x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x8x64, .f32⟩
  | .hbm, ⟨33, _⟩ => ⟨S2x8x128x64, .f32⟩
  | .hbm, ⟨34, _⟩ => ⟨S2x8x128x64, .f32⟩
  | .hbm, ⟨35, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S2x8x128x64, .f32⟩
  | .local _ .vmem, ⟨4, _⟩ => ⟨S2x8x128x64, .f32⟩
  | .local _ .vmem, ⟨5, _⟩ => ⟨S2x128x512, .f32⟩
  | .local _ .vmem, ⟨6, _⟩ => ⟨S8x128x512, .f32⟩
  | .local _ .vmem, ⟨7, _⟩ => ⟨S8x128x512, .f32⟩
  | .local _ .vmem, ⟨8, _⟩ => ⟨S8x128x512, .f32⟩
  | .local _ .vmem, ⟨9, _⟩ => ⟨S8x128x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 5 70 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 4

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (c0_i32_11 : BitVec 32) : Fin 1 → Nat :=
  let c8_i32_12 : BitVec 32 := 8#32
  let v14 : BitVec 32 := Scalar.remsi c0_i32_11 c8_i32_12
  ![v14.toNat]
def k0_off1_at (r : Fin 4) : BitVec 32 :=
  if r.val < 2 then
    if r.val < 1 then
      0#32
    else
      1#32
  else
    if r.val < 3 then
      31#32
    else
      32#32
def k0_off2 (c1_i32_10 : BitVec 32) : Fin 3 → Nat :=
  let c8_i32 : BitVec 32 := 8#32
  let v13 : BitVec 32 := Scalar.remsi c1_i32_10 c8_i32
  let c0_i32_18 : BitVec 32 := 0#32
  let c0_i32_19 : BitVec 32 := 0#32
  ![v13.toNat, 0, 0]
def k0_off2_at (r : Fin 4) : BitVec 32 :=
  if r.val < 2 then
    if r.val < 1 then
      1#32
    else
      0#32
  else
    if r.val < 3 then
      31#32
    else
      32#32
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_16 : BitVec 32 := 1#32
  let v16 : BitVec 32 := Scalar.muli v7 c1_i32_16
  let v17 : BitVec 32 := Scalar.addi c0_i32_17 v16
  v17.toNat
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_29 : BitVec 32 := 1#32
  let v29 : BitVec 32 := Scalar.muli v5 c1_i32_29
  let v30 : BitVec 32 := Scalar.addi c0_i32_30 v29
  v30.toNat
def k0_dev5 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_257 : BitVec 32 := 1#32
  let v352 : BitVec 32 := Scalar.muli v7 c1_i32_257
  let v353 : BitVec 32 := Scalar.addi c0_i32_258 v352
  v353.toNat
def k0_dev6 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_274 : BitVec 32 := 1#32
  let v369 : BitVec 32 := Scalar.muli v5 c1_i32_274
  let v370 : BitVec 32 := Scalar.addi c0_i32_275 v369
  v370.toNat
@[reducible] def k0_t1_loop : Scf.Loop 32 :=
  let c1_i32_280 : BitVec 32 := 1#32
  let c31_i32 : BitVec 32 := 31#32
  let v379 : BitVec 32 := Scalar.addi c1_i32_280 c31_i32
  let c1_i32_281 : BitVec 32 := 1#32
  ⟨c1_i32_280, v379, c1_i32_281⟩
def k0_off3 (k0_t1 : Fin k0_t1_loop.trips) : Fin 1 → Nat :=
  let c1_i32_280 : BitVec 32 := 1#32
  let c1_i32_281 : BitVec 32 := 1#32
  let arg19 : BitVec 32 := Scf.iv c1_i32_280 c1_i32_281 k0_t1
  let c1_i32_330 : BitVec 32 := 1#32
  let v423 : BitVec 32 := Scalar.subi arg19 c1_i32_330
  let c8_i32_331 : BitVec 32 := 8#32
  let v424 : BitVec 32 := Scalar.remsi v423 c8_i32_331
  ![v424.toNat]
def k0_off4 (k0_t1 : Fin k0_t1_loop.trips) : Fin 3 → Nat :=
  let c1_i32_280 : BitVec 32 := 1#32
  let c1_i32_281 : BitVec 32 := 1#32
  let arg19 : BitVec 32 := Scf.iv c1_i32_280 c1_i32_281 k0_t1
  let c1_i32_330 : BitVec 32 := 1#32
  let v423 : BitVec 32 := Scalar.subi arg19 c1_i32_330
  let c8_i32_331 : BitVec 32 := 8#32
  let v424 : BitVec 32 := Scalar.remsi v423 c8_i32_331
  let c0_i32_334 : BitVec 32 := 0#32
  let c0_i32_335 : BitVec 32 := 0#32
  ![v424.toNat, 0, 0]
def k0_cond1 (k0_t1 : Fin k0_t1_loop.trips) : BitVec 1 :=
  let c1_i32_280 : BitVec 32 := 1#32
  let c1_i32_281 : BitVec 32 := 1#32
  let arg19 : BitVec 32 := Scf.iv c1_i32_280 c1_i32_281 k0_t1
  let c2_i32_346 : BitVec 32 := 2#32
  let v439 : BitVec 1 := Scalar.cmpi .sge arg19 c2_i32_346
  let c24_i32 : BitVec 32 := 24#32
  let v440 : BitVec 1 := Scalar.cmpi .sle arg19 c24_i32
  let v441 : BitVec 1 := Scalar.andi v439 v440
  let v442 : BitVec 32 := Scalar.extui v441
  let c0_i32_347 : BitVec 32 := 0#32
  let v443 : BitVec 1 := Scalar.cmpi .ne v442 c0_i32_347
  v443

def k0_dev7 (d0 : Dev nD) : Nat :=
  let c0_i32_659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_658 : BitVec 32 := 1#32
  let v873 : BitVec 32 := Scalar.muli v5 c1_i32_658
  let v874 : BitVec 32 := Scalar.addi c0_i32_659 v873
  v874.toNat
def k0_dev8 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_662 : BitVec 32 := 1#32
  let v877 : BitVec 32 := Scalar.muli v7 c1_i32_662
  let v878 : BitVec 32 := Scalar.addi c0_i32_663 v877
  v878.toNat
def k0_cond2 (k0_t1 : Fin k0_t1_loop.trips) : BitVec 1 :=
  let c1_i32_280 : BitVec 32 := 1#32
  let c1_i32_281 : BitVec 32 := 1#32
  let arg19 : BitVec 32 := Scf.iv c1_i32_280 c1_i32_281 k0_t1
  let c2_i32_364 : BitVec 32 := 2#32
  let v460 : BitVec 1 := Scalar.cmpi .sge arg19 c2_i32_364
  let c25_i32 : BitVec 32 := 25#32
  let v461 : BitVec 1 := Scalar.cmpi .sle arg19 c25_i32
  let v462 : BitVec 1 := Scalar.andi v460 v461
  let v463 : BitVec 32 := Scalar.extui v462
  let c0_i32_365 : BitVec 32 := 0#32
  let v464 : BitVec 1 := Scalar.cmpi .ne v463 c0_i32_365
  v464

def k0_dev9 (d0 : Dev nD) : Nat :=
  let c0_i32_659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_658 : BitVec 32 := 1#32
  let v873 : BitVec 32 := Scalar.muli v5 c1_i32_658
  let v874 : BitVec 32 := Scalar.addi c0_i32_659 v873
  v874.toNat
def k0_dev10 (d0 : Dev nD) : Nat :=
  let c0_i32_662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_661 : BitVec 32 := 1#32
  let v877 : BitVec 32 := Scalar.muli v7 c1_i32_661
  let v878 : BitVec 32 := Scalar.addi c0_i32_662 v877
  v878.toNat
def k0_off5 (k0_t1 : Fin k0_t1_loop.trips) : Fin 1 → Nat :=
  let c1_i32_280 : BitVec 32 := 1#32
  let c1_i32_281 : BitVec 32 := 1#32
  let arg19 : BitVec 32 := Scf.iv c1_i32_280 c1_i32_281 k0_t1
  let c8_i32_366 : BitVec 32 := 8#32
  let v465 : BitVec 32 := Scalar.remsi arg19 c8_i32_366
  ![v465.toNat]
def k0_off6 (k0_t1 : Fin k0_t1_loop.trips) : Fin 3 → Nat :=
  let c1_i32_280 : BitVec 32 := 1#32
  let c1_i32_281 : BitVec 32 := 1#32
  let arg19 : BitVec 32 := Scf.iv c1_i32_280 c1_i32_281 k0_t1
  let c8_i32_366 : BitVec 32 := 8#32
  let v465 : BitVec 32 := Scalar.remsi arg19 c8_i32_366
  let c0_i32_370 : BitVec 32 := 0#32
  let c0_i32_371 : BitVec 32 := 0#32
  ![v465.toNat, 0, 0]
def k0_cond4 (k0_t1 : Fin k0_t1_loop.trips) : BitVec 1 :=
  let c1_i32_280 : BitVec 32 := 1#32
  let c1_i32_281 : BitVec 32 := 1#32
  let arg19 : BitVec 32 := Scf.iv c1_i32_280 c1_i32_281 k0_t1
  let c30_i32_384 : BitVec 32 := 30#32
  let v488 : BitVec 1 := Scalar.cmpi .sle arg19 c30_i32_384
  let v489 : BitVec 32 := Scalar.extui v488
  let c0_i32_385 : BitVec 32 := 0#32
  let v490 : BitVec 1 := Scalar.cmpi .ne v489 c0_i32_385
  v490

def k0_off7 (k0_t1 : Fin k0_t1_loop.trips) : Fin 1 → Nat :=
  let c1_i32_280 : BitVec 32 := 1#32
  let c1_i32_281 : BitVec 32 := 1#32
  let arg19 : BitVec 32 := Scf.iv c1_i32_280 c1_i32_281 k0_t1
  let c8_i32_659 : BitVec 32 := 8#32
  let v874 : BitVec 32 := Scalar.remsi arg19 c8_i32_659
  ![v874.toNat]
def k0_off8 (k0_t1 : Fin k0_t1_loop.trips) : Fin 1 → Nat :=
  let c1_i32_280 : BitVec 32 := 1#32
  let c1_i32_281 : BitVec 32 := 1#32
  let arg19 : BitVec 32 := Scf.iv c1_i32_280 c1_i32_281 k0_t1
  let c1_i32_660 : BitVec 32 := 1#32
  let v875 : BitVec 32 := Scalar.addi arg19 c1_i32_660
  let c8_i32_661 : BitVec 32 := 8#32
  let v876 : BitVec 32 := Scalar.remsi v875 c8_i32_661
  ![v876.toNat]
def k0_off9 (k0_t1 : Fin k0_t1_loop.trips) : Fin 3 → Nat :=
  let c1_i32_280 : BitVec 32 := 1#32
  let c1_i32_281 : BitVec 32 := 1#32
  let arg19 : BitVec 32 := Scf.iv c1_i32_280 c1_i32_281 k0_t1
  let c1_i32_657 : BitVec 32 := 1#32
  let v872 : BitVec 32 := Scalar.addi arg19 c1_i32_657
  let c8_i32_658 : BitVec 32 := 8#32
  let v873 : BitVec 32 := Scalar.remsi v872 c8_i32_658
  let c0_i32_664 : BitVec 32 := 0#32
  let c0_i32_665 : BitVec 32 := 0#32
  ![v873.toNat, 0, 0]
def k0_off10 (k0_t1 : Fin k0_t1_loop.trips) : Fin 3 → Nat :=
  let c1_i32_280 : BitVec 32 := 1#32
  let c1_i32_281 : BitVec 32 := 1#32
  let arg19 : BitVec 32 := Scf.iv c1_i32_280 c1_i32_281 k0_t1
  let c8_i32_656 : BitVec 32 := 8#32
  let v871 : BitVec 32 := Scalar.remsi arg19 c8_i32_656
  let c0_i32_666 : BitVec 32 := 0#32
  let c0_i32_667 : BitVec 32 := 0#32
  ![v871.toNat, 0, 0]
def k0_dev11 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_662 : BitVec 32 := 1#32
  let v877 : BitVec 32 := Scalar.muli v7 c1_i32_662
  let v878 : BitVec 32 := Scalar.addi c0_i32_663 v877
  v878.toNat
def k0_dev12 (d0 : Dev nD) : Nat :=
  let c0_i32_675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_674 : BitVec 32 := 1#32
  let v893 : BitVec 32 := Scalar.muli v5 c1_i32_674
  let v894 : BitVec 32 := Scalar.addi c0_i32_675 v893
  v894.toNat
def k0_off11 (k0_t1 : Fin k0_t1_loop.trips) : Fin 3 → Nat :=
  let c1_i32_280 : BitVec 32 := 1#32
  let c1_i32_281 : BitVec 32 := 1#32
  let arg19 : BitVec 32 := Scf.iv c1_i32_280 c1_i32_281 k0_t1
  let c8_i32_329 : BitVec 32 := 8#32
  let v422 : BitVec 32 := Scalar.remsi arg19 c8_i32_329
  let v491 : Index := Scalar.indexCast v422
  let c0_386 : Index := 0#32
  let c0_387 : Index := 0#32
  ![v491.toNat, 0, 0]
def k0_off12 (k0_t1 : Fin k0_t1_loop.trips) : Fin 1 → Nat :=
  let c1_i32_280 : BitVec 32 := 1#32
  let c1_i32_281 : BitVec 32 := 1#32
  let arg19 : BitVec 32 := Scf.iv c1_i32_280 c1_i32_281 k0_t1
  let c1_i32_622 : BitVec 32 := 1#32
  let v823 : BitVec 32 := Scalar.addi arg19 c1_i32_622
  let c8_i32_623 : BitVec 32 := 8#32
  let v824 : BitVec 32 := Scalar.remsi v823 c8_i32_623
  ![v824.toNat]
def k0_off13 (k0_t1 : Fin k0_t1_loop.trips) : Fin 3 → Nat :=
  let c1_i32_280 : BitVec 32 := 1#32
  let c1_i32_281 : BitVec 32 := 1#32
  let arg19 : BitVec 32 := Scf.iv c1_i32_280 c1_i32_281 k0_t1
  let c1_i32_619 : BitVec 32 := 1#32
  let v820 : BitVec 32 := Scalar.addi arg19 c1_i32_619
  let c8_i32_620 : BitVec 32 := 8#32
  let v821 : BitVec 32 := Scalar.remsi v820 c8_i32_620
  let c0_i32_626 : BitVec 32 := 0#32
  let c0_i32_627 : BitVec 32 := 0#32
  ![v821.toNat, 0, 0]
def k0_dev13 (d0 : Dev nD) : Nat :=
  let c0_i32_625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_624 : BitVec 32 := 1#32
  let v825 : BitVec 32 := Scalar.muli v7 c1_i32_624
  let v826 : BitVec 32 := Scalar.addi c0_i32_625 v825
  v826.toNat
def k0_dev14 (d0 : Dev nD) : Nat :=
  let c0_i32_651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_650 : BitVec 32 := 1#32
  let v861 : BitVec 32 := Scalar.muli v5 c1_i32_650
  let v862 : BitVec 32 := Scalar.addi c0_i32_651 v861
  v862.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x4096x512 : Shape := ⟨3, ![2, 4096, 512]⟩
abbrev S512x16384 : Shape := ⟨2, ![512, 16384]⟩
abbrev S2x128x256x64 : Shape := ⟨4, ![2, 128, 256, 64]⟩
abbrev S16384x512 : Shape := ⟨2, ![16384, 512]⟩
abbrev S2x4096x16384 : Shape := ⟨3, ![2, 4096, 16384]⟩
abbrev S2x4096x256x64 : Shape := ⟨4, ![2, 4096, 256, 64]⟩
abbrev S_ : Shape := ⟨0, ![]⟩
abbrev S2x256x4096x1 : Shape := ⟨4, ![2, 256, 4096, 1]⟩
abbrev S2x256x4096x128 : Shape := ⟨4, ![2, 256, 4096, 128]⟩
abbrev S2x256x4096 : Shape := ⟨3, ![2, 256, 4096]⟩
abbrev S2x4096x256x1 : Shape := ⟨4, ![2, 4096, 256, 1]⟩
abbrev S2x256x64x4096 : Shape := ⟨4, ![2, 256, 64, 4096]⟩

abbrev nBuf : Space → Nat
  | .hbm => 42
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S512x16384, .f32⟩
  | .hbm, ⟨2, _⟩ => ⟨S2x128x256x64, .f32⟩
  | .hbm, ⟨3, _⟩ => ⟨S2x128x256x64, .f32⟩
  | .hbm, ⟨4, _⟩ => ⟨S16384x512, .f32⟩
  | .hbm, ⟨5, _⟩ => ⟨S2x4096x16384, .f32⟩
  | .hbm, ⟨6, _⟩ => ⟨S2x4096x256x64, .f32⟩
  | .hbm, ⟨7, _⟩ => ⟨S_, .f32⟩
  | .hbm, ⟨8, _⟩ => ⟨S2x4096x256x64, .f32⟩
  | .hbm, ⟨9, _⟩ => ⟨S_, .f32⟩
  | .hbm, ⟨10, _⟩ => ⟨S2x256x4096x1, .f32⟩
  | .hbm, ⟨11, _⟩ => ⟨S_, .f32⟩
  | .hbm, ⟨12, _⟩ => ⟨S2x256x4096x1, .f32⟩
  | .hbm, ⟨13, _⟩ => ⟨S2x256x4096x128, .f32⟩
  | .hbm, ⟨14, _⟩ => ⟨S_, .f32⟩
  | .hbm, ⟨15, _⟩ => ⟨S2x256x4096x128, .f32⟩
  | .hbm, ⟨16, _⟩ => ⟨S2x256x4096x128, .f32⟩
  | .hbm, ⟨17, _⟩ => ⟨S_, .f32⟩
  | .hbm, ⟨18, _⟩ => ⟨S2x256x4096, .f32⟩
  | .hbm, ⟨19, _⟩ => ⟨S2x256x4096x1, .f32⟩
  | .hbm, ⟨20, _⟩ => ⟨S2x256x4096x1, .f32⟩
  | .hbm, ⟨21, _⟩ => ⟨S2x256x4096x1, .f32⟩
  | .hbm, ⟨22, _⟩ => ⟨S2x256x4096x1, .f32⟩
  | .hbm, ⟨23, _⟩ => ⟨S2x256x4096x128, .f32⟩
  | .hbm, ⟨24, _⟩ => ⟨S2x256x4096x128, .f32⟩
  | .hbm, ⟨25, _⟩ => ⟨S2x256x4096x128, .f32⟩
  | .hbm, ⟨26, _⟩ => ⟨S2x256x4096x1, .f32⟩
  | .hbm, ⟨27, _⟩ => ⟨S_, .f32⟩
  | .hbm, ⟨28, _⟩ => ⟨S2x256x4096, .f32⟩
  | .hbm, ⟨29, _⟩ => ⟨S2x256x4096x1, .f32⟩
  | .hbm, ⟨30, _⟩ => ⟨S2x256x4096x1, .f32⟩
  | .hbm, ⟨31, _⟩ => ⟨S2x4096x256x1, .f32⟩
  | .hbm, ⟨32, _⟩ => ⟨S2x4096x256x64, .f32⟩
  | .hbm, ⟨33, _⟩ => ⟨S2x4096x256x64, .f32⟩
  | .hbm, ⟨34, _⟩ => ⟨S2x256x64x4096, .f32⟩
  | .hbm, ⟨35, _⟩ => ⟨S2x4096x256x64, .f32⟩
  | .hbm, ⟨36, _⟩ => ⟨S2x4096x256x64, .f32⟩
  | .hbm, ⟨37, _⟩ => ⟨S2x4096x256x1, .f32⟩
  | .hbm, ⟨38, _⟩ => ⟨S2x4096x256x64, .f32⟩
  | .hbm, ⟨39, _⟩ => ⟨S2x4096x256x64, .f32⟩
  | .hbm, ⟨40, _⟩ => ⟨S2x4096x16384, .f32⟩
  | .hbm, ⟨41, _⟩ => ⟨S2x4096x512, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Base.lean ====
/-
  The ring kernel's protocol: directions, neighbours, slots, cells.

  Direction `false` runs to the right neighbour (device c + 1), direction `true` to the left one (device c + 31).
  Kind `false` are the buffers of x blocks, kind `true` the buffers of accumulators. Each of the four ring buffers has
  eight slots; message number t of a buffer is sent from slot t % 8 and lands in slot (t + 1) % 8 of the neighbour.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Neighbours -/

/-- The device a message in direction `d` goes to. -/
def nxt (d : Bool) (c : Dev nD) : Dev nD := ⟨(c.val + (if d then 31 else 1)) % 32, Nat.mod_lt _ (by decide)⟩

theorem nxt_not (d : Bool) (c : Dev nD) : nxt d (nxt (!d) c) = c := by revert c; cases d <;> decide
theorem not_nxt (d : Bool) (c : Dev nD) : nxt (!d) (nxt d c) = c := by revert c; cases d <;> decide
theorem nxt_ft (c : Dev nD) : nxt false (nxt true c) = c := nxt_not false c
theorem nxt_tf (c : Dev nD) : nxt true (nxt false c) = c := nxt_not true c
theorem nxt_inj (d : Bool) {c c' : Dev nD} (h : nxt d c = nxt d c') : c = c' := by
  rw [← not_nxt d c, h, not_nxt]

/-- The ring step as a permutation. -/
def nxtE (d : Bool) : Dev nD ≃ Dev nD := ⟨nxt d, nxt (!d), not_nxt d, nxt_not d⟩

/-! ## Slots -/

/-- The slot of number `n`. -/
def sl (n : ℕ) : Fin 8 := ⟨n % 8, Nat.mod_lt _ (by decide)⟩

/-- A ring buffer, whole. -/
def bufM : Bool → Bool → Memref sig .tc .vmem S8x128x512 .f32
  | false, false => Memref.whole cc0_scratch0
  | false, true => Memref.whole cc0_scratch1
  | true, false => Memref.whole cc0_scratch2
  | true, true => Memref.whole cc0_scratch3

theorem slot_inb (j : Fin 8) : ∀ a, (![j.val, 0, 0] : Fin 3 → ℕ) a + S1x128x512.size a ≤ S8x128x512.size a := by
  revert j; decide

/-- The rectangle of slot `j`. -/
abbrev slotR (j : Fin 8) : Rect S8x128x512 := Rect.unit (s := S8x128x512) ![j.val, 0, 0] S1x128x512.size (slot_inb j)

/-- Slot `j` of a ring buffer, as a load or a store reaches it. -/
def slotV (kd d : Bool) (j : Fin 8) : View sig .tc .vmem S1x128x512 .f32 := (bufM kd d).access (slotR j)

/-- Slot `j` of a ring buffer, as a transfer reaches it: the leading axis dropped. -/
def slotM (kd d : Bool) (j : Fin 8) : Memref sig .tc .vmem S128x512 .f32 :=
  ((bufM kd d).slice (slotR j) (fun _ => rfl)).squeeze S128x512 squeezes_S1x128x512_S128x512

theorem slotM_view (kd d : Bool) (j : Fin 8) :
    (slotM kd d j).view = (slotV kd d j).reshape S128x512 squeezes_S1x128x512_S128x512.numel_eq := rfl

theorem slotM_of_off (kd d : Bool) (j : Fin 8) {off : Fin 3 → ℕ} (h : off = ![j.val, 0, 0])
    (inb : ∀ a, off a + S1x128x512.size a ≤ S8x128x512.size a) :
    ((bufM kd d).slice (Rect.unit (s := S8x128x512) off S1x128x512.size inb) (fun _ => rfl)).squeeze S128x512 squeezes_S1x128x512_S128x512
      = slotM kd d j := by subst h; rfl

theorem slotR_of_off (j : Fin 8) {off : Fin 3 → ℕ} (h : off = ![j.val, 0, 0])
    (inb : ∀ a, off a + S1x128x512.size a ≤ S8x128x512.size a) :
    Rect.unit (s := S8x128x512) off S1x128x512.size inb = slotR j := by subst h; rfl

/-! ## Semaphores -/

/-- The DMA semaphore arrays: kind, direction, `false` for the sending side and `true` for the receiving one. -/
def semA : Bool → Bool → Bool → DmaSems sig S8
  | false, false, false => cc0_scratch4
  | false, false, true => cc0_scratch5
  | false, true, false => cc0_scratch6
  | false, true, true => cc0_scratch7
  | true, false, false => cc0_scratch8
  | true, false, true => cc0_scratch9
  | true, true, false => cc0_scratch10
  | true, true, true => cc0_scratch11

/-- The semaphore of slot `j` in its array, by its number. -/
def semN (kd d rs : Bool) (j : Fin 8) : DmaSem sig :=
  ⟨6 + 32 * kd.toNat + 16 * d.toNat + 8 * rs.toNat + j.val, by
    show _ < 70
    have := j.isLt; cases kd <;> cases d <;> cases rs <;> simp only [Bool.toNat_true, Bool.toNat_false] <;> omega⟩

theorem semA_of_off (kd d rs : Bool) (j : Fin 8) {off : Fin 1 → ℕ} (h : off = ![j.val])
    (inb : ∀ a, off a + S1.size a ≤ S8.size a) :
    (((semA kd d rs).slice (Rect.unit (s := S8) off S1.size inb)).squeeze S_ squeezes_S1_S_).sem = semN kd d rs j := by
  subst h
  revert inb
  cases kd <;> cases d <;> cases rs <;> revert j <;> decide

/-- A device's own cells: the four credit cells and the 64 transfer cells. -/
abbrev OK : Type := (Bool × Bool) ⊕ (Bool × Bool × Bool × Fin 8)

/-- The credit semaphores by number. -/
def crN (kd d : Bool) : Sem sig := ⟨2 * kd.toNat + d.toNat, by
  show _ < 5
  cases kd <;> cases d <;> decide⟩

/-- The barrier semaphore. -/
abbrev barS : Sem sig := (SemArray.scalar (d := (![] : Fin 0 → ℕ)) (sig.barrier 0 rfl)).sem

/-- The own cells' semaphores. -/
def osem : OK → SemLoc sig
  | .inl (kd, d) => .reg (crN kd d)
  | .inr (kd, d, rs, j) => .dma (semN kd d rs j)

/-- All the protocol's cells of a device: the own ones and the barrier's. -/
def asem : Option OK → SemLoc sig
  | none => .reg barS
  | some k => osem k

/-- A semaphore's number, regular ones after the transfer ones. -/
def semNum : SemLoc sig → ℕ
  | .reg i => 100 + i.val
  | .dma i => i.val

theorem semN_val (kd d rs : Bool) (j : Fin 8) :
    semNum (.dma (semN kd d rs j)) = 6 + 32 * kd.toNat + 16 * d.toNat + 8 * rs.toNat + j.val := rfl
theorem crN_val (kd d : Bool) : semNum (.reg (crN kd d)) = 100 + (2 * kd.toNat + d.toNat) := rfl
theorem barS_val : semNum (.reg barS) = 104 := rfl

theorem asem_inj : Function.Injective asem := by
  intro a b hab
  have h := congrArg semNum hab
  rcases a with _ | ⟨kd, d⟩ | ⟨kd, d, rs, j⟩ <;> rcases b with _ | ⟨kd', d'⟩ | ⟨kd', d', rs', j'⟩ <;>
    simp only [asem, osem, semN_val, crN_val, barS_val] at h
  · rfl
  · cases kd' <;> cases d' <;> simp at h
  · have := j'.isLt; cases kd' <;> cases d' <;> cases rs' <;> simp at h <;> omega
  · cases kd <;> cases d <;> simp at h
  · cases kd <;> cases d <;> cases kd' <;> cases d' <;> simp at h ⊢
  · have := j'.isLt; cases kd <;> cases d <;> cases kd' <;> cases d' <;> cases rs' <;> simp at h <;> omega
  · have := j.isLt; cases kd <;> cases d <;> cases rs <;> simp at h <;> omega
  · have := j.isLt; cases kd <;> cases d <;> cases rs <;> cases kd' <;> cases d' <;> simp at h <;> omega
  · have h1 := j.isLt
    have h2 := j'.isLt
    have e : kd = kd' ∧ d = d' ∧ rs = rs' ∧ j.val = j'.val := by
      cases kd <;> cases d <;> cases rs <;> cases kd' <;> cases d' <;> cases rs' <;> simp at h ⊢ <;> omega
    obtain ⟨rfl, rfl, rfl, hj⟩ := e
    rw [Fin.ext hj]

theorem osem_inj : Function.Injective osem := fun a b h => Option.some.inj (asem_inj (a₁ := some a) (a₂ := some b) h)

/-- Which of the protocol's cells a semaphore is. -/
def dec : SemLoc sig → Option (Option OK) := Function.partialInv asem
theorem dec_asem (k : Option OK) : dec (asem k) = some k := Function.partialInv_left asem_inj k

/-- Cell `k` of device `c`. -/
abbrev cell (c : Dev nD) (k : Option OK) : GSem nD τ sig := ((c : Thread nD τ), asem k)
abbrev barC (c : Dev nD) : GSem nD τ sig := ((c : Thread nD τ), .reg barS)
abbrev crC (kd d : Bool) (c : Dev nD) : GSem nD τ sig := ((c : Thread nD τ), .reg (crN kd d))
abbrev sndC (kd d : Bool) (j : Fin 8) (c : Dev nD) : GSem nD τ sig := ((c : Thread nD τ), .dma (semN kd d false j))
abbrev rcvC (kd d : Bool) (j : Fin 8) (c : Dev nD) : GSem nD τ sig := ((c : Thread nD τ), .dma (semN kd d true j))

theorem dec_bar : dec (.reg barS) = some none := dec_asem none
theorem dec_cr (kd d : Bool) : dec (.reg (crN kd d)) = some (some (.inl (kd, d))) := dec_asem (some (.inl (kd, d)))
theorem dec_dma (kd d rs : Bool) (j : Fin 8) : dec (.dma (semN kd d rs j)) = some (some (.inr (kd, d, rs, j))) :=
  dec_asem (some (.inr (kd, d, rs, j)))

end Cert.Proof.Ring

end
-- ==== Proof.Slots.lean ====
/-
  Slots held at named contents, and how loads, stores, transfers and shares act on them.
-/
module

public import proofs.«01_k».proof.Proof.Base

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user's algebra: the pipeline library's copy and the protocol's. -/
abbrev UU : Type := UR sig nD τ × URounds (GSem nD τ sig) ℕ

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := embR

/-- Contents of a slot. -/
abbrev Blk (F : FTy → Type) : Type := Vec F S1x128x512 .f32

/-- The two halves of a full share. -/
abbrev qL : PosShare TreeShare := (fullShare : PosShare TreeShare).left
abbrev qR : PosShare TreeShare := (fullShare : PosShare TreeShare).right

/-! ## A view held at named contents -/

section View

variable {s : Shape}

/-- The view's elements on device `c`, share `q`, at contents `v`. -/
def heldV (c : Dev nD) (V : View sig .tc .vmem s .f32) (q : PosShare TreeShare) (v : Vec F s .f32) : sProp 𝕄 :=
  V.loc (c : Thread nD τ) ↦[V.set]{q} V.rep v

instance heldV_storable (c : Dev nD) (V : View sig .tc .vmem s .f32) (q : PosShare TreeShare) (v : Vec F s .f32) :
    BI.Storable (upEmb : UEmb _ 𝕄) (heldV c V q v) := by unfold heldV; infer_instance

/-- The view's elements on device `c`, at contents not named. -/
def freeV (c : Dev nD) (V : View sig .tc .vmem s .f32) : sProp 𝕄 :=
  iprop(∃ f : Buf (Elt F) (V.loc (c : Thread nD τ)), V.loc (c : Thread nD τ) ↦[V.set]{fullShare} f)

instance freeV_storable (c : Dev nD) (V : View sig .tc .vmem s .f32) :
    BI.Storable (upEmb : UEmb _ 𝕄) (freeV (F := F) c V) := by unfold freeV; infer_instance

theorem rep_congr (V : View sig .tc .vmem s .f32) (f : V.ty.Contents (Elt F)) (v : Vec F s .f32) (h : V.read (Elt F) f = v) :
    ∀ i ∈ V.set, f i = V.rep v i := by
  intro i hi
  have e := congrFun (View.write_read_eq_piecewise (v := V) (Val := Elt F) f (V.rep v) Finset.univ) i
  have e2 := congrFun (View.write_read_eq_piecewise (v := V) (Val := Elt F) f f Finset.univ) i
  rw [View.read_rep] at e
  rw [h] at e2
  rw [View.setOn_univ, Finset.piecewise_eq_of_mem _ _ _ hi] at e
  rw [View.setOn_univ, Finset.piecewise_eq_of_mem _ _ _ hi] at e2
  exact e2.symm.trans e

/-- Held at any contents that read `v` is held at `v`. -/
theorem heldV_of (c : Dev nD) (V : View sig .tc .vmem s .f32) (q : PosShare TreeShare) (f : Buf (Elt F) (V.loc (c : Thread nD τ)))
    (v : Vec F s .f32) (h : V.read (Elt F) f = v) :
    (V.loc (c : Thread nD τ) ↦[V.set]{q} f : sProp 𝕄) = heldV c V q v :=
  pointsTo_congr (rep_congr V f v h)

theorem freeV_of_heldV (c : Dev nD) (V : View sig .tc .vmem s .f32) (v : Vec F s .f32) :
    (heldV c V fullShare v : sProp 𝕄) ⊢ freeV c V := by
  unfold heldV freeV
  iintro H; iexists _; iexact H

/-- A free view is held at some contents. -/
theorem freeV_held (c : Dev nD) (V : View sig .tc .vmem s .f32) :
    (freeV (F := F) c V : sProp 𝕄) ⊢ iprop(∃ v, heldV c V fullShare v) := by
  unfold freeV
  iintro ⟨%f, H⟩
  iexists (V.read (Elt F) f)
  rw [← heldV_of c V fullShare f _ rfl]
  iexact H

/-- A view's share splits in halves; -/
theorem heldV_split (c : Dev nD) (V : View sig .tc .vmem s .f32) (v : Vec F s .f32) :
    (heldV c V fullShare v : sProp 𝕄) ⊢ iprop(heldV c V qL v ∗ heldV c V qR v) := by
  unfold heldV; exact (pointsTo_share (PosShare.mem_left_op_right fullShare)).1

/-- and the halves join. -/
theorem heldV_join (c : Dev nD) (V : View sig .tc .vmem s .f32) (v : Vec F s .f32) :
    iprop(heldV c V qL v ∗ heldV c V qR v) ⊢ (heldV c V fullShare v : sProp 𝕄) := by
  unfold heldV; exact (pointsTo_share (PosShare.mem_left_op_right fullShare)).2

/-- Re-indexed: the same elements at the contents re-indexed. -/
theorem heldV_reshape (c : Dev nD) (V : View sig .tc .vmem s .f32) (q : PosShare TreeShare) {s' : Shape} (h : s'.numel = s.numel)
    (v : Vec F s .f32) :
    (heldV c (V.reshape s' h) q (fun x => v (Shape.reshapeEquiv h x)) : sProp 𝕄) = heldV c V q v := by
  symm
  have e : (V.reshape s' h).read (Elt F) (V.rep v) = fun x => v (Shape.reshapeEquiv h x) := by
    have := View.read_rep (Val := Elt F) V v
    funext x
    exact congrFun this (Shape.reshapeEquiv h x)
  have := heldV_of (F := F) c (V.reshape s' h) q (V.rep v) _ e
  rw [← this]
  unfold heldV
  rw [View.set_reshape]

theorem freeV_reshape (c : Dev nD) (V : View sig .tc .vmem s .f32) {s' : Shape} (h : s'.numel = s.numel) :
    (freeV c (V.reshape s' h) : sProp 𝕄) = freeV c V := by
  unfold freeV
  rw [View.set_reshape]

end View

/-! ## Slots -/

/-- Slot `j` of buffer `kd`, `d` on device `c`, at contents `v`. -/
abbrev slotAt (c : Dev nD) (kd d : Bool) (j : Fin 8) (q : PosShare TreeShare) (v : Blk F) : sProp 𝕄 := heldV c (slotV kd d j) q v
/-- The slot at contents not named. -/
abbrev slotFree (c : Dev nD) (kd d : Bool) (j : Fin 8) : sProp 𝕄 := freeV (F := F) c (slotV kd d j)

end Cert.Proof.Ring

end
-- ==== Proof.Sched.lean ====
/-
  The protocol's schedule: which units each cell gets, what comes with them, and what each device owes at which level.
-/
module

public import proofs.«01_k».proof.Proof.Slots

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Messages and their numbers -/

/-- How many messages a ring buffer sees: 31 blocks of x, 32 accumulators. -/
def M (kd : Bool) : ℕ := 31 + kd.toNat
/-- How many credits a credit cell sees. -/
def Mc (kd : Bool) : ℕ := 23 + kd.toNat

/-- The index received in slot `j` in round `r`: slots 1..7 take indices 8r + 1 .. 8r + 7, slot 0 takes 8r + 8. -/
def ridx (j : Fin 8) (r : ℕ) : ℕ := 8 * r + (if j.val = 0 then 8 else j.val)

theorem ridx_sl (i : ℕ) (hi : 1 ≤ i) : ridx (sl i) ((i - 1) / 8) = i := by
  unfold ridx sl; dsimp only; split <;> omega
theorem ridx_pos (j : Fin 8) (r : ℕ) : 1 ≤ ridx j r := by unfold ridx; split <;> omega
theorem sl_ridx (j : Fin 8) (r : ℕ) : sl (ridx j r) = j := by
  apply Fin.ext; show ridx j r % 8 = j.val; have := j.isLt; unfold ridx; split <;> omega
theorem ridx_div (j : Fin 8) (r : ℕ) : (ridx j r - 1) / 8 = r := by
  have := j.isLt; unfold ridx; split <;> omega
theorem sl_mod (t : ℕ) : 8 * (t / 8) + (sl t).val = t := by show 8 * (t / 8) + t % 8 = t; omega

/-- What a transfer of one block credits. -/
abbrev N : ℕ := (slotM false false 0).view.dmaCredit
theorem N_pos : 0 < N := View.dmaCredit_pos _ (by decide)

/-- The first message's source: a batch of the own x block, in its staging buffer. -/
def xV (d : Bool) : View sig .tc .vmem S1x128x512 .f32 :=
  if d then (Memref.whole cc0_stg0_0 : Memref sig .tc .vmem S2x128x512 .f32).access (Rect.unit (s := S2x128x512) ![1, 0, 0] S1x128x512.size inb_S2x128x512_S1x128x512_1_0_0)
  else (Memref.whole cc0_stg0_0 : Memref sig .tc .vmem S2x128x512 .f32).access (Rect.unit (s := S2x128x512) ![0, 0, 0] S1x128x512.size inb_S2x128x512_S1x128x512_0_0_0)

/-! ## The schedule -/

/-- Device `c'` gives away the slot that index `i` lands in. -/
def grant (c' : Dev nD) (kd d : Bool) (i : ℕ) : sProp 𝕄 :=
  if i ≤ M kd then iprop(slotFree c' kd d (sl i) ∗ reached ER (rcvC kd d (sl i) c') ((i - 1) / 8)) else iprop(emp)

/-- Both kinds' slots for index `i`. -/
def G2 (c' : Dev nD) (d : Bool) (i : ℕ) : sProp 𝕄 := iprop(grant c' false d i ∗ grant c' true d i)

variable (Xs As : Bool → Dev nD → ℕ → Blk F)

/-- What comes back with the send of message `t`. -/
def sndPay (c : Dev nD) (kd d : Bool) (t : ℕ) : sProp 𝕄 :=
  if kd then slotAt c true d (sl t) fullShare (As d c t)
  else if t = 0 then heldV c (xV d) qL (Xs d c 0) else slotAt c false d (sl t) qL (Xs d c t)

/-- What comes with index `i`: the block, and with an x block also the sender's slots for the other direction. -/
def rcvPay (c : Dev nD) (kd d : Bool) (i : ℕ) : sProp 𝕄 :=
  if kd then slotAt c true d (sl i) fullShare (As d (nxt (!d) c) (i - 1))
  else iprop(slotAt c false d (sl i) fullShare (Xs d (nxt (!d) c) (i - 1)) ∗ G2 (nxt (!d) c) (!d) (i + 1))

/-- What comes with the barrier's unit of direction `d`: the neighbour's first slots, and that its credit cells of the
    other direction are open. -/
def barPayD (c : Dev nD) (d : Bool) : sProp 𝕄 :=
  iprop(G2 (nxt d c) d 1 ∗ reached ER (crC false (!d) (nxt d c)) 0 ∗ reached ER (crC true (!d) (nxt d c)) 0)
/-- The barrier's unit number `n`. -/
def barPay (c : Dev nD) (n : ℕ) : sProp 𝕄 := barPayD c (decide (n = 1))

def ringDuties (g : GSem nD τ sig) (r : ℕ) : Finset ℕ :=
  match dec g.2 with
  | some none => if r = 0 then {0, 1} else ∅
  | some (some (.inl (kd, _))) => if r = 0 then Finset.range (Mc kd) else ∅
  | some (some (.inr (kd, _, false, j))) => if 8 * r + j.val < M kd then {0} else ∅
  | some (some (.inr (kd, _, true, j))) => if ridx j r ≤ M kd then {0} else ∅
  | none => ∅

def ringAmount (g : GSem nD τ sig) : ℕ :=
  match dec g.2 with
  | some (some (.inr _)) => N
  | _ => 1

def ringPayload (g : GSem nD τ sig) (r n : ℕ) : sProp 𝕄 :=
  match dec g.2 with
  | some none => barPay g.1.1 n
  | some (some (.inl _)) => iprop(emp)
  | some (some (.inr (kd, d, false, j))) => sndPay Xs As g.1.1 kd d (8 * r + j.val)
  | some (some (.inr (kd, d, true, j))) => rcvPay Xs As g.1.1 kd d (ridx j r)
  | none => iprop(emp)

def ringRd : Rounds.Schedule (GSem nD τ sig) ℕ 𝕄 where
  duties := ringDuties
  unitless _ := False
  amount g _ _ := ringAmount g
  payload := ringPayload Xs As
  amount_pos g _ _ _ := by
    show 0 < ringAmount g
    unfold ringAmount
    split
    · exact N_pos
    · exact Nat.one_pos

instance grant_storable (c : Dev nD) (kd d : Bool) (i : ℕ) : BI.Storable (upEmb : UEmb _ 𝕄) (grant (F := F) c kd d i) := by
  unfold grant; split <;> infer_instance
instance G2_storable (c : Dev nD) (d : Bool) (i : ℕ) : BI.Storable (upEmb : UEmb _ 𝕄) (G2 (F := F) c d i) := by
  unfold G2; infer_instance
instance sndPay_storable (c : Dev nD) (kd d : Bool) (t : ℕ) : BI.Storable (upEmb : UEmb _ 𝕄) (sndPay Xs As c kd d t) := by
  unfold sndPay; (repeat' split) <;> infer_instance
instance rcvPay_storable (c : Dev nD) (kd d : Bool) (i : ℕ) : BI.Storable (upEmb : UEmb _ 𝕄) (rcvPay Xs As c kd d i) := by
  unfold rcvPay; (repeat' split) <;> infer_instance
instance barPay_storable (c : Dev nD) (n : ℕ) : BI.Storable (upEmb : UEmb _ 𝕄) (barPay (F := F) c n) := by
  unfold barPay barPayD; infer_instance

instance ringRd_payload_storable (g : GSem nD τ sig) (r : ℕ) (n : ℕ) :
    BI.Storable (upEmb : UEmb _ 𝕄) ((ringRd Xs As).payload g r n) := by
  show BI.Storable upEmb (ringPayload Xs As g r n)
  unfold ringPayload
  split <;> infer_instance

section Tables

variable (c : Dev nD) (kd d : Bool)

local notation "Rd" => ringRd Xs As

theorem duties_bar : (Rd).duties (barC c) 0 = {0, 1} := by
  show ringDuties _ _ = _; unfold ringDuties; dsimp only; rw [dec_bar]; rfl
theorem duties_bar_later (r : ℕ) (h : 1 ≤ r) : (Rd).duties (barC c) r = ∅ := by
  show ringDuties _ _ = _; unfold ringDuties; dsimp only; rw [dec_bar]; exact if_neg (by omega)
theorem duties_cr : (Rd).duties (crC kd d c) 0 = Finset.range (Mc kd) := by
  show ringDuties _ _ = _; unfold ringDuties; dsimp only; rw [dec_cr]; rfl
theorem duties_cr_later (r : ℕ) (h : 1 ≤ r) : (Rd).duties (crC kd d c) r = ∅ := by
  show ringDuties _ _ = _; unfold ringDuties; dsimp only; rw [dec_cr]; exact if_neg (by omega)
theorem duties_snd (j : Fin 8) (r : ℕ) : (Rd).duties (sndC kd d j c) r = if 8 * r + j.val < M kd then {0} else ∅ := by
  show ringDuties _ _ = _; unfold ringDuties; dsimp only; rw [dec_dma]
theorem duties_rcv (j : Fin 8) (r : ℕ) : (Rd).duties (rcvC kd d j c) r = if ridx j r ≤ M kd then {0} else ∅ := by
  show ringDuties _ _ = _; unfold ringDuties; dsimp only; rw [dec_dma]
theorem duties_snd_t (t : ℕ) (h : t < M kd) : (Rd).duties (sndC kd d (sl t) c) (t / 8) = {0} := by
  rw [duties_snd, sl_mod, if_pos h]
theorem duties_rcv_i (i : ℕ) (hi : 1 ≤ i) (h : i ≤ M kd) : (Rd).duties (rcvC kd d (sl i) c) ((i - 1) / 8) = {0} := by
  rw [duties_rcv, ridx_sl i hi, if_pos h]

theorem amount_bar (r n : ℕ) : (Rd).amount (barC c) r n = 1 := by
  show ringAmount _ = _; unfold ringAmount; dsimp only; rw [dec_bar]
theorem amount_cr (r n : ℕ) : (Rd).amount (crC kd d c) r n = 1 := by
  show ringAmount _ = _; unfold ringAmount; dsimp only; rw [dec_cr]
theorem amount_dma (rs : Bool) (j : Fin 8) (r n : ℕ) : (Rd).amount ((c : Thread nD τ), .dma (semN kd d rs j)) r n = N := by
  show ringAmount _ = _; unfold ringAmount; dsimp only; rw [dec_dma]

theorem expect_bar : (Rd).expect (barC c) 0 = 2 := by
  unfold Schedule.expect Schedule.amountOf
  rw [duties_bar, Finset.sum_congr rfl (fun n _ => amount_bar Xs As c 0 n)]; rfl
theorem expect_cr : (Rd).expect (crC kd d c) 0 = Mc kd := by
  unfold Schedule.expect Schedule.amountOf
  rw [duties_cr, Finset.sum_congr rfl (fun n _ => amount_cr Xs As c kd d 0 n), Finset.sum_const, Finset.card_range, smul_eq_mul, mul_one]
theorem expect_snd (t : ℕ) (h : t < M kd) : (Rd).expect (sndC kd d (sl t) c) (t / 8) = N := by
  unfold Schedule.expect Schedule.amountOf
  rw [duties_snd_t Xs As c kd d t h, Finset.sum_singleton]; exact amount_dma Xs As c kd d false _ _ _
theorem expect_rcv (i : ℕ) (hi : 1 ≤ i) (h : i ≤ M kd) : (Rd).expect (rcvC kd d (sl i) c) ((i - 1) / 8) = N := by
  unfold Schedule.expect Schedule.amountOf
  rw [duties_rcv_i Xs As c kd d i hi h, Finset.sum_singleton]; exact amount_dma Xs As c kd d true _ _ _

theorem payload_bar (r n : ℕ) : (Rd).payload (barC c) r n = barPay c n := by
  show ringPayload Xs As _ _ _ = _; unfold ringPayload; dsimp only; rw [dec_bar]
theorem payload_cr (r n : ℕ) : (Rd).payload (crC kd d c) r n = iprop(emp) := by
  show ringPayload Xs As _ _ _ = _; unfold ringPayload; dsimp only; rw [dec_cr]
theorem payload_snd (t n : ℕ) : (Rd).payload (sndC kd d (sl t) c) (t / 8) n = sndPay Xs As c kd d t := by
  show ringPayload Xs As _ _ _ = _; unfold ringPayload; dsimp only; rw [dec_dma]; dsimp only; rw [sl_mod]
theorem payload_rcv (i n : ℕ) (hi : 1 ≤ i) : (Rd).payload (rcvC kd d (sl i) c) ((i - 1) / 8) n = rcvPay Xs As c kd d i := by
  show ringPayload Xs As _ _ _ = _; unfold ringPayload; dsimp only; rw [dec_dma]; dsimp only; rw [ridx_sl i hi]

theorem rest_bar : bigSep ((Rd).duties (barC c) 0 \ ∅) (fun n => (Rd).payload (barC c) 0 n) = iprop(barPayD c false ∗ barPayD c true) := by
  rw [Finset.sdiff_empty, duties_bar, bigSep_insert (by decide), bigSep_singleton, payload_bar, payload_bar]
  rfl
theorem rest_snd (t : ℕ) (h : t < M kd) :
    bigSep ((Rd).duties (sndC kd d (sl t) c) (t / 8) \ ∅) (fun n => (Rd).payload (sndC kd d (sl t) c) (t / 8) n) = sndPay Xs As c kd d t := by
  rw [Finset.sdiff_empty, duties_snd_t Xs As c kd d t h, bigSep_singleton, payload_snd]
theorem rest_rcv (i : ℕ) (hi : 1 ≤ i) (h : i ≤ M kd) :
    bigSep ((Rd).duties (rcvC kd d (sl i) c) ((i - 1) / 8) \ ∅) (fun n => (Rd).payload (rcvC kd d (sl i) c) ((i - 1) / 8) n)
      = rcvPay Xs As c kd d i := by
  rw [Finset.sdiff_empty, duties_rcv_i Xs As c kd d i hi h, bigSep_singleton, payload_rcv _ _ _ _ _ _ _ hi]

end Tables

/-! ## Levels -/

/-- Every index a device's cells use is below 64. -/
def L (g : GSem nD τ sig) : Finset ℕ := if g.1.2 = .tc then Finset.range 64 else ∅

/-- The levels: the barrier at 1, a credit number n at 2n + 3, a received index i at 2i, the rest at 0. -/
def lv (g : GSem nD τ sig) (ι : ℕ) : ℕ :=
  match dec g.2 with
  | some none => 1
  | some (some (.inl _)) => 2 * ι + 3
  | some (some (.inr (_, _, true, _))) => 2 * ι
  | _ => 0

theorem L_of_ne (g : GSem nD τ sig) (h : g.1.2 ≠ .tc) : L g = ∅ := if_neg h
theorem L_tc (c : Dev nD) (sm : SemLoc sig) : L ((c : Thread nD τ), sm) = Finset.range 64 := if_pos rfl
theorem mem_L (c : Dev nD) (sm : SemLoc sig) (ι : ℕ) (h : ι < 64) : ι ∈ L ((c : Thread nD τ), sm) := by
  rw [L_tc]; exact Finset.mem_range.mpr h
theorem lv_bar (c : Dev nD) (ι : ℕ) : lv (barC c) ι = 1 := by unfold lv; dsimp only; rw [dec_bar]
theorem lv_cr (c : Dev nD) (kd d : Bool) (ι : ℕ) : lv (crC kd d c) ι = 2 * ι + 3 := by unfold lv; dsimp only; rw [dec_cr]
theorem lv_rcv (c : Dev nD) (kd d : Bool) (j : Fin 8) (ι : ℕ) : lv (rcvC kd d j c) ι = 2 * ι := by unfold lv; dsimp only; rw [dec_dma]
theorem lv_snd (c : Dev nD) (kd d : Bool) (j : Fin 8) (ι : ℕ) : lv (sndC kd d j c) ι = 0 := by unfold lv; dsimp only; rw [dec_dma]

/-- Everything owed in `O` sits above level `b`. -/
def Above (b : ℕ) (O : CellTallies nD τ sig ℕ) : Prop := ∀ g ι, 0 < O g ι → ι ∈ L g ∧ b < lv g ι

theorem Above.zero (b : ℕ) : Above b 0 := fun _ _ h => absurd h (Nat.lt_irrefl 0)
theorem Above.add {b : ℕ} {O O' : CellTallies nD τ sig ℕ} (h : Above b O) (h' : Above b O') : Above b (O + O') :=
  fun g ι hg => (Pipeline.add_pos_cases hg).elim (h g ι) (h' g ι)
theorem Above.tally {b n ι : ℕ} {g : GSem nD τ sig} (hm : ι ∈ L g) (hl : b < lv g ι) : Above b (tallyAt g ι n) := fun g' ι' hg => by
  obtain ⟨rfl, rfl⟩ := Pipeline.tallyAt_pos hg
  exact ⟨hm, hl⟩
theorem Above.mono {b b' : ℕ} (hb : b ≤ b') {O : CellTallies nD τ sig ℕ} (h : Above b' O) : Above b O :=
  fun g ι hg => ⟨(h g ι hg).1, lt_of_le_of_lt hb (h g ι hg).2⟩

/-- A wait at or below level `b` is allowed while everything owed sits above. -/
theorem mayWait (c : Dev nD) (sm : SemLoc sig) (ι b : ℕ) (O : CellTallies nD τ sig ℕ) (hι : ι < 64)
    (hb : lv ((c : Thread nD τ), sm) ι ≤ b) (h : Above b O) :
    (levAts L lv : sProp 𝕄) ⊢ MayWait (c : Thread nD τ) sm ι O :=
  Pipeline.mayWait_of_levAts (mem_L c sm ι hι) (fun g i hg => ⟨(h g i hg).1, lt_of_le_of_lt hb (h g i hg).2⟩)

/-! ## What a device owes -/

/-- The credit of kind `kd` for direction `d`, signalled at hop `k`. -/
def sg (kd d : Bool) (c : Dev nD) (k : ℕ) : CellTallies nD τ sig ℕ :=
  if 2 ≤ k ∧ k ≤ 24 + kd.toNat then tallyAt (crC kd d (nxt (!d) c)) (k - 2) 1 else 0

/-- The message number `k`, sent at hop `k`. -/
def sd (kd d : Bool) (c : Dev nD) (k : ℕ) : CellTallies nD τ sig ℕ :=
  if k < M kd then tallyAt (rcvC kd d (sl (k + 1)) (nxt d c)) (k + 1) N else 0

/-- All of one hop, the last paid first. -/
def hop (c : Dev nD) (k : ℕ) : CellTallies nD τ sig ℕ :=
  sd true true c k + sd true false c k + sd false true c k + sd false false c k
    + sg true true c k + sg true false c k + sg false true c k + sg false false c k

/-- What is owed from hop `k` on. -/
def Orem (c : Dev nD) (k : ℕ) : CellTallies nD τ sig ℕ := ∑ k' ∈ Finset.Ico k 32, hop c k'

theorem Ico_pop (k : ℕ) (hk : k < 32) : Finset.Ico k 32 = insert k (Finset.Ico (k + 1) 32) := by
  ext x; simp only [Finset.mem_insert, Finset.mem_Ico]; omega

theorem Orem_step (c : Dev nD) (k : ℕ) (hk : k < 32) :
    Orem c k = Orem c (k + 1) + sd true true c k + sd true false c k + sd false true c k + sd false false c k
      + sg true true c k + sg true false c k + sg false true c k + sg false false c k := by
  unfold Orem
  rw [Ico_pop k hk, Finset.sum_insert (by simp), add_comm]
  unfold hop
  simp only [add_assoc]

theorem Orem_end (c : Dev nD) : Orem c 32 = 0 := by unfold Orem; rw [Finset.Ico_self]; rfl

theorem above_sg (kd d : Bool) (c : Dev nD) (k b : ℕ) (hb : b < 2 * k - 1) : Above b (sg kd d c k) := by
  unfold sg; split
  · rename_i h
    refine Above.tally (mem_L _ _ _ ?_) (by rw [lv_cr]; omega)
    have := h.2; cases kd <;> simp at this <;> omega
  · exact Above.zero b
theorem above_sd (kd d : Bool) (c : Dev nD) (k b : ℕ) (hb : b < 2 * k + 2) : Above b (sd kd d c k) := by
  unfold sd; split
  · rename_i h
    refine Above.tally (mem_L _ _ _ ?_) (by rw [lv_rcv]; omega)
    revert h; unfold M; cases kd <;> simp <;> omega
  · exact Above.zero b
theorem above_Orem (c : Dev nD) (k b : ℕ) (hb : b < 2 * k - 1) : Above b (Orem c k) := by
  intro g ι hg
  unfold Orem at hg
  obtain ⟨k', hk', hp⟩ := Pipeline.sum_pos_exists hg
  have hkk := (Finset.mem_Ico.mp hk').1
  have h1 : b < 2 * k' - 1 := by omega
  have h2 : b < 2 * k' + 2 := by omega
  exact (((((((Above.add (above_sd _ _ _ _ _ h2) (above_sd _ _ _ _ _ h2)).add (above_sd _ _ _ _ _ h2)).add (above_sd _ _ _ _ _ h2)).add
    (above_sg _ _ _ _ _ h1)).add (above_sg _ _ _ _ _ h1)).add (above_sg _ _ _ _ _ h1)).add (above_sg _ _ _ _ _ h1)) g ι hp

/-- What a device owes at launch: the two barrier units, the first hop's sends, and the hops of the loop. -/
def O₀ (c : Dev nD) : CellTallies nD τ sig ℕ :=
  Orem c 1 + sd true true c 0 + sd true false c 0 + sd false true c 0 + sd false false c 0
    + tallyAt (barC (nxt false c)) 0 1 + tallyAt (barC (nxt true c)) 0 1

end Cert.Proof.Ring

end
-- ==== Proof.Steps.lean ====
/-
  One lemma per kind of step: waiting for a send or a receive, signalling and waiting for a credit, sending a block.
-/
module

public import proofs.«01_k».proof.Proof.Sched

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

variable (Xs As : Bool → Dev nD → ℕ → Blk F) (K : GSem nD τ sig → ℕ)

/-- Every cell's invariant, on every device. -/
def invs : sProp 𝕄 :=
  bigSep (Finset.univ : Finset (Dev nD × Option OK)) fun p => cellInv ER (ringRd Xs As) (K (cell p.1 p.2)) (cell p.1 p.2)
instance invs_persistent : BI.Persistent (invs Xs As K) := by classical unfold invs; infer_instance

theorem inv_get (c : Dev nD) (k : Option OK) :
    (invs Xs As K : sProp 𝕄) ⊢ cellInv ER (ringRd Xs As) (K (cell c k)) (cell c k) :=
  by
    classical
    exact bigSep_elim (Φ := fun p : Dev nD × Option OK => cellInv ER (ringRd Xs As) (K (cell p.1 p.2)) (cell p.1 p.2)) (Finset.mem_univ (c, k))
theorem inv_bar (c : Dev nD) : (invs Xs As K : sProp 𝕄) ⊢ cellInv ER (ringRd Xs As) (K (barC c)) (barC c) := inv_get Xs As K c none
theorem inv_cr (c : Dev nD) (kd d : Bool) : (invs Xs As K : sProp 𝕄) ⊢ cellInv ER (ringRd Xs As) (K (crC kd d c)) (crC kd d c) :=
  inv_get Xs As K c (some (.inl (kd, d)))
theorem inv_snd (c : Dev nD) (kd d : Bool) (j : Fin 8) :
    (invs Xs As K : sProp 𝕄) ⊢ cellInv ER (ringRd Xs As) (K (sndC kd d j c)) (sndC kd d j c) :=
  inv_get Xs As K c (some (.inr (kd, d, false, j)))
theorem inv_rcv (c : Dev nD) (kd d : Bool) (j : Fin 8) :
    (invs Xs As K : sProp 𝕄) ⊢ cellInv ER (ringRd Xs As) (K (rcvC kd d j c)) (rcvC kd d j c) :=
  inv_get Xs As K c (some (.inr (kd, d, true, j)))

/-- What the device owes, whatever it has waited for. -/
def ow (c : Dev nD) (O : CellTallies nD τ sig ℕ) : sProp 𝕄 := iprop(∃ W, owes (c : Thread nD τ) O W)

/-! ## Positions -/

/-- The owner's position at the start of round `R`. -/
def pos (g : GSem nD τ sig) (R : ℕ) : sProp 𝕄 := iprop(atPos ER g R ∅ 0 ∗ reached ER g R)

/-- Rounds done before hop `k`: on the send cell of slot `j`, and on its receive cell. -/
def sndR (j : Fin 8) (k : ℕ) : ℕ := (k + 6 - j.val) / 8
def rcvR (j : Fin 8) (k : ℕ) : ℕ := (k + 7 - (if j.val = 0 then 8 else j.val)) / 8

/-- The positions of all eight send cells, and receive cells, before hop `k`. -/
def posS (c : Dev nD) (kd d : Bool) (k : ℕ) : sProp 𝕄 := bigSep Finset.univ fun j : Fin 8 => pos (F := F) (sndC kd d j c) (sndR j k)
def posR (c : Dev nD) (kd d : Bool) (k : ℕ) : sProp 𝕄 := bigSep Finset.univ fun j : Fin 8 => pos (F := F) (rcvC kd d j c) (rcvR j k)

theorem sndR_at (t : ℕ) : sndR (sl t) (t + 1) = t / 8 := by unfold sndR sl; dsimp only; omega
theorem sndR_next (t : ℕ) : sndR (sl t) (t + 2) = t / 8 + 1 := by unfold sndR sl; dsimp only; omega
theorem sndR_rest (t : ℕ) (j : Fin 8) (h : j ≠ sl t) : sndR j (t + 2) = sndR j (t + 1) := by
  have hj := j.isLt
  have h' : j.val ≠ t % 8 := fun e => h (Fin.ext e)
  unfold sndR; omega
theorem rcvR_at (i : ℕ) (hi : 1 ≤ i) : rcvR (sl i) i = (i - 1) / 8 := by
  unfold rcvR sl; dsimp only; split <;> omega
theorem rcvR_next (i : ℕ) (hi : 1 ≤ i) : rcvR (sl i) (i + 1) = (i - 1) / 8 + 1 := by
  unfold rcvR sl; dsimp only; split <;> omega
theorem rcvR_rest (i : ℕ) (hi : 1 ≤ i) (j : Fin 8) (h : j ≠ sl i) : rcvR j (i + 1) = rcvR j i := by
  have hj := j.isLt
  have h' : j.val ≠ i % 8 := fun e => h (Fin.ext e)
  unfold rcvR; split <;> omega

theorem posS_open (c : Dev nD) (kd d : Bool) (t : ℕ) : (posS c kd d (t + 1) : sProp 𝕄)
    = iprop(pos (sndC kd d (sl t) c) (t / 8) ∗ bigSep (Finset.univ.erase (sl t)) fun j => pos (sndC kd d j c) (sndR j (t + 1))) := by
  unfold posS
  have h := bigSep_erase (Finset.mem_univ (sl t)) (Φ := fun j : Fin 8 => (pos (sndC kd d j c) (sndR j (t + 1)) : sProp 𝕄))
  rw [sndR_at] at h
  exact h
theorem posS_close (c : Dev nD) (kd d : Bool) (t : ℕ) : (posS c kd d (t + 2) : sProp 𝕄)
    = iprop(pos (sndC kd d (sl t) c) (t / 8 + 1) ∗ bigSep (Finset.univ.erase (sl t)) fun j => pos (sndC kd d j c) (sndR j (t + 1))) := by
  unfold posS
  have h := bigSep_erase (Finset.mem_univ (sl t)) (Φ := fun j : Fin 8 => (pos (sndC kd d j c) (sndR j (t + 2)) : sProp 𝕄))
  rw [sndR_next] at h
  exact h.trans (congrArg _ (bigSep_congr fun j hj => by rw [sndR_rest t j (Finset.ne_of_mem_erase hj)]))
theorem posR_open (c : Dev nD) (kd d : Bool) (i : ℕ) (hi : 1 ≤ i) : (posR c kd d i : sProp 𝕄)
    = iprop(pos (rcvC kd d (sl i) c) ((i - 1) / 8) ∗ bigSep (Finset.univ.erase (sl i)) fun j => pos (rcvC kd d j c) (rcvR j i)) := by
  unfold posR
  have h := bigSep_erase (Finset.mem_univ (sl i)) (Φ := fun j : Fin 8 => (pos (rcvC kd d j c) (rcvR j i) : sProp 𝕄))
  rw [rcvR_at i hi] at h
  exact h
theorem posR_close (c : Dev nD) (kd d : Bool) (i : ℕ) (hi : 1 ≤ i) : (posR c kd d (i + 1) : sProp 𝕄)
    = iprop(pos (rcvC kd d (sl i) c) ((i - 1) / 8 + 1) ∗ bigSep (Finset.univ.erase (sl i)) fun j => pos (rcvC kd d j c) (rcvR j i)) := by
  unfold posR
  have h := bigSep_erase (Finset.mem_univ (sl i)) (Φ := fun j : Fin 8 => (pos (rcvC kd d j c) (rcvR j (i + 1)) : sProp 𝕄))
  rw [rcvR_next i hi] at h
  exact h.trans (congrArg _ (bigSep_congr fun j hj => by rw [rcvR_rest i hi j (Finset.ne_of_mem_erase hj)]))

/-- The round a send of message `t` pays is the one reached. -/
theorem posS_reached (c : Dev nD) (kd d : Bool) (t : ℕ) :
    (posS c kd d (t + 1) : sProp 𝕄) ⊢ reached ER (sndC kd d (sl t) c) (t / 8) := by
  rw [posS_open]; unfold pos
  iintro ⟨⟨-, H⟩, -⟩; iexact H

/-- The round that index `k + 2` lands in is reached while the receive cells stand at `k` or `k + 1`. -/
theorem posR_reached (c : Dev nD) (kd d : Bool) (k i : ℕ) (h : rcvR (sl i) k = (i - 1) / 8) :
    (posR c kd d k : sProp 𝕄) ⊢ reached ER (rcvC kd d (sl i) c) ((i - 1) / 8) := by
  unfold posR
  refine (bigSep_elim (Φ := fun j : Fin 8 => (pos (rcvC kd d j c) (rcvR j k) : sProp 𝕄)) (Finset.mem_univ (sl i))).trans ?_
  rw [h]; unfold pos
  show iprop(atPos ER (rcvC kd d (sl i) c) ((i - 1) / 8) ∅ 0 ∗ reached ER (rcvC kd d (sl i) c) ((i - 1) / 8)) ⊢ _
  iintro ⟨-, H⟩; iexact H

theorem rcvR_ahead (k i : ℕ) (h1 : k ≤ i) (h2 : i ≤ k + 2) (hi : 1 ≤ i) : rcvR (sl i) k = (i - 1) / 8 := by
  unfold rcvR sl; dsimp only; split <;> omega

/-! ## Steps: waits -/

theorem amt (kd d : Bool) (j : Fin 8) : (slotM kd d j).view.dmaCredit = N := by cases kd <;> cases d <;> rfl

/-- A wait for a send. -/
theorem wait_snd (c : Dev nD) (kd d : Bool) (t : ℕ) (ht : t < M kd) {sp' : Space} {s' : Shape} {e' : EltTy} {sem : DmaSem sig}
    {src : Memref sig .tc sp' s' e'} {dst : Memref sig .tc .vmem S128x512 .f32} {hsrc : src.view.WordExact} {hdst : dst.view.WordExact}
    {α : Type} {k : PUnit → Prog (TpuEff nD τ sig (Elt F) Λ₀ .tc) α} {Q : α → sProp 𝕄}
    (hs : sem = semN kd d false (sl t)) (hd : ∃ j, dst = slotM kd d j) (O : CellTallies nD τ sig ℕ) (hO : Above 0 O) :
    iprop(invs Xs As K ∗ levAts L lv ∗ cred (tallyAt (sndC kd d (sl t) c) 0 N) ∗ ow c O ∗ posS c kd d (t + 1))
      ⊢ iprop(((ow c O ∗ posS c kd d (t + 2) ∗ sndPay Xs As c kd d t) -∗ (wp frame (wpE (defs₀ (F := F)) 𝒱₀ ((c : Dev nD) : Thread nD τ) none) Set.univ) (k ⟨⟩) Q)
        -∗ (wp frame (wpE (defs₀ (F := F)) 𝒱₀ ((c : Dev nD) : Thread nD τ) none) Set.univ) (.op (.waitDma2 sem src dst hsrc hdst) k) Q) := by
  subst hs
  obtain ⟨j, rfl⟩ := hd
  rw [posS_open, posS_close]
  unfold ow pos
  iintro ⟨#Hi, #Hlev, Hc, ⟨%W, HO⟩, ⟨⟨Hat, -⟩, Hrest⟩⟩ Hk
  iapply (Rounds.wp_wait_rest_token 𝒱₀ ER (ringRd Xs As) (c : Thread nD τ) none (κ := K (sndC kd d (sl t) c))
      (wpE_waitDma2_eq 𝒱₀ (c : Thread nD τ) none Set.univ) (Set.mem_univ _) 0 (O := O) (W := W) (R := t / 8) (m := 0) (T := ∅)
      ((Nat.zero_add _).trans ((amt kd d j).trans (expect_snd Xs As c kd d t ht).symm))) $$ [Hc HO Hat]
  · isplitr; · iapply (inv_snd Xs As K c kd d (sl t)); iexact Hi
    isplitl [Hc]; · rw [amt]; iexact Hc
    isplitl [HO]; · iexact HO
    isplitr
    · iapply (mayWait c _ 0 0 O (by decide) (le_of_eq (lv_snd c kd d (sl t) 0)) hO); iexact Hlev
    iexact Hat
  iintro ⟨HO, Hat, Hr, Hpay⟩
  ihave Hp := (Entails.of_eq (rest_snd Xs As c kd d t ht)) $$ Hpay
  iapply Hk
  isplitl [HO]; · iexists _; iexact HO
  isplitl [Hat Hr Hrest]
  · isplitl [Hat Hr]
    · isplitl [Hat]; · iexact Hat
      iexact Hr
    iexact Hrest
  iexact Hp

/-- A wait for a receive. -/
theorem wait_rcv (c : Dev nD) (kd d : Bool) (i : ℕ) (hi : 1 ≤ i) (hM : i ≤ M kd) {sp' : Space} {s' : Shape} {e' : EltTy} {sem : DmaSem sig}
    {src : Memref sig .tc sp' s' e'} {dst : Memref sig .tc .vmem S128x512 .f32} {hsrc : src.view.WordExact} {hdst : dst.view.WordExact}
    {α : Type} {k : PUnit → Prog (TpuEff nD τ sig (Elt F) Λ₀ .tc) α} {Q : α → sProp 𝕄}
    (hs : sem = semN kd d true (sl i)) (hd : ∃ j, dst = slotM kd d j) (O : CellTallies nD τ sig ℕ) (hO : Above (2 * i) O) :
    iprop(invs Xs As K ∗ levAts L lv ∗ cred (tallyAt (rcvC kd d (sl i) c) i N) ∗ ow c O ∗ posR c kd d i)
      ⊢ iprop(((ow c O ∗ posR c kd d (i + 1) ∗ rcvPay Xs As c kd d i) -∗ (wp frame (wpE (defs₀ (F := F)) 𝒱₀ ((c : Dev nD) : Thread nD τ) none) Set.univ) (k ⟨⟩) Q)
        -∗ (wp frame (wpE (defs₀ (F := F)) 𝒱₀ ((c : Dev nD) : Thread nD τ) none) Set.univ) (.op (.waitDma2 sem src dst hsrc hdst) k) Q) := by
  subst hs
  obtain ⟨j, rfl⟩ := hd
  rw [posR_open c kd d i hi, posR_close c kd d i hi]
  unfold ow pos
  iintro ⟨#Hi, #Hlev, Hc, ⟨%W, HO⟩, ⟨⟨Hat, -⟩, Hrest⟩⟩ Hk
  iapply (Rounds.wp_wait_rest_token 𝒱₀ ER (ringRd Xs As) (c : Thread nD τ) none (κ := K (rcvC kd d (sl i) c))
      (wpE_waitDma2_eq 𝒱₀ (c : Thread nD τ) none Set.univ) (Set.mem_univ _) i (O := O) (W := W) (R := (i - 1) / 8) (m := 0) (T := ∅)
      ((Nat.zero_add _).trans ((amt kd d j).trans (expect_rcv Xs As c kd d i hi hM).symm))) $$ [Hc HO Hat]
  · isplitr; · iapply (inv_rcv Xs As K c kd d (sl i)); iexact Hi
    isplitl [Hc]; · rw [amt]; iexact Hc
    isplitl [HO]; · iexact HO
    isplitr
    · iapply (mayWait c _ i (2 * i) O (by revert hM; unfold M; cases kd <;> simp <;> omega) (le_of_eq (lv_rcv c kd d (sl i) i)) hO); iexact Hlev
    iexact Hat
  iintro ⟨HO, Hat, Hr, Hpay⟩
  ihave Hp := (Entails.of_eq (rest_rcv Xs As c kd d i hi hM)) $$ Hpay
  iapply Hk
  isplitl [HO]; · iexists _; iexact HO
  isplitl [Hat Hr Hrest]
  · isplitl [Hat Hr]
    · isplitl [Hat]; · iexact Hat
      iexact Hr
    iexact Hrest
  iexact Hp

/-! ## Steps: credits -/

/-- The owner's position on a credit cell after `n` waits: units taken so far are carried by some set of duties. -/
def crSt (c : Dev nD) (kd d : Bool) (n : ℕ) : sProp 𝕄 :=
  iprop(∃ S : Finset ℕ, ⌜n + (Finset.range (Mc kd) \ S).card ≤ Mc kd⌝ ∗ atPos ER (crC kd d c) 0 S n)

/-- The token that pays hop `k`'s credit. -/
def sgTok (c : Dev nD) (kd d : Bool) (k : ℕ) : sProp 𝕄 :=
  if 2 ≤ k ∧ k ≤ 24 + kd.toNat then dutyTok ER (crC kd d (nxt (!d) c)) 0 (k - 2) else iprop(emp)

/-- A credit signalled at hop `k`. -/
theorem signal_cr (c : Dev nD) (kd d : Bool) (k₀ : ℕ) (h1 : 2 ≤ k₀) (h2 : k₀ ≤ 24 + kd.toNat) {sem : Sem sig} {dst : Dev nD} {z : ℤ} (hz : z = ((1 : ℕ) : ℤ))
    {α : Type} {k : PUnit → Prog (TpuEff nD τ sig (Elt F) Λ₀ .tc) α} {Q : α → sProp 𝕄}
    (hs : sem = crN kd d) (hd : dst = nxt (!d) c) (O : CellTallies nD τ sig ℕ) :
    iprop(invs Xs As K ∗ reached ER (crC kd d (nxt (!d) c)) 0 ∗ sgTok c kd d k₀ ∗ ow c (O + sg kd d c k₀))
      ⊢ iprop((ow c O -∗ (wp frame (wpE (defs₀ (F := F)) 𝒱₀ ((c : Dev nD) : Thread nD τ) none) Set.univ) (k ⟨⟩) Q) -∗ (wp frame (wpE (defs₀ (F := F)) 𝒱₀ ((c : Dev nD) : Thread nD τ) none) Set.univ) (.op (.semSignal ((dst, Proc.tc) : Thread nD τ) sem z) k) Q) := by
  subst hs; subst hd; subst hz
  unfold sgTok ow sg
  rw [if_pos ⟨h1, h2⟩, if_pos ⟨h1, h2⟩]
  iintro ⟨#Hi, #Hr, Htok, ⟨%W, HO⟩⟩ Hk
  iapply (Rounds.wp_signal 𝒱₀ ER (ringRd Xs As) (c : Thread nD τ) none (dst := (nxt (!d) c : Thread nD τ)) (sem := crN kd d) (r := 0) (d := k₀ - 2)
      (κ := K (crC kd d (nxt (!d) c)))
      (by rw [duties_cr]; exact Finset.mem_range.mpr (by unfold Mc; omega)) (amount_cr Xs As _ kd d 0 _) (k₀ - 2) O rfl) $$ [HO Htok]
  · isplitr; · iapply (inv_cr Xs As K _ kd d); iexact Hi
    isplitl [HO]; · iexact HO
    isplitl [Htok]; · iexact Htok
    isplitr
    · rw [payload_cr]; iempintro
    iexact Hr
  iintro HO
  iapply Hk
  iexists W; iexact HO

/-- A wait for a credit. -/
theorem wait_cr (c : Dev nD) (kd d : Bool) (n : ℕ) (hn : n < Mc kd) {sem : Sem sig} {z : ℤ} (hz : z = ((1 : ℕ) : ℤ))
    {α : Type} {k : PUnit → Prog (TpuEff nD τ sig (Elt F) Λ₀ .tc) α} {Q : α → sProp 𝕄}
    (hs : sem = crN kd d) (O : CellTallies nD τ sig ℕ) (hO : Above (2 * n + 3) O) :
    iprop(invs Xs As K ∗ levAts L lv ∗ cred (tallyAt (crC kd d c) n 1) ∗ ow c O ∗ crSt c kd d n)
      ⊢ iprop(((ow c O ∗ crSt c kd d (n + 1)) -∗ (wp frame (wpE (defs₀ (F := F)) 𝒱₀ ((c : Dev nD) : Thread nD τ) none) Set.univ) (k ⟨⟩) Q) -∗ (wp frame (wpE (defs₀ (F := F)) 𝒱₀ ((c : Dev nD) : Thread nD τ) none) Set.univ) (.op (.semWait sem z) k) Q) := by
  subst hs; subst hz
  unfold ow crSt
  iintro ⟨#Hi, #Hlev, Hc, ⟨%W, HO⟩, ⟨%S, %hS, Hat⟩⟩ Hk
  iapply (Rounds.wp_wait 𝒱₀ ER (ringRd Xs As) (c : Thread nD τ) none (κ := K (crC kd d c))
      (wpE_semWait_eq 𝒱₀ (c : Thread nD τ) none Set.univ) (Set.mem_univ _) (cr := Finsupp.single n 1) (O := O) (W := W)
      {(SemLoc.reg (crN kd d), n)} (R := 0) (m := n) (T := S) (by rw [Util.total_single]) (image_single_subset _ n 1)) $$ [Hc HO Hat]
  · isplitr; · iapply (inv_cr Xs As K c kd d); iexact Hi
    isplitl [Hc]; · iexact Hc
    isplitl [HO]; · iexact HO
    isplitr
    · iapply (mayWait c _ n (2 * n + 3) O (by revert hn; unfold Mc; cases kd <;> simp <;> omega) (le_of_eq (lv_cr c kd d n)) hO); iexact Hlev
    iexact Hat
  iintro %S' ⟨%hS', HO, Hat, -⟩
  iapply Hk
  isplitl [HO]; · iexists _; iexact HO
  iexists S'
  isplitr
  · ipureintro
    have := hS'.2.2
    rw [duties_cr, expect_cr] at this
    exact this
  iexact Hat

/-! ## Steps: sends -/

/-- The tokens that pay the send of message `t`. -/
def sdTok (c : Dev nD) (kd d : Bool) (t : ℕ) : sProp 𝕄 :=
  if t < M kd then iprop(dutyTok ER (sndC kd d (sl t) c) (t / 8) 0 ∗ dutyTok ER (rcvC kd d (sl (t + 1)) (nxt d c)) (t / 8) 0) else iprop(emp)

theorem send_step (c : Dev nD) (kd d : Bool) (t : ℕ) (ht : t < M kd) {src dst : Memref sig .tc .vmem S128x512 .f32} {sS sR : DmaSem sig} {dev : Dev nD}
    {hsrc : src.view.WordExact} {hdst : dst.view.WordExact}
    {hsc : dst.view.ref.isScScratch = false}
    {hsem : DmaTarget.Typed .vmem (.dma sR) (.remote (Dev.tc dev) dst (.dma sS) hsc)}
    {α : Type} {k : PUnit → Prog (TpuEff nD τ sig (Elt F) Λ₀ .tc) α} {Q : α → sProp 𝕄}
    (hS : sS = semN kd d false (sl t)) (hR : sR = semN kd d true (sl (t + 1))) (hdev : dev = nxt d c) (hdm : dst = slotM kd d (sl (t + 1)))
    (q : PosShare TreeShare) (v : Blk F) (E : sProp 𝕄)
    (hp1 : heldV c src.view q (fun x => v (Shape.reshapeEquiv squeezes_S1x128x512_S128x512.numel_eq x)) ⊢ sndPay Xs As c kd d t)
    (hp2 : iprop(slotAt (nxt d c) kd d (sl (t + 1)) fullShare v ∗ E) ⊢ rcvPay Xs As (nxt d c) kd d (t + 1))
    (O : CellTallies nD τ sig ℕ) :
    iprop(invs Xs As K ∗ reached ER (sndC kd d (sl t) c) (t / 8) ∗ sdTok c kd d t
        ∗ heldV c src.view q (fun x => v (Shape.reshapeEquiv squeezes_S1x128x512_S128x512.numel_eq x)) ∗ grant (nxt d c) kd d (t + 1) ∗ E
        ∗ ow c (O + sd kd d c t))
      ⊢ iprop(((ow c O ∗ cred (tallyAt (sndC kd d (sl t) c) 0 N)) -∗ (wp frame (wpE (defs₀ (F := F)) 𝒱₀ ((c : Dev nD) : Thread nD τ) none) Set.univ) (k ⟨⟩) Q)
        -∗ (wp frame (wpE (defs₀ (F := F)) 𝒱₀ ((c : Dev nD) : Thread nD τ) none) Set.univ) (.op (.enqueueDma src (.remote (Dev.tc dev) dst (.dma sS) hsc) (.dma sR) hsrc hdst hsem) k) Q) := by
  subst hS; subst hR; subst hdev; subst hdm
  unfold sdTok ow sd grant
  rw [if_pos ht, if_pos ht, if_pos (Nat.succ_le_of_lt ht)]
  have hfree : (slotFree (nxt d c) kd d (sl (t + 1)) : sProp 𝕄) = freeV (nxt d c) (slotM kd d (sl (t + 1))).view :=
    (freeV_reshape (nxt d c) (slotV kd d (sl (t + 1))) squeezes_S1x128x512_S128x512.numel_eq).symm
  rw [hfree]
  unfold freeV heldV
  iintro ⟨#Hi, #HrS, ⟨HtS, HtR⟩, Hsrc, ⟨⟨%fd, Hdst⟩, #HrR⟩, HE, ⟨%W, HO⟩⟩ Hk
  iapply (Rounds.wp_send_pointsTo_with 𝒱₀ ER (ringRd Xs As) (c : Thread nD τ) none (c' := (nxt d c : Thread nD τ)) (src := src) (dst := slotM kd d (sl (t + 1)))
      (sS := .dma (semN kd d false (sl t))) (sem := .dma (semN kd d true (sl (t + 1)))) (q := q)
      (fs := src.view.rep (fun x => v (Shape.reshapeEquiv squeezes_S1x128x512_S128x512.numel_eq x)))
      (fd := fd) (F := E) (r₁ := t / 8) (r₂ := t / 8) (d₁ := 0) (d₂ := 0)
      (κ₁ := K (sndC kd d (sl t) c)) (κ₂ := K (rcvC kd d (sl (t + 1)) (nxt d c)))
      (by rw [duties_snd_t Xs As c kd d t ht]; exact Finset.mem_singleton_self _)
      (by have h := duties_rcv_i Xs As (nxt d c) kd d (t + 1) (by omega) (Nat.succ_le_of_lt ht)
          rw [Nat.add_sub_cancel] at h; rw [h]; exact Finset.mem_singleton_self _)
      (t + 1) 0 N (amt kd d _) (amount_dma Xs As c kd d false _ _ _) (amount_dma Xs As _ kd d true _ _ _) O rfl (W := W)
      (by rw [payload_snd]; exact hp1)
      (by have h := payload_rcv Xs As (nxt d c) kd d (t + 1) 0 (by omega)
          rw [Nat.add_sub_cancel] at h
          rw [h]
          refine (sep_mono_left (Entails.of_eq ?_)).trans hp2
          rw [View.read_rep]
          exact (heldV_of (nxt d c) (slotM kd d (sl (t + 1))).view fullShare _ _ (View.read_write_univ _ _)).trans
            (heldV_reshape (nxt d c) (slotV kd d (sl (t + 1))) fullShare squeezes_S1x128x512_S128x512.numel_eq v))) $$ [Hsrc Hdst HE HO HtS HtR]
  · isplitr; · iapply (inv_snd Xs As K c kd d (sl t)); iexact Hi
    isplitr; · iapply (inv_rcv Xs As K _ kd d (sl (t + 1))); iexact Hi
    isplitl [Hsrc]; · iexact Hsrc
    isplitl [Hdst HE]
    · isplitl [Hdst]; · iexact Hdst
      iexact HE
    isplitl [HO]; · iexact HO
    isplitl [HtS]; · iexact HtS
    isplitr; · iexact HrS
    isplitl [HtR]; · iexact HtR
    iexact HrR
  iintro ⟨HcS, HO⟩
  iapply Hk
  isplitl [HO]; · iexists W; iexact HO
  iexact HcS

end Cert.Proof.Ring

end
-- ==== Proof.Contents.lean ====
/-
  What the device computes: one block's contribution as a function of the two blocks present and of the device's own
  parameters, and from it the contents of the messages.
-/
module

public import proofs.«01_k».proof.Proof.Steps

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Reading a rectangle of a value -/

/-- The rectangle `r` of `w`. -/
def rd {s : Shape} (r : Rect s) (w : Vec F s .f32) : Vec F r.shape .f32 := fun x => w (r.emb x)

/-! ## One head -/

/-- Head `h` of batch `b` of a parameter block. -/
abbrev hr (b : Fin 2) (h : Fin 8) : Rect S2x8x128x64 := Rect.unit (s := S2x8x128x64) ![b.val, h.val, 0, 0] S1x1x128x64.size (by
  intro a; have := b.isLt; have := h.isLt
  match a with
  | ⟨0, _⟩ => show b.val + 1 ≤ 2; omega
  | ⟨1, _⟩ => show h.val + 1 ≤ 8; omega
  | ⟨2, _⟩ => show 0 + 128 ≤ 128; omega
  | ⟨3, _⟩ => show 0 + 64 ≤ 64; omega)

/-- The scaled scores of a head's queries against its keys. -/
def scores (q : FVec F S128x64 .f32) (k : Vec F S1x1x128x64 .f32) : FVec F S128x128 .f32 :=
  mulf (matmul dot_S128x64_S128x64_S128x128_1_1_0_0_n_n none q (shapeCast S128x64 k shapeCasts_S1x1x128x64_S128x64)
    (constant S128x128 .f32 0x00000000#32)) (broadcast S128x128 (Scalar.ofBits .f32 0x3E000000#32))

/-- A row reduced to one number, spread over the row again. -/
def rowMax (s : FVec F S128x128 .f32) : FVec F S128x128 .f32 :=
  broadcastTo S128x128 (shapeCast S128x1 (multiReduction .maximumf [1] S128 s 0xFF800000#32 reduces_S128x128_S128 (.inl rfl) rfl)
    shapeCasts_S128_S128x1) broadcasts_S128x1_S128x128
def rowSum (p : FVec F S128x128 .f32) : FVec F S128x128 .f32 :=
  broadcastTo S128x128 (shapeCast S128x1 (multiReduction .add [1] S128 p 0x00000000#32 reduces_S128x128_S128 (.inl rfl) rfl)
    shapeCasts_S128_S128x1) broadcasts_S128x1_S128x128

/-- The exponentials of the scores less their row's maximum. -/
def expo (s : FVec F S128x128 .f32) : FVec F S128x128 .f32 := exp (subf s (rowMax s))

/-- The weights applied to the values. -/
def head (q : FVec F S128x64 .f32) (k v : Vec F S1x1x128x64 .f32) : FVec F S128x64 .f32 :=
  matmul dot_S128x128_S128x64_S128x64_1_0_0_1_n_n none (divf (expo (scores q k)) (rowSum (expo (scores q k))))
    (shapeCast S128x64 v shapeCasts_S1x1x128x64_S128x64) (constant S128x64 .f32 0x00000000#32)

/-! ## One batch, and both -/

/-- The eight heads of one batch, side by side. -/
def heads (Q : FVec F S128x512 .f32) (k v : Fin 8 → Vec F S1x1x128x64 .f32) : FVec F S128x512 .f32 :=
  concatenate S128x512 1 [⟨S128x64, head (extractStridedSlice S128x64 ![0, 0] Q slices_S128x512_o0_0_S128x64) (k 0) (v 0)⟩,
    ⟨S128x64, head (extractStridedSlice S128x64 ![0, 64] Q slices_S128x512_o0_64_S128x64) (k 1) (v 1)⟩,
    ⟨S128x64, head (extractStridedSlice S128x64 ![0, 128] Q slices_S128x512_o0_128_S128x64) (k 2) (v 2)⟩,
    ⟨S128x64, head (extractStridedSlice S128x64 ![0, 192] Q slices_S128x512_o0_192_S128x64) (k 3) (v 3)⟩,
    ⟨S128x64, head (extractStridedSlice S128x64 ![0, 256] Q slices_S128x512_o0_256_S128x64) (k 4) (v 4)⟩,
    ⟨S128x64, head (extractStridedSlice S128x64 ![0, 320] Q slices_S128x512_o0_320_S128x64) (k 5) (v 5)⟩,
    ⟨S128x64, head (extractStridedSlice S128x64 ![0, 384] Q slices_S128x512_o0_384_S128x64) (k 6) (v 6)⟩,
    ⟨S128x64, head (extractStridedSlice S128x64 ![0, 448] Q slices_S128x512_o0_448_S128x64) (k 7) (v 7)⟩]
    concatenates_S128x64_S128x64_S128x64_S128x64_S128x64_S128x64_S128x64_S128x64_S128x512_d1

/-- The queries of both blocks. -/
def query (x0 x1 : Vec F S1x128x512 .f32) (wq : Vec F S512x512 .f32) : FVec F S256x512 .f32 :=
  matmul dot_S256x512_S512x512_S256x512_1_0_0_1_n_n none
    (concatenate S256x512 0 [⟨S128x512, shapeCast S128x512 x0 shapeCasts_S1x128x512_S128x512⟩, ⟨S128x512, shapeCast S128x512 x1 shapeCasts_S1x128x512_S128x512⟩]
      concatenates_S128x512_S128x512_S256x512_d0)
    (shapeCast S512x512 wq shapeCasts_S512x512_S512x512) (constant S256x512 .f32 0x00000000#32)

/-- A device's parameters. -/
structure Par (F : FTy → Type) where
  wq : Vec F S512x512 .f32
  wo : Vec F S512x512 .f32
  kt : Vec F S2x8x128x64 .f32
  vt : Vec F S2x8x128x64 .f32

/-- The parameters as loaded: a whole matrix, and a head of a block. -/
def ldW (w : Vec F S512x512 .f32) : Vec F S512x512 .f32 :=
  rd (Rect.unit (s := S512x512) ![0, 0] S512x512.size inb_S512x512_S512x512_0_0) w
def ldH (w : Vec F S2x8x128x64 .f32) (b : Fin 2) (h : Fin 8) : Vec F S1x1x128x64 .f32 := rd (hr b h) w

/-- Both batches' attention on the device's own keys and values. -/
def attend (p : Par F) (x0 x1 : Vec F S1x128x512 .f32) : FVec F S256x512 .f32 :=
  concatenate S256x512 0
    [⟨S128x512, heads (extractStridedSlice S128x512 ![0, 0] (query x0 x1 (ldW p.wq)) slices_S256x512_o0_0_S128x512) (ldH p.kt 0) (ldH p.vt 0)⟩,
     ⟨S128x512, heads (extractStridedSlice S128x512 ![128, 0] (query x0 x1 (ldW p.wq)) slices_S256x512_o128_0_S128x512) (ldH p.kt 1) (ldH p.vt 1)⟩]
    concatenates_S128x512_S128x512_S256x512_d0

/-- The device's contribution to each batch's output block. -/
def contrib (p : Par F) (x0 x1 : Vec F S1x128x512 .f32) : FVec F S256x512 .f32 :=
  matmul dot_S256x512_S512x512_S256x512_1_0_0_1_n_n none (attend p x0 x1) (shapeCast S512x512 (ldW p.wo) shapeCasts_S512x512_S512x512)
    (constant S256x512 .f32 0x00000000#32)
def part (d : Bool) (p : Par F) (x0 x1 : Vec F S1x128x512 .f32) : FVec F S128x512 .f32 :=
  if d then extractStridedSlice S128x512 ![128, 0] (contrib p x0 x1) slices_S256x512_o128_0_S128x512
  else extractStridedSlice S128x512 ![0, 0] (contrib p x0 x1) slices_S256x512_o0_0_S128x512

/-- The first contribution, and one more added. -/
def accFirst (d : Bool) (p : Par F) (x0 x1 : Vec F S1x128x512 .f32) : Blk F :=
  shapeCast S1x128x512 (part d p x0 x1) shapeCasts_S128x512_S1x128x512
def accNext (d : Bool) (p : Par F) (x0 x1 a : Vec F S1x128x512 .f32) : Blk F :=
  shapeCast S1x128x512 (addf (shapeCast S128x512 a shapeCasts_S1x128x512_S128x512) (part d p x0 x1)) shapeCasts_S128x512_S1x128x512

/-! ## The messages -/

/-- The rectangle of block `d` in the device's input. -/
abbrev xr (d : Bool) : Rect S2x128x512 :=
  if d then Rect.unit (s := S2x128x512) ![1, 0, 0] S1x128x512.size inb_S2x128x512_S1x128x512_1_0_0
  else Rect.unit (s := S2x128x512) ![0, 0, 0] S1x128x512.size inb_S2x128x512_S1x128x512_0_0_0

/-- The x message number `t` of device `c`: its own block, then what came in. -/
def xcs (x : Bool → Dev nD → Blk F) (d : Bool) (c : Dev nD) : ℕ → Blk F
  | 0 => x d c
  | t + 1 => xcs x d (nxt (!d) c) t

/-- The a message number `t` of device `c`. -/
def acs (x : Bool → Dev nD → Blk F) (p : Dev nD → Par F) (d : Bool) (c : Dev nD) : ℕ → Blk F
  | 0 => accFirst d (p c) (xcs x false c 0) (xcs x true c 0)
  | t + 1 => accNext d (p c) (xcs x false c (t + 1)) (xcs x true c (t + 1)) (acs x p d (nxt (!d) c) t)

/-- What the device writes out. -/
def outV (x : Bool → Dev nD → Blk F) (p : Dev nD → Par F) (d : Bool) (c : Dev nD) : Blk F :=
  shapeCast S1x128x512 (shapeCast S128x512 (acs x p d (nxt (!d) c) 31) shapeCasts_S1x128x512_S128x512) shapeCasts_S128x512_S1x128x512

end Cert.Proof.Ring

end
-- ==== Proof.Mem.lean ====
/-
  Loads and stores over views held at a value.
-/
module

public import proofs.«01_k».proof.Proof.Contents

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Loads and stores -/

section
variable {s : Shape} (c : Dev nD) (m : Memref sig .tc .vmem s .f32) (r : Rect s) {α : Type}

/-- A load inside a held memref. -/
theorem load_in {hl : m.view.LoadsAt r.toLoadRect} {k : (r.shape.Idx → Elt F .f32) → Prog (TpuEff nD τ sig (Elt F) Λ₀ .tc) α} {Q : α → sProp 𝕄} (q : PosShare TreeShare) (w : Vec F s .f32) :
    (heldV c m.view q w : sProp 𝕄) ⊢ iprop((heldV c m.view q w -∗ (wp frame (wpE (defs₀ (F := F)) 𝒱₀ ((c : Dev nD) : Thread nD τ) none) Set.univ) (k (rd r w)) Q) -∗ (wp frame (wpE (defs₀ (F := F)) 𝒱₀ ((c : Dev nD) : Thread nD τ) none) Set.univ) (.op (.load m r.toLoadRect hl) k) Q) := by
  unfold heldV
  have e : (m.access r).read (Elt F) (m.view.rep w) = rd r w := by
    have := View.read_rep (Val := Elt F) m.view w
    funext x; exact congrFun this (r.emb x)
  have h := wp_load_rect (defs := defs₀ (F := F)) (Γ := .empty) 𝒱₀ (c : Thread nD τ) none Set.univ (m := m) (r := r) (hl := hl) (k := k) (Q := Q) (S := m.view.set) (q := q)
    (f := m.view.rep w) (by show (m.view.slice r).set ⊆ _; exact View.set_slice_subset _ _)
  rw [e] at h
  exact h

/-- A load of exactly what is held. -/
theorem load_at {hl : m.view.LoadsAt r.toLoadRect} {k : (r.shape.Idx → Elt F .f32) → Prog (TpuEff nD τ sig (Elt F) Λ₀ .tc) α} {Q : α → sProp 𝕄} (q : PosShare TreeShare) (w : Vec F r.shape .f32) :
    (heldV c (m.access r) q w : sProp 𝕄) ⊢ iprop((heldV c (m.access r) q w -∗ (wp frame (wpE (defs₀ (F := F)) 𝒱₀ ((c : Dev nD) : Thread nD τ) none) Set.univ) (k w) Q) -∗ (wp frame (wpE (defs₀ (F := F)) 𝒱₀ ((c : Dev nD) : Thread nD τ) none) Set.univ) (.op (.load m r.toLoadRect hl) k) Q) := by
  unfold heldV
  have h := wp_load_rect (defs := defs₀ (F := F)) (Γ := .empty) 𝒱₀ (c : Thread nD τ) none Set.univ (m := m) (r := r) (hl := hl) (k := k) (Q := Q) (S := (m.access r).set) (q := q)
    (f := (m.access r).rep w) (Finset.Subset.refl _)
  rw [View.read_rep] at h
  exact h

/-- A store over what is free. -/
theorem store_at {v : Vec F r.shape .f32} {hx : (m.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (freeV c (m.access r) : sProp 𝕄) ⊢ iprop((heldV c (m.access r) fullShare v -∗ (wp frame (wpE (defs₀ (F := F)) 𝒱₀ ((c : Dev nD) : Thread nD τ) none) Set.univ) (k ⟨⟩) Q)
      -∗ (wp frame (wpE (defs₀ (F := F)) 𝒱₀ ((c : Dev nD) : Thread nD τ) none) Set.univ) (.op (.store m r v Finset.univ hx hm) k) Q) := by
  unfold freeV
  iintro ⟨%f, H⟩
  have h := wp_store (defs := defs₀ (F := F)) (Γ := .empty) 𝒱₀ (c : Thread nD τ) none Set.univ (m := m) (r := r) (w := v) (Mk := Finset.univ) (hx := hx) (hm := hm) (k := k) (Q := Q)
    (S := (m.access r).set) (f := f) (by rw [View.setOn_univ])
  rw [heldV_of c (m.access r) fullShare _ v (View.read_write_univ _ _)] at h
  iapply h; iexact H
end

section
variable (c : Dev nD) (kd d : Bool) (j : Fin 8) {off : Fin 3 → ℕ} {α : Type}

/-- A load of a slot. -/
theorem load_slot (hoff : off = ![j.val, 0, 0]) {inb : ∀ a, off a + S1x128x512.size a ≤ S8x128x512.size a}
    {hl : (bufM kd d).view.LoadsAt (Rect.unit (s := S8x128x512) off S1x128x512.size inb).toLoadRect}
    {k : (S1x128x512.Idx → Elt F .f32) → Prog (TpuEff nD τ sig (Elt F) Λ₀ .tc) α} {Q : α → sProp 𝕄} (q : PosShare TreeShare) (w : Blk F) :
    (slotAt c kd d j q w : sProp 𝕄)
      ⊢ iprop((slotAt c kd d j q w -∗ (wp frame (wpE (defs₀ (F := F)) 𝒱₀ ((c : Dev nD) : Thread nD τ) none) Set.univ) (k w) Q) -∗ (wp frame (wpE (defs₀ (F := F)) 𝒱₀ ((c : Dev nD) : Thread nD τ) none) Set.univ) (.op (.load (bufM kd d) (Rect.unit (s := S8x128x512) off S1x128x512.size inb).toLoadRect hl) k) Q) := by
  subst hoff
  exact load_at c (bufM kd d) (slotR j) q w

/-- A store into a slot. -/
theorem store_slot (hoff : off = ![j.val, 0, 0]) {inb : ∀ a, off a + S1x128x512.size a ≤ S8x128x512.size a} {v : Blk F}
    {hx : ((bufM kd d).access (Rect.unit (s := S8x128x512) off S1x128x512.size inb)).Stores Finset.univ}
    {hm : (Finset.univ : Finset S1x128x512.Idx) = Finset.univ ∨ ∀ a, (Rect.unit (s := S8x128x512) off S1x128x512.size inb).stride a = 1}
    {k : PUnit → Prog (TpuEff nD τ sig (Elt F) Λ₀ .tc) α} {Q : α → sProp 𝕄} :
    (slotFree c kd d j : sProp 𝕄)
      ⊢ iprop((slotAt c kd d j fullShare v -∗ (wp frame (wpE (defs₀ (F := F)) 𝒱₀ ((c : Dev nD) : Thread nD τ) none) Set.univ) (k ⟨⟩) Q)
        -∗ (wp frame (wpE (defs₀ (F := F)) 𝒱₀ ((c : Dev nD) : Thread nD τ) none) Set.univ) (.op (.store (bufM kd d) (Rect.unit (s := S8x128x512) off S1x128x512.size inb) v Finset.univ hx hm) k) Q) := by
  subst hoff
  exact store_at c (bufM kd d) (slotR j)

/-- A load of a free slot, whose value nothing reads. -/
theorem load_free (hoff : off = ![j.val, 0, 0]) {inb : ∀ a, off a + S1x128x512.size a ≤ S8x128x512.size a}
    {hl : (bufM kd d).view.LoadsAt (Rect.unit (s := S8x128x512) off S1x128x512.size inb).toLoadRect}
    {k : (S1x128x512.Idx → Elt F .f32) → Prog (TpuEff nD τ sig (Elt F) Λ₀ .tc) α} {Q : α → sProp 𝕄} :
    (slotFree c kd d j : sProp 𝕄)
      ⊢ iprop((∀ w, slotFree c kd d j -∗ (wp frame (wpE (defs₀ (F := F)) 𝒱₀ ((c : Dev nD) : Thread nD τ) none) Set.univ) (k w) Q) -∗ (wp frame (wpE (defs₀ (F := F)) 𝒱₀ ((c : Dev nD) : Thread nD τ) none) Set.univ) (.op (.load (bufM kd d) (Rect.unit (s := S8x128x512) off S1x128x512.size inb).toLoadRect hl) k) Q) := by
  refine (freeV_held c _).trans ?_
  iintro ⟨%w, H⟩ Hk
  iapply (load_slot c kd d j hoff fullShare w) $$ H
  iintro H
  iapply Hk
  iapply (freeV_of_heldV c _ w); iexact H
end

end Cert.Proof.Ring

end
-- ==== Proof.Parts.lean ====
/-
  The stretches of the body that only load parameters and compute.
-/
module

public import proofs.«01_k».proof.Proof.Mem

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The device's parameters, staged. -/
def ro (c : Dev nD) (p : Par F) : sProp 𝕄 :=
  iprop(heldV c (Memref.whole cc0_stg1_0 : Memref sig .tc .vmem S512x512 .f32).view fullShare p.wq
    ∗ heldV c (Memref.whole cc0_stg2_0 : Memref sig .tc .vmem S512x512 .f32).view fullShare p.wo
    ∗ heldV c (Memref.whole cc0_stg3_0 : Memref sig .tc .vmem S2x8x128x64 .f32).view fullShare p.kt
    ∗ heldV c (Memref.whole cc0_stg4_0 : Memref sig .tc .vmem S2x8x128x64 .f32).view fullShare p.vt)

variable (c : Dev nD) (p : Par F)

theorem part4_run (v501 : FVec F S128x512 .f32) (v512 : FVec F S128x128 .f32) (v515 : FVec F S128x128 .f32) {Q : _ → sProp 𝕄} :
    iprop(ro c p ∗ (ro c p -∗ Q ⟨k0_pay6 v512 v515 (ldH p.vt 0 0), k0_pay7 v501 (ldH p.kt 0 1) (ldH p.vt 0 1), k0_pay8 v501 (ldH p.kt 0 2), k0_pay9 v501 (ldH p.kt 0 2)⟩))
      ⊢ (wp frame (wpE (defs₀ (F := F)) 𝒱₀ ((c : Dev nD) : Thread nD τ) none) Set.univ) (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 v501 v512 v515) Q := by
  rw [k0_part4_eq_skeleton]
  have e : Q ⟨k0_pay6 v512 v515 (ldH p.vt 0 0), k0_pay7 v501 (ldH p.kt 0 1) (ldH p.vt 0 1), k0_pay8 v501 (ldH p.kt 0 2), k0_pay9 v501 (ldH p.kt 0 2)⟩ = Q ⟨k0_pay6 v512 v515 (rd (Rect.unit (s := S2x8x128x64) ![0, 0, 0, 0] S1x1x128x64.size inb_S2x8x128x64_S1x1x128x64_0_0_0_0) p.vt), k0_pay7 v501 (rd (Rect.unit (s := S2x8x128x64) ![0, 1, 0, 0] S1x1x128x64.size inb_S2x8x128x64_S1x1x128x64_0_1_0_0) p.kt) (rd (Rect.unit (s := S2x8x128x64) ![0, 1, 0, 0] S1x1x128x64.size inb_S2x8x128x64_S1x1x128x64_0_1_0_0) p.vt), k0_pay8 v501 (rd (Rect.unit (s := S2x8x128x64) ![0, 2, 0, 0] S1x1x128x64.size inb_S2x8x128x64_S1x1x128x64_0_2_0_0) p.kt), k0_pay9 v501 (rd (Rect.unit (s := S2x8x128x64) ![0, 2, 0, 0] S1x1x128x64.size inb_S2x8x128x64_S1x1x128x64_0_2_0_0) p.kt)⟩ := rfl
  rw [e]
  unfold ro
  iintro ⟨⟨H1, H2, H3, H4⟩, Hk⟩
  iapply (load_in c (Memref.whole cc0_stg4_0) _ fullShare p.vt) $$ H4; iintro H4
  iapply (load_in c (Memref.whole cc0_stg3_0) _ fullShare p.kt) $$ H3; iintro H3
  iapply (load_in c (Memref.whole cc0_stg4_0) _ fullShare p.vt) $$ H4; iintro H4
  iapply (load_in c (Memref.whole cc0_stg3_0) _ fullShare p.kt) $$ H3; iintro H3
  iapply (le_wp_ret _ _ _ _ Q)
  iapply Hk
  isplitl [H1]; · iexact H1
  isplitl [H2]; · iexact H2
  isplitl [H3]; · iexact H3
  iexact H4

theorem part5_run (v501 : FVec F S128x512 .f32) (v548 : FVec F S128x128 .f32) (v549 : FVec F S128 .f32) {Q : _ → sProp 𝕄} :
    iprop(ro c p ∗ (ro c p -∗ Q ⟨k0_pay10 v548 v549 (ldH p.vt 0 2), k0_pay11 v501 (ldH p.kt 0 3) (ldH p.vt 0 3), k0_pay12 v501 (ldH p.kt 0 4)⟩))
      ⊢ (wp frame (wpE (defs₀ (F := F)) 𝒱₀ ((c : Dev nD) : Thread nD τ) none) Set.univ) (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 v501 v548 v549) Q := by
  rw [k0_part5_eq_skeleton]
  have e : Q ⟨k0_pay10 v548 v549 (ldH p.vt 0 2), k0_pay11 v501 (ldH p.kt 0 3) (ldH p.vt 0 3), k0_pay12 v501 (ldH p.kt 0 4)⟩ = Q ⟨k0_pay10 v548 v549 (rd (Rect.unit (s := S2x8x128x64) ![0, 2, 0, 0] S1x1x128x64.size inb_S2x8x128x64_S1x1x128x64_0_2_0_0) p.vt), k0_pay11 v501 (rd (Rect.unit (s := S2x8x128x64) ![0, 3, 0, 0] S1x1x128x64.size inb_S2x8x128x64_S1x1x128x64_0_3_0_0) p.kt) (rd (Rect.unit (s := S2x8x128x64) ![0, 3, 0, 0] S1x1x128x64.size inb_S2x8x128x64_S1x1x128x64_0_3_0_0) p.vt), k0_pay12 v501 (rd (Rect.unit (s := S2x8x128x64) ![0, 4, 0, 0] S1x1x128x64.size inb_S2x8x128x64_S1x1x128x64_0_4_0_0) p.kt)⟩ := rfl
  rw [e]
  unfold ro
  iintro ⟨⟨H1, H2, H3, H4⟩, Hk⟩
  iapply (load_in c (Memref.whole cc0_stg4_0) _ fullShare p.vt) $$ H4; iintro H4
  iapply (load_in c (Memref.whole cc0_stg3_0) _ fullShare p.kt) $$ H3; iintro H3
  iapply (load_in c (Memref.whole cc0_stg4_0) _ fullShare p.vt) $$ H4; iintro H4
  iapply (load_in c (Memref.whole cc0_stg3_0) _ fullShare p.kt) $$ H3; iintro H3
  iapply (le_wp_ret _ _ _ _ Q)
  iapply Hk
  isplitl [H1]; · iexact H1
  isplitl [H2]; · iexact H2
  isplitl [H3]; · iexact H3
  iexact H4

theorem part6_run (v501 : FVec F S128x512 .f32) (v584 : FVec F S128x128 .f32) {Q : _ → sProp 𝕄} :
    iprop(ro c p ∗ (ro c p -∗ Q ⟨k0_pay13 v584 (ldH p.vt 0 4), k0_pay14 v501 (ldH p.kt 0 5) (ldH p.vt 0 5), k0_pay15 v501 (ldH p.kt 0 6), k0_pay16 v501 (ldH p.kt 0 6)⟩))
      ⊢ (wp frame (wpE (defs₀ (F := F)) 𝒱₀ ((c : Dev nD) : Thread nD τ) none) Set.univ) (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 v501 v584) Q := by
  rw [k0_part6_eq_skeleton]
  have e : Q ⟨k0_pay13 v584 (ldH p.vt 0 4), k0_pay14 v501 (ldH p.kt 0 5) (ldH p.vt 0 5), k0_pay15 v501 (ldH p.kt 0 6), k0_pay16 v501 (ldH p.kt 0 6)⟩ = Q ⟨k0_pay13 v584 (rd (Rect.unit (s := S2x8x128x64) ![0, 4, 0, 0] S1x1x128x64.size inb_S2x8x128x64_S1x1x128x64_0_4_0_0) p.vt), k0_pay14 v501 (rd (Rect.unit (s := S2x8x128x64) ![0, 5, 0, 0] S1x1x128x64.size inb_S2x8x128x64_S1x1x128x64_0_5_0_0) p.kt) (rd (Rect.unit (s := S2x8x128x64) ![0, 5, 0, 0] S1x1x128x64.size inb_S2x8x128x64_S1x1x128x64_0_5_0_0) p.vt), k0_pay15 v501 (rd (Rect.unit (s := S2x8x128x64) ![0, 6, 0, 0] S1x1x128x64.size inb_S2x8x128x64_S1x1x128x64_0_6_0_0) p.kt), k0_pay16 v501 (rd (Rect.unit (s := S2x8x128x64) ![0, 6, 0, 0] S1x1x128x64.size inb_S2x8x128x64_S1x1x128x64_0_6_0_0) p.kt)⟩ := rfl
  rw [e]
  unfold ro
  iintro ⟨⟨H1, H2, H3, H4⟩, Hk⟩
  iapply (load_in c (Memref.whole cc0_stg4_0) _ fullShare p.vt) $$ H4; iintro H4
  iapply (load_in c (Memref.whole cc0_stg3_0) _ fullShare p.kt) $$ H3; iintro H3
  iapply (load_in c (Memref.whole cc0_stg4_0) _ fullShare p.vt) $$ H4; iintro H4
  iapply (load_in c (Memref.whole cc0_stg3_0) _ fullShare p.kt) $$ H3; iintro H3
  iapply (le_wp_ret _ _ _ _ Q)
  iapply Hk
  isplitl [H1]; · iexact H1
  isplitl [H2]; · iexact H2
  isplitl [H3]; · iexact H3
  iexact H4

theorem part7_run (v500 : FVec F S256x512 .f32) (v501 : FVec F S128x512 .f32) (v519 : FVec F S128x64 .f32) (v537 : FVec F S128x64 .f32) (v555 : FVec F S128x64 .f32) (v573 : FVec F S128x64 .f32) (v591 : FVec F S128x64 .f32) (v609 : FVec F S128x64 .f32) (v615 : FVec F S128x128 .f32) (v618 : FVec F S128x128 .f32) {Q : _ → sProp 𝕄} :
    iprop(ro c p ∗ (ro c p -∗ Q ⟨k0_pay17 v501 v519 v537 v555 v573 v591 v609 v615 v618 (ldH p.vt 0 6) (ldH p.kt 0 7) (ldH p.vt 0 7), k0_pay18 v500, k0_pay19 v500 (ldH p.kt 1 0)⟩))
      ⊢ (wp frame (wpE (defs₀ (F := F)) 𝒱₀ ((c : Dev nD) : Thread nD τ) none) Set.univ) (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 v500 v501 v519 v537 v555 v573 v591 v609 v615 v618) Q := by
  rw [k0_part7_eq_skeleton]
  have e : Q ⟨k0_pay17 v501 v519 v537 v555 v573 v591 v609 v615 v618 (ldH p.vt 0 6) (ldH p.kt 0 7) (ldH p.vt 0 7), k0_pay18 v500, k0_pay19 v500 (ldH p.kt 1 0)⟩ = Q ⟨k0_pay17 v501 v519 v537 v555 v573 v591 v609 v615 v618 (rd (Rect.unit (s := S2x8x128x64) ![0, 6, 0, 0] S1x1x128x64.size inb_S2x8x128x64_S1x1x128x64_0_6_0_0) p.vt) (rd (Rect.unit (s := S2x8x128x64) ![0, 7, 0, 0] S1x1x128x64.size inb_S2x8x128x64_S1x1x128x64_0_7_0_0) p.kt) (rd (Rect.unit (s := S2x8x128x64) ![0, 7, 0, 0] S1x1x128x64.size inb_S2x8x128x64_S1x1x128x64_0_7_0_0) p.vt), k0_pay18 v500, k0_pay19 v500 (rd (Rect.unit (s := S2x8x128x64) ![1, 0, 0, 0] S1x1x128x64.size inb_S2x8x128x64_S1x1x128x64_1_0_0_0) p.kt)⟩ := rfl
  rw [e]
  unfold ro
  iintro ⟨⟨H1, H2, H3, H4⟩, Hk⟩
  iapply (load_in c (Memref.whole cc0_stg4_0) _ fullShare p.vt) $$ H4; iintro H4
  iapply (load_in c (Memref.whole cc0_stg3_0) _ fullShare p.kt) $$ H3; iintro H3
  iapply (load_in c (Memref.whole cc0_stg4_0) _ fullShare p.vt) $$ H4; iintro H4
  iapply (load_in c (Memref.whole cc0_stg3_0) _ fullShare p.kt) $$ H3; iintro H3
  iapply (le_wp_ret _ _ _ _ Q)
  iapply Hk
  isplitl [H1]; · iexact H1
  isplitl [H2]; · iexact H2
  isplitl [H3]; · iexact H3
  iexact H4

theorem part8_run (v647 : FVec F S128x512 .f32) (v653 : FVec F S128x128 .f32) {Q : _ → sProp 𝕄} :
    iprop(ro c p ∗ (ro c p -∗ Q ⟨k0_pay20 v653 (ldH p.vt 1 0), k0_pay21 v647 (ldH p.kt 1 1) (ldH p.vt 1 1), k0_pay22 v647 (ldH p.kt 1 2), (Scalar.ofBits .f32 0x3E000000#32)⟩))
      ⊢ (wp frame (wpE (defs₀ (F := F)) 𝒱₀ ((c : Dev nD) : Thread nD τ) none) Set.univ) (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 v647 v653) Q := by
  rw [k0_part8_eq_skeleton]
  have e : Q ⟨k0_pay20 v653 (ldH p.vt 1 0), k0_pay21 v647 (ldH p.kt 1 1) (ldH p.vt 1 1), k0_pay22 v647 (ldH p.kt 1 2), (Scalar.ofBits .f32 0x3E000000#32)⟩ = Q ⟨k0_pay20 v653 (rd (Rect.unit (s := S2x8x128x64) ![1, 0, 0, 0] S1x1x128x64.size inb_S2x8x128x64_S1x1x128x64_1_0_0_0) p.vt), k0_pay21 v647 (rd (Rect.unit (s := S2x8x128x64) ![1, 1, 0, 0] S1x1x128x64.size inb_S2x8x128x64_S1x1x128x64_1_1_0_0) p.kt) (rd (Rect.unit (s := S2x8x128x64) ![1, 1, 0, 0] S1x1x128x64.size inb_S2x8x128x64_S1x1x128x64_1_1_0_0) p.vt), k0_pay22 v647 (rd (Rect.unit (s := S2x8x128x64) ![1, 2, 0, 0] S1x1x128x64.size inb_S2x8x128x64_S1x1x128x64_1_2_0_0) p.kt), (Scalar.ofBits .f32 0x3E000000#32)⟩ := rfl
  rw [e]
  unfold ro
  iintro ⟨⟨H1, H2, H3, H4⟩, Hk⟩
  iapply (load_in c (Memref.whole cc0_stg4_0) _ fullShare p.vt) $$ H4; iintro H4
  iapply (load_in c (Memref.whole cc0_stg3_0) _ fullShare p.kt) $$ H3; iintro H3
  iapply (load_in c (Memref.whole cc0_stg4_0) _ fullShare p.vt) $$ H4; iintro H4
  iapply (load_in c (Memref.whole cc0_stg3_0) _ fullShare p.kt) $$ H3; iintro H3
  iapply (le_wp_ret _ _ _ _ Q)
  iapply Hk
  isplitl [H1]; · iexact H1
  isplitl [H2]; · iexact H2
  isplitl [H3]; · iexact H3
  iexact H4

theorem part9_run (v647 : FVec F S128x512 .f32) (v687 : FVec F S128x128 .f32) (cst_528 : F .f32) {Q : _ → sProp 𝕄} :
    iprop(ro c p ∗ (ro c p -∗ Q ⟨k0_pay23 v687 cst_528 (ldH p.vt 1 2), k0_pay24 v647 (ldH p.kt 1 3) (ldH p.vt 1 3), k0_pay25 v647, k0_pay26 (ldH p.kt 1 4), (constant S128x128 .f32 0x00000000#32)⟩))
      ⊢ (wp frame (wpE (defs₀ (F := F)) 𝒱₀ ((c : Dev nD) : Thread nD τ) none) Set.univ) (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 v647 v687 cst_528) Q := by
  rw [k0_part9_eq_skeleton]
  have e : Q ⟨k0_pay23 v687 cst_528 (ldH p.vt 1 2), k0_pay24 v647 (ldH p.kt 1 3) (ldH p.vt 1 3), k0_pay25 v647, k0_pay26 (ldH p.kt 1 4), (constant S128x128 .f32 0x00000000#32)⟩ = Q ⟨k0_pay23 v687 cst_528 (rd (Rect.unit (s := S2x8x128x64) ![1, 2, 0, 0] S1x1x128x64.size inb_S2x8x128x64_S1x1x128x64_1_2_0_0) p.vt), k0_pay24 v647 (rd (Rect.unit (s := S2x8x128x64) ![1, 3, 0, 0] S1x1x128x64.size inb_S2x8x128x64_S1x1x128x64_1_3_0_0) p.kt) (rd (Rect.unit (s := S2x8x128x64) ![1, 3, 0, 0] S1x1x128x64.size inb_S2x8x128x64_S1x1x128x64_1_3_0_0) p.vt), k0_pay25 v647, k0_pay26 (rd (Rect.unit (s := S2x8x128x64) ![1, 4, 0, 0] S1x1x128x64.size inb_S2x8x128x64_S1x1x128x64_1_4_0_0) p.kt), (constant S128x128 .f32 0x00000000#32)⟩ := rfl
  rw [e]
  unfold ro
  iintro ⟨⟨H1, H2, H3, H4⟩, Hk⟩
  iapply (load_in c (Memref.whole cc0_stg4_0) _ fullShare p.vt) $$ H4; iintro H4
  iapply (load_in c (Memref.whole cc0_stg3_0) _ fullShare p.kt) $$ H3; iintro H3
  iapply (load_in c (Memref.whole cc0_stg4_0) _ fullShare p.vt) $$ H4; iintro H4
  iapply (load_in c (Memref.whole cc0_stg3_0) _ fullShare p.kt) $$ H3; iintro H3
  iapply (le_wp_ret _ _ _ _ Q)
  iapply Hk
  isplitl [H1]; · iexact H1
  isplitl [H2]; · iexact H2
  isplitl [H3]; · iexact H3
  iexact H4

theorem part10_run (v647 : FVec F S128x512 .f32) (v720 : FVec F S128x64 .f32) (v722 : FVec F S128x64 .f32) (cst_553 : FVec F S128x128 .f32) {Q : _ → sProp 𝕄} :
    iprop(ro c p ∗ (ro c p -∗ Q ⟨k0_pay27 v720 v722 cst_553 (ldH p.vt 1 4), k0_pay28 v647 (ldH p.kt 1 5) (ldH p.vt 1 5), k0_pay29 v647, (ldH p.kt 1 6)⟩))
      ⊢ (wp frame (wpE (defs₀ (F := F)) 𝒱₀ ((c : Dev nD) : Thread nD τ) none) Set.univ) (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 v647 v720 v722 cst_553) Q := by
  rw [k0_part10_eq_skeleton]
  have e : Q ⟨k0_pay27 v720 v722 cst_553 (ldH p.vt 1 4), k0_pay28 v647 (ldH p.kt 1 5) (ldH p.vt 1 5), k0_pay29 v647, (ldH p.kt 1 6)⟩ = Q ⟨k0_pay27 v720 v722 cst_553 (rd (Rect.unit (s := S2x8x128x64) ![1, 4, 0, 0] S1x1x128x64.size inb_S2x8x128x64_S1x1x128x64_1_4_0_0) p.vt), k0_pay28 v647 (rd (Rect.unit (s := S2x8x128x64) ![1, 5, 0, 0] S1x1x128x64.size inb_S2x8x128x64_S1x1x128x64_1_5_0_0) p.kt) (rd (Rect.unit (s := S2x8x128x64) ![1, 5, 0, 0] S1x1x128x64.size inb_S2x8x128x64_S1x1x128x64_1_5_0_0) p.vt), k0_pay29 v647, (rd (Rect.unit (s := S2x8x128x64) ![1, 6, 0, 0] S1x1x128x64.size inb_S2x8x128x64_S1x1x128x64_1_6_0_0) p.kt)⟩ := rfl
  rw [e]
  unfold ro
  iintro ⟨⟨H1, H2, H3, H4⟩, Hk⟩
  iapply (load_in c (Memref.whole cc0_stg4_0) _ fullShare p.vt) $$ H4; iintro H4
  iapply (load_in c (Memref.whole cc0_stg3_0) _ fullShare p.kt) $$ H3; iintro H3
  iapply (load_in c (Memref.whole cc0_stg4_0) _ fullShare p.vt) $$ H4; iintro H4
  iapply (load_in c (Memref.whole cc0_stg3_0) _ fullShare p.kt) $$ H3; iintro H3
  iapply (le_wp_ret _ _ _ _ Q)
  iapply Hk
  isplitl [H1]; · iexact H1
  isplitl [H2]; · iexact H2
  isplitl [H3]; · iexact H3
  iexact H4

theorem part11_run (v646 : FVec F S128x512 .f32) (v647 : FVec F S128x512 .f32) (v665 : FVec F S128x64 .f32) (v683 : FVec F S128x64 .f32) (v701 : FVec F S128x64 .f32) (v719 : FVec F S128x64 .f32) (v737 : FVec F S128x64 .f32) (v755 : FVec F S128x64 .f32) (v756 : FVec F S128x64 .f32) (v757 : Vec F S1x1x128x64 .f32) {Q : _ → sProp 𝕄} :
    iprop(ro c p ∗ (ro c p -∗ Q (k0_pay30 v646 v647 v665 v683 v701 v719 v737 v755 v756 v757 (ldH p.vt 1 6) (ldH p.kt 1 7) (ldH p.vt 1 7))))
      ⊢ (wp frame (wpE (defs₀ (F := F)) 𝒱₀ ((c : Dev nD) : Thread nD τ) none) Set.univ) (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 v646 v647 v665 v683 v701 v719 v737 v755 v756 v757) Q := by
  rw [k0_part11_eq_skeleton]
  have e : Q (k0_pay30 v646 v647 v665 v683 v701 v719 v737 v755 v756 v757 (ldH p.vt 1 6) (ldH p.kt 1 7) (ldH p.vt 1 7)) = Q (k0_pay30 v646 v647 v665 v683 v701 v719 v737 v755 v756 v757 (rd (Rect.unit (s := S2x8x128x64) ![1, 6, 0, 0] S1x1x128x64.size inb_S2x8x128x64_S1x1x128x64_1_6_0_0) p.vt) (rd (Rect.unit (s := S2x8x128x64) ![1, 7, 0, 0] S1x1x128x64.size inb_S2x8x128x64_S1x1x128x64_1_7_0_0) p.kt) (rd (Rect.unit (s := S2x8x128x64) ![1, 7, 0, 0] S1x1x128x64.size inb_S2x8x128x64_S1x1x128x64_1_7_0_0) p.vt)) := rfl
  rw [e]
  unfold ro
  iintro ⟨⟨H1, H2, H3, H4⟩, Hk⟩
  iapply (load_in c (Memref.whole cc0_stg4_0) _ fullShare p.vt) $$ H4; iintro H4
  iapply (load_in c (Memref.whole cc0_stg3_0) _ fullShare p.kt) $$ H3; iintro H3
  iapply (load_in c (Memref.whole cc0_stg4_0) _ fullShare p.vt) $$ H4; iintro H4
  iapply (le_wp_ret _ _ _ _ Q)
  iapply Hk
  isplitl [H1]; · iexact H1
  isplitl [H2]; · iexact H2
  isplitl [H3]; · iexact H3
  iexact H4

theorem part16_run (v47 : FVec F S128x512 .f32) (v53 : FVec F S128x128 .f32) (v56 : FVec F S128x128 .f32) {Q : _ → sProp 𝕄} :
    iprop(ro c p ∗ (ro c p -∗ Q ⟨k0_pay39 v53 v56 (ldH p.vt 0 0), k0_pay40 v47 (ldH p.kt 0 1) (ldH p.vt 0 1), k0_pay41 v47 (ldH p.kt 0 2), k0_pay42 v47 (ldH p.kt 0 2)⟩))
      ⊢ (wp frame (wpE (defs₀ (F := F)) 𝒱₀ ((c : Dev nD) : Thread nD τ) none) Set.univ) (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 v47 v53 v56) Q := by
  rw [k0_part16_eq_skeleton]
  have e : Q ⟨k0_pay39 v53 v56 (ldH p.vt 0 0), k0_pay40 v47 (ldH p.kt 0 1) (ldH p.vt 0 1), k0_pay41 v47 (ldH p.kt 0 2), k0_pay42 v47 (ldH p.kt 0 2)⟩ = Q ⟨k0_pay39 v53 v56 (rd (Rect.unit (s := S2x8x128x64) ![0, 0, 0, 0] S1x1x128x64.size inb_S2x8x128x64_S1x1x128x64_0_0_0_0) p.vt), k0_pay40 v47 (rd (Rect.unit (s := S2x8x128x64) ![0, 1, 0, 0] S1x1x128x64.size inb_S2x8x128x64_S1x1x128x64_0_1_0_0) p.kt) (rd (Rect.unit (s := S2x8x128x64) ![0, 1, 0, 0] S1x1x128x64.size inb_S2x8x128x64_S1x1x128x64_0_1_0_0) p.vt), k0_pay41 v47 (rd (Rect.unit (s := S2x8x128x64) ![0, 2, 0, 0] S1x1x128x64.size inb_S2x8x128x64_S1x1x128x64_0_2_0_0) p.kt), k0_pay42 v47 (rd (Rect.unit (s := S2x8x128x64) ![0, 2, 0, 0] S1x1x128x64.size inb_S2x8x128x64_S1x1x128x64_0_2_0_0) p.kt)⟩ := rfl
  rw [e]
  unfold ro
  iintro ⟨⟨H1, H2, H3, H4⟩, Hk⟩
  iapply (load_in c (Memref.whole cc0_stg4_0) _ fullShare p.vt) $$ H4; iintro H4
  iapply (load_in c (Memref.whole cc0_stg3_0) _ fullShare p.kt) $$ H3; iintro H3
  iapply (load_in c (Memref.whole cc0_stg4_0) _ fullShare p.vt) $$ H4; iintro H4
  iapply (load_in c (Memref.whole cc0_stg3_0) _ fullShare p.kt) $$ H3; iintro H3
  iapply (le_wp_ret _ _ _ _ Q)
  iapply Hk
  isplitl [H1]; · iexact H1
  isplitl [H2]; · iexact H2
  isplitl [H3]; · iexact H3
  iexact H4

theorem part17_run (v47 : FVec F S128x512 .f32) (v89 : FVec F S128x128 .f32) (v90 : FVec F S128 .f32) {Q : _ → sProp 𝕄} :
    iprop(ro c p ∗ (ro c p -∗ Q ⟨k0_pay43 v89 v90 (ldH p.vt 0 2), k0_pay44 v47 (ldH p.kt 0 3) (ldH p.vt 0 3), k0_pay45 v47 (ldH p.kt 0 4)⟩))
      ⊢ (wp frame (wpE (defs₀ (F := F)) 𝒱₀ ((c : Dev nD) : Thread nD τ) none) Set.univ) (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 v47 v89 v90) Q := by
  rw [k0_part17_eq_skeleton]
  have e : Q ⟨k0_pay43 v89 v90 (ldH p.vt 0 2), k0_pay44 v47 (ldH p.kt 0 3) (ldH p.vt 0 3), k0_pay45 v47 (ldH p.kt 0 4)⟩ = Q ⟨k0_pay43 v89 v90 (rd (Rect.unit (s := S2x8x128x64) ![0, 2, 0, 0] S1x1x128x64.size inb_S2x8x128x64_S1x1x128x64_0_2_0_0) p.vt), k0_pay44 v47 (rd (Rect.unit (s := S2x8x128x64) ![0, 3, 0, 0] S1x1x128x64.size inb_S2x8x128x64_S1x1x128x64_0_3_0_0) p.kt) (rd (Rect.unit (s := S2x8x128x64) ![0, 3, 0, 0] S1x1x128x64.size inb_S2x8x128x64_S1x1x128x64_0_3_0_0) p.vt), k0_pay45 v47 (rd (Rect.unit (s := S2x8x128x64) ![0, 4, 0, 0] S1x1x128x64.size inb_S2x8x128x64_S1x1x128x64_0_4_0_0) p.kt)⟩ := rfl
  rw [e]
  unfold ro
  iintro ⟨⟨H1, H2, H3, H4⟩, Hk⟩
  iapply (load_in c (Memref.whole cc0_stg4_0) _ fullShare p.vt) $$ H4; iintro H4
  iapply (load_in c (Memref.whole cc0_stg3_0) _ fullShare p.kt) $$ H3; iintro H3
  iapply (load_in c (Memref.whole cc0_stg4_0) _ fullShare p.vt) $$ H4; iintro H4
  iapply (load_in c (Memref.whole cc0_stg3_0) _ fullShare p.kt) $$ H3; iintro H3
  iapply (le_wp_ret _ _ _ _ Q)
  iapply Hk
  isplitl [H1]; · iexact H1
  isplitl [H2]; · iexact H2
  isplitl [H3]; · iexact H3
  iexact H4

theorem part18_run (v47 : FVec F S128x512 .f32) (v125 : FVec F S128x128 .f32) {Q : _ → sProp 𝕄} :
    iprop(ro c p ∗ (ro c p -∗ Q ⟨k0_pay46 v125 (ldH p.vt 0 4), k0_pay47 v47 (ldH p.kt 0 5) (ldH p.vt 0 5), k0_pay48 v47 (ldH p.kt 0 6), (Scalar.ofBits .f32 0x3E000000#32)⟩))
      ⊢ (wp frame (wpE (defs₀ (F := F)) 𝒱₀ ((c : Dev nD) : Thread nD τ) none) Set.univ) (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 v47 v125) Q := by
  rw [k0_part18_eq_skeleton]
  have e : Q ⟨k0_pay46 v125 (ldH p.vt 0 4), k0_pay47 v47 (ldH p.kt 0 5) (ldH p.vt 0 5), k0_pay48 v47 (ldH p.kt 0 6), (Scalar.ofBits .f32 0x3E000000#32)⟩ = Q ⟨k0_pay46 v125 (rd (Rect.unit (s := S2x8x128x64) ![0, 4, 0, 0] S1x1x128x64.size inb_S2x8x128x64_S1x1x128x64_0_4_0_0) p.vt), k0_pay47 v47 (rd (Rect.unit (s := S2x8x128x64) ![0, 5, 0, 0] S1x1x128x64.size inb_S2x8x128x64_S1x1x128x64_0_5_0_0) p.kt) (rd (Rect.unit (s := S2x8x128x64) ![0, 5, 0, 0] S1x1x128x64.size inb_S2x8x128x64_S1x1x128x64_0_5_0_0) p.vt), k0_pay48 v47 (rd (Rect.unit (s := S2x8x128x64) ![0, 6, 0, 0] S1x1x128x64.size inb_S2x8x128x64_S1x1x128x64_0_6_0_0) p.kt), (Scalar.ofBits .f32 0x3E000000#32)⟩ := rfl
  rw [e]
  unfold ro
  iintro ⟨⟨H1, H2, H3, H4⟩, Hk⟩
  iapply (load_in c (Memref.whole cc0_stg4_0) _ fullShare p.vt) $$ H4; iintro H4
  iapply (load_in c (Memref.whole cc0_stg3_0) _ fullShare p.kt) $$ H3; iintro H3
  iapply (load_in c (Memref.whole cc0_stg4_0) _ fullShare p.vt) $$ H4; iintro H4
  iapply (load_in c (Memref.whole cc0_stg3_0) _ fullShare p.kt) $$ H3; iintro H3
  iapply (le_wp_ret _ _ _ _ Q)
  iapply Hk
  isplitl [H1]; · iexact H1
  isplitl [H2]; · iexact H2
  isplitl [H3]; · iexact H3
  iexact H4

theorem part19_run (v46 : FVec F S256x512 .f32) (v47 : FVec F S128x512 .f32) (v65 : FVec F S128x64 .f32) (v83 : FVec F S128x64 .f32) (v101 : FVec F S128x64 .f32) (v119 : FVec F S128x64 .f32) (v137 : FVec F S128x64 .f32) (v155 : FVec F S128x64 .f32) (v159 : FVec F S128x128 .f32) (cst_119 : F .f32) {Q : _ → sProp 𝕄} :
    iprop(ro c p ∗ (ro c p -∗ Q ⟨k0_pay49 v47 v65 v83 v101 v119 v137 v155 v159 cst_119 (ldH p.vt 0 6) (ldH p.kt 0 7) (ldH p.vt 0 7), k0_pay50 v46, k0_pay51 v46, (ldH p.kt 1 0)⟩))
      ⊢ (wp frame (wpE (defs₀ (F := F)) 𝒱₀ ((c : Dev nD) : Thread nD τ) none) Set.univ) (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 v46 v47 v65 v83 v101 v119 v137 v155 v159 cst_119) Q := by
  rw [k0_part19_eq_skeleton]
  have e : Q ⟨k0_pay49 v47 v65 v83 v101 v119 v137 v155 v159 cst_119 (ldH p.vt 0 6) (ldH p.kt 0 7) (ldH p.vt 0 7), k0_pay50 v46, k0_pay51 v46, (ldH p.kt 1 0)⟩ = Q ⟨k0_pay49 v47 v65 v83 v101 v119 v137 v155 v159 cst_119 (rd (Rect.unit (s := S2x8x128x64) ![0, 6, 0, 0] S1x1x128x64.size inb_S2x8x128x64_S1x1x128x64_0_6_0_0) p.vt) (rd (Rect.unit (s := S2x8x128x64) ![0, 7, 0, 0] S1x1x128x64.size inb_S2x8x128x64_S1x1x128x64_0_7_0_0) p.kt) (rd (Rect.unit (s := S2x8x128x64) ![0, 7, 0, 0] S1x1x128x64.size inb_S2x8x128x64_S1x1x128x64_0_7_0_0) p.vt), k0_pay50 v46, k0_pay51 v46, (rd (Rect.unit (s := S2x8x128x64) ![1, 0, 0, 0] S1x1x128x64.size inb_S2x8x128x64_S1x1x128x64_1_0_0_0) p.kt)⟩ := rfl
  rw [e]
  unfold ro
  iintro ⟨⟨H1, H2, H3, H4⟩, Hk⟩
  iapply (load_in c (Memref.whole cc0_stg4_0) _ fullShare p.vt) $$ H4; iintro H4
  iapply (load_in c (Memref.whole cc0_stg3_0) _ fullShare p.kt) $$ H3; iintro H3
  iapply (load_in c (Memref.whole cc0_stg4_0) _ fullShare p.vt) $$ H4; iintro H4
  iapply (load_in c (Memref.whole cc0_stg3_0) _ fullShare p.kt) $$ H3; iintro H3
  iapply (le_wp_ret _ _ _ _ Q)
  iapply Hk
  isplitl [H1]; · iexact H1
  isplitl [H2]; · iexact H2
  isplitl [H3]; · iexact H3
  iexact H4

theorem part20_run (v193 : FVec F S128x512 .f32) (v194 : FVec F S128x64 .f32) (v195 : Vec F S1x1x128x64 .f32) {Q : _ → sProp 𝕄} :
    iprop(ro c p ∗ (ro c p -∗ Q ⟨k0_pay52 v194 v195 (ldH p.vt 1 0), k0_pay53 v193 (ldH p.kt 1 1) (ldH p.vt 1 1), k0_pay54 v193⟩))
      ⊢ (wp frame (wpE (defs₀ (F := F)) 𝒱₀ ((c : Dev nD) : Thread nD τ) none) Set.univ) (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 v193 v194 v195) Q := by
  rw [k0_part20_eq_skeleton]
  have e : Q ⟨k0_pay52 v194 v195 (ldH p.vt 1 0), k0_pay53 v193 (ldH p.kt 1 1) (ldH p.vt 1 1), k0_pay54 v193⟩ = Q ⟨k0_pay52 v194 v195 (rd (Rect.unit (s := S2x8x128x64) ![1, 0, 0, 0] S1x1x128x64.size inb_S2x8x128x64_S1x1x128x64_1_0_0_0) p.vt), k0_pay53 v193 (rd (Rect.unit (s := S2x8x128x64) ![1, 1, 0, 0] S1x1x128x64.size inb_S2x8x128x64_S1x1x128x64_1_1_0_0) p.kt) (rd (Rect.unit (s := S2x8x128x64) ![1, 1, 0, 0] S1x1x128x64.size inb_S2x8x128x64_S1x1x128x64_1_1_0_0) p.vt), k0_pay54 v193⟩ := rfl
  rw [e]
  unfold ro
  iintro ⟨⟨H1, H2, H3, H4⟩, Hk⟩
  iapply (load_in c (Memref.whole cc0_stg4_0) _ fullShare p.vt) $$ H4; iintro H4
  iapply (load_in c (Memref.whole cc0_stg3_0) _ fullShare p.kt) $$ H3; iintro H3
  iapply (load_in c (Memref.whole cc0_stg4_0) _ fullShare p.vt) $$ H4; iintro H4
  iapply (le_wp_ret _ _ _ _ Q)
  iapply Hk
  isplitl [H1]; · iexact H1
  isplitl [H2]; · iexact H2
  isplitl [H3]; · iexact H3
  iexact H4

theorem part21_run (v193 : FVec F S128x512 .f32) (v230 : FVec F S128x64 .f32) {Q : _ → sProp 𝕄} :
    iprop(ro c p ∗ (ro c p -∗ Q ⟨k0_pay55 v230 (ldH p.kt 1 2) (ldH p.vt 1 2), k0_pay56 v193 (ldH p.kt 1 3) (ldH p.vt 1 3), k0_pay57 v193⟩))
      ⊢ (wp frame (wpE (defs₀ (F := F)) 𝒱₀ ((c : Dev nD) : Thread nD τ) none) Set.univ) (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 v193 v230) Q := by
  rw [k0_part21_eq_skeleton]
  have e : Q ⟨k0_pay55 v230 (ldH p.kt 1 2) (ldH p.vt 1 2), k0_pay56 v193 (ldH p.kt 1 3) (ldH p.vt 1 3), k0_pay57 v193⟩ = Q ⟨k0_pay55 v230 (rd (Rect.unit (s := S2x8x128x64) ![1, 2, 0, 0] S1x1x128x64.size inb_S2x8x128x64_S1x1x128x64_1_2_0_0) p.kt) (rd (Rect.unit (s := S2x8x128x64) ![1, 2, 0, 0] S1x1x128x64.size inb_S2x8x128x64_S1x1x128x64_1_2_0_0) p.vt), k0_pay56 v193 (rd (Rect.unit (s := S2x8x128x64) ![1, 3, 0, 0] S1x1x128x64.size inb_S2x8x128x64_S1x1x128x64_1_3_0_0) p.kt) (rd (Rect.unit (s := S2x8x128x64) ![1, 3, 0, 0] S1x1x128x64.size inb_S2x8x128x64_S1x1x128x64_1_3_0_0) p.vt), k0_pay57 v193⟩ := rfl
  rw [e]
  unfold ro
  iintro ⟨⟨H1, H2, H3, H4⟩, Hk⟩
  iapply (load_in c (Memref.whole cc0_stg3_0) _ fullShare p.kt) $$ H3; iintro H3
  iapply (load_in c (Memref.whole cc0_stg4_0) _ fullShare p.vt) $$ H4; iintro H4
  iapply (load_in c (Memref.whole cc0_stg3_0) _ fullShare p.kt) $$ H3; iintro H3
  iapply (load_in c (Memref.whole cc0_stg4_0) _ fullShare p.vt) $$ H4; iintro H4
  iapply (le_wp_ret _ _ _ _ Q)
  iapply Hk
  isplitl [H1]; · iexact H1
  isplitl [H2]; · iexact H2
  isplitl [H3]; · iexact H3
  iexact H4

theorem part22_run (v193 : FVec F S128x512 .f32) (v266 : FVec F S128x64 .f32) {Q : _ → sProp 𝕄} :
    iprop(ro c p ∗ (ro c p -∗ Q ⟨k0_pay58 v266 (ldH p.kt 1 4) (ldH p.vt 1 4), k0_pay59 v193 (ldH p.kt 1 5) (ldH p.vt 1 5)⟩))
      ⊢ (wp frame (wpE (defs₀ (F := F)) 𝒱₀ ((c : Dev nD) : Thread nD τ) none) Set.univ) (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 v193 v266) Q := by
  rw [k0_part22_eq_skeleton]
  have e : Q ⟨k0_pay58 v266 (ldH p.kt 1 4) (ldH p.vt 1 4), k0_pay59 v193 (ldH p.kt 1 5) (ldH p.vt 1 5)⟩ = Q ⟨k0_pay58 v266 (rd (Rect.unit (s := S2x8x128x64) ![1, 4, 0, 0] S1x1x128x64.size inb_S2x8x128x64_S1x1x128x64_1_4_0_0) p.kt) (rd (Rect.unit (s := S2x8x128x64) ![1, 4, 0, 0] S1x1x128x64.size inb_S2x8x128x64_S1x1x128x64_1_4_0_0) p.vt), k0_pay59 v193 (rd (Rect.unit (s := S2x8x128x64) ![1, 5, 0, 0] S1x1x128x64.size inb_S2x8x128x64_S1x1x128x64_1_5_0_0) p.kt) (rd (Rect.unit (s := S2x8x128x64) ![1, 5, 0, 0] S1x1x128x64.size inb_S2x8x128x64_S1x1x128x64_1_5_0_0) p.vt)⟩ := rfl
  rw [e]
  unfold ro
  iintro ⟨⟨H1, H2, H3, H4⟩, Hk⟩
  iapply (load_in c (Memref.whole cc0_stg3_0) _ fullShare p.kt) $$ H3; iintro H3
  iapply (load_in c (Memref.whole cc0_stg4_0) _ fullShare p.vt) $$ H4; iintro H4
  iapply (load_in c (Memref.whole cc0_stg3_0) _ fullShare p.kt) $$ H3; iintro H3
  iapply (load_in c (Memref.whole cc0_stg4_0) _ fullShare p.vt) $$ H4; iintro H4
  iapply (le_wp_ret _ _ _ _ Q)
  iapply Hk
  isplitl [H1]; · iexact H1
  isplitl [H2]; · iexact H2
  isplitl [H3]; · iexact H3
  iexact H4

theorem part23_run (v193 : FVec F S128x512 .f32) {Q : _ → sProp 𝕄} :
    iprop(ro c p ∗ (ro c p -∗ Q ⟨k0_pay60 v193 (ldH p.kt 1 6) (ldH p.vt 1 6), k0_pay61 v193 (ldH p.kt 1 7), k0_pay62 (ldH p.vt 1 7)⟩))
      ⊢ (wp frame (wpE (defs₀ (F := F)) 𝒱₀ ((c : Dev nD) : Thread nD τ) none) Set.univ) (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 v193) Q := by
  rw [k0_part23_eq_skeleton]
  have e : Q ⟨k0_pay60 v193 (ldH p.kt 1 6) (ldH p.vt 1 6), k0_pay61 v193 (ldH p.kt 1 7), k0_pay62 (ldH p.vt 1 7)⟩ = Q ⟨k0_pay60 v193 (rd (Rect.unit (s := S2x8x128x64) ![1, 6, 0, 0] S1x1x128x64.size inb_S2x8x128x64_S1x1x128x64_1_6_0_0) p.kt) (rd (Rect.unit (s := S2x8x128x64) ![1, 6, 0, 0] S1x1x128x64.size inb_S2x8x128x64_S1x1x128x64_1_6_0_0) p.vt), k0_pay61 v193 (rd (Rect.unit (s := S2x8x128x64) ![1, 7, 0, 0] S1x1x128x64.size inb_S2x8x128x64_S1x1x128x64_1_7_0_0) p.kt), k0_pay62 (rd (Rect.unit (s := S2x8x128x64) ![1, 7, 0, 0] S1x1x128x64.size inb_S2x8x128x64_S1x1x128x64_1_7_0_0) p.vt)⟩ := rfl
  rw [e]
  unfold ro
  iintro ⟨⟨H1, H2, H3, H4⟩, Hk⟩
  iapply (load_in c (Memref.whole cc0_stg3_0) _ fullShare p.kt) $$ H3; iintro H3
  iapply (load_in c (Memref.whole cc0_stg4_0) _ fullShare p.vt) $$ H4; iintro H4
  iapply (load_in c (Memref.whole cc0_stg3_0) _ fullShare p.kt) $$ H3; iintro H3
  iapply (load_in c (Memref.whole cc0_stg4_0) _ fullShare p.vt) $$ H4; iintro H4
  iapply (le_wp_ret _ _ _ _ Q)
  iapply Hk
  isplitl [H1]; · iexact H1
  isplitl [H2]; · iexact H2
  isplitl [H3]; · iexact H3
  iexact H4

end Cert.Proof.Ring

end
-- ==== Proof.Chain.lean ====
/-
  The cuts of the body's computation put together again: both the loop's and the first hop's chain of stretches give `attend`.
-/
module

public import proofs.«01_k».proof.Proof.Parts

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (p : Par F) (x0 x1 a : Blk F)

theorem trip_chain :
   (let v500 := k0_pay2 x0 x1 (ldW p.wq)
    let v501 := k0_pay3 x0 x1 (ldW p.wq)
    let v512 := k0_pay4 x0 x1 (ldW p.wq) (ldH p.kt 0 0)
    let v515 := k0_pay5 x0 x1 (ldW p.wq) (ldH p.kt 0 0)
    let v519 := k0_pay6 v512 v515 (ldH p.vt 0 0)
    let v537 := k0_pay7 v501 (ldH p.kt 0 1) (ldH p.vt 0 1)
    let v548 := k0_pay8 v501 (ldH p.kt 0 2)
    let v549 := k0_pay9 v501 (ldH p.kt 0 2)
    let v555 := k0_pay10 v548 v549 (ldH p.vt 0 2)
    let v573 := k0_pay11 v501 (ldH p.kt 0 3) (ldH p.vt 0 3)
    let v584 := k0_pay12 v501 (ldH p.kt 0 4)
    let v591 := k0_pay13 v584 (ldH p.vt 0 4)
    let v609 := k0_pay14 v501 (ldH p.kt 0 5) (ldH p.vt 0 5)
    let v615 := k0_pay15 v501 (ldH p.kt 0 6)
    let v618 := k0_pay16 v501 (ldH p.kt 0 6)
    let v646 := k0_pay17 v501 v519 v537 v555 v573 v591 v609 v615 v618 (ldH p.vt 0 6) (ldH p.kt 0 7) (ldH p.vt 0 7)
    let v647 := k0_pay18 v500
    let v653 := k0_pay19 v500 (ldH p.kt 1 0)
    let v665 := k0_pay20 v653 (ldH p.vt 1 0)
    let v683 := k0_pay21 v647 (ldH p.kt 1 1) (ldH p.vt 1 1)
    let v687 := k0_pay22 v647 (ldH p.kt 1 2)
    let cst_528 := (Scalar.ofBits .f32 0x3E000000#32)
    let v701 := k0_pay23 v687 cst_528 (ldH p.vt 1 2)
    let v719 := k0_pay24 v647 (ldH p.kt 1 3) (ldH p.vt 1 3)
    let v720 := k0_pay25 v647
    let v722 := k0_pay26 (ldH p.kt 1 4)
    let cst_553 := (constant S128x128 .f32 0x00000000#32)
    let v737 := k0_pay27 v720 v722 cst_553 (ldH p.vt 1 4)
    let v755 := k0_pay28 v647 (ldH p.kt 1 5) (ldH p.vt 1 5)
    let v756 := k0_pay29 v647
    let v757 := (ldH p.kt 1 6)
    let v793 := k0_pay30 v646 v647 v665 v683 v701 v719 v737 v755 v756 v757 (ldH p.vt 1 6) (ldH p.kt 1 7) (ldH p.vt 1 7)
    v793) = attend p x0 x1 := rfl

theorem first_chain (d : Bool) :
   (let v46 := k0_pay35 x0 x1 (ldW p.wq)
    let v47 := k0_pay36 x0 x1 (ldW p.wq)
    let v53 := k0_pay37 x0 x1 (ldW p.wq) (ldH p.kt 0 0)
    let v56 := k0_pay38 x0 x1 (ldW p.wq) (ldH p.kt 0 0)
    let v65 := k0_pay39 v53 v56 (ldH p.vt 0 0)
    let v83 := k0_pay40 v47 (ldH p.kt 0 1) (ldH p.vt 0 1)
    let v89 := k0_pay41 v47 (ldH p.kt 0 2)
    let v90 := k0_pay42 v47 (ldH p.kt 0 2)
    let v101 := k0_pay43 v89 v90 (ldH p.vt 0 2)
    let v119 := k0_pay44 v47 (ldH p.kt 0 3) (ldH p.vt 0 3)
    let v125 := k0_pay45 v47 (ldH p.kt 0 4)
    let v137 := k0_pay46 v125 (ldH p.vt 0 4)
    let v155 := k0_pay47 v47 (ldH p.kt 0 5) (ldH p.vt 0 5)
    let v159 := k0_pay48 v47 (ldH p.kt 0 6)
    let cst_119 := (Scalar.ofBits .f32 0x3E000000#32)
    let v192 := k0_pay49 v47 v65 v83 v101 v119 v137 v155 v159 cst_119 (ldH p.vt 0 6) (ldH p.kt 0 7) (ldH p.vt 0 7)
    let v193 := k0_pay50 v46
    let v194 := k0_pay51 v46
    let v195 := (ldH p.kt 1 0)
    let v211 := k0_pay52 v194 v195 (ldH p.vt 1 0)
    let v229 := k0_pay53 v193 (ldH p.kt 1 1) (ldH p.vt 1 1)
    let v230 := k0_pay54 v193
    let v247 := k0_pay55 v230 (ldH p.kt 1 2) (ldH p.vt 1 2)
    let v265 := k0_pay56 v193 (ldH p.kt 1 3) (ldH p.vt 1 3)
    let v266 := k0_pay57 v193
    let v283 := k0_pay58 v266 (ldH p.kt 1 4) (ldH p.vt 1 4)
    let v301 := k0_pay59 v193 (ldH p.kt 1 5) (ldH p.vt 1 5)
    let v319 := k0_pay60 v193 (ldH p.kt 1 6) (ldH p.vt 1 6)
    let v334 := k0_pay61 v193 (ldH p.kt 1 7)
    let v336 := k0_pay62 (ldH p.vt 1 7)
    if d then k0_pay65 v192 v211 v229 v247 v265 v283 v301 v319 v334 v336 (ldW p.wo) else k0_pay64 v192 v211 v229 v247 v265 v283 v301 v319 v334 v336 (ldW p.wo)) = accFirst d p x0 x1 := by cases d <;> rfl

theorem next_ff : k0_pay33 (attend p x0 x1) (ldW p.wo) a = accNext false p x0 x1 a := rfl
theorem next_tt : k0_pay34 (k0_pay32 (attend p x0 x1) (ldW p.wo)) a = accNext true p x0 x1 a := rfl

end Cert.Proof.Ring

end
-- ==== Proof.HopA.lean ====
/-
  One hop, stretch by stretch: the waits, the signals and the sends around the computation.
-/
module

public import proofs.«01_k».proof.Proof.Chain

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem trips_eq : k0_t1_loop.trips = 31 := by decide +kernel

/-- The neighbours as the program names them. -/
theorem dev_right (c : Dev nD) {n : ℕ} (h : n < nD) (e : n = (c.val + 1) % 32) : (⟨n, h⟩ : Dev nD) = nxt false c := Fin.ext e
theorem dev_left (c : Dev nD) {n : ℕ} (h : n < nD) (e : n = (c.val + 31) % 32) : (⟨n, h⟩ : Dev nD) = nxt true c := Fin.ext e

/-- The conditions of the hop as it is counted. -/
theorem cond1_iff (t : Fin k0_t1_loop.trips) : k0_cond1 t = 1#1 ↔ 2 ≤ t.val + 1 ∧ t.val + 1 ≤ 24 := by
  revert t; decide +kernel
theorem cond2_iff (t : Fin k0_t1_loop.trips) : k0_cond2 t = 1#1 ↔ 2 ≤ t.val + 1 ∧ t.val + 1 ≤ 25 := by
  revert t; decide +kernel
theorem cond4_iff (t : Fin k0_t1_loop.trips) : k0_cond4 t = 1#1 ↔ t.val + 1 ≤ 30 := by
  revert t; decide +kernel

variable (Xs As : Bool → Dev nD → ℕ → Blk F) (K : GSem nD τ sig → ℕ) (c : Dev nD)

/-- What stays true: the cells' invariants, the levels, and that the credit cells this device raises are open. -/
def env : sProp 𝕄 :=
  iprop(invs Xs As K ∗ levAts L lv ∗ (reached ER (crC false false (nxt true c)) 0 ∗ reached ER (crC true false (nxt true c)) 0)
    ∗ (reached ER (crC false true (nxt false c)) 0 ∗ reached ER (crC true true (nxt false c)) 0))
instance env_persistent : BI.Persistent (env Xs As K c) := by unfold env; infer_instance

theorem env_invs : (env Xs As K c : sProp 𝕄) ⊢ invs Xs As K := by unfold env; iintro ⟨H, -, -, -⟩; iexact H
theorem env_lev : (env Xs As K c : sProp 𝕄) ⊢ levAts L lv := by unfold env; iintro ⟨-, H, -, -⟩; iexact H
theorem env_cr (kd d : Bool) : (env Xs As K c : sProp 𝕄) ⊢ reached ER (crC kd d (nxt (!d) c)) 0 := by
  unfold env
  cases kd <;> cases d
  · iintro ⟨-, -, ⟨H, -⟩, -⟩; iexact H
  · iintro ⟨-, -, -, ⟨H, -⟩⟩; iexact H
  · iintro ⟨-, -, ⟨-, H⟩, -⟩; iexact H
  · iintro ⟨-, -, -, ⟨-, H⟩⟩; iexact H

/-- Nothing is owed for a hop that signals nothing. -/
theorem sg_out (kd d : Bool) (k : ℕ) (h : ¬(2 ≤ k ∧ k ≤ 24 + kd.toNat)) : sg kd d c k = 0 := if_neg h

set_option maxRecDepth 65536 in
theorem part1_run (t : Fin k0_t1_loop.trips) (v5 v7 : BitVec 32) (O : CellTallies nD τ sig ℕ)
    (hO : Above 0 (O + sg false true c (t.val + 1) + sg false false c (t.val + 1))) {Q : _ → sProp 𝕄} :
    iprop(env Xs As K c ∗ (cred (tallyAt (sndC false false (sl t.val) c) 0 N) ∗ posS c false false (t.val + 1))
        ∗ (cred (tallyAt (sndC false true (sl t.val) c) 0 N) ∗ posS c false true (t.val + 1))
        ∗ sgTok c false false (t.val + 1) ∗ sgTok c false true (t.val + 1)
        ∗ ow c (O + sg false true c (t.val + 1) + sg false false c (t.val + 1))
        ∗ ((posS c false false (t.val + 2) ∗ sndPay Xs As c false false t.val) -∗ (posS c false true (t.val + 2) ∗ sndPay Xs As c false true t.val)
            -∗ ow c O -∗ Q ⟨Scf.iv 1#32 1#32 t, Scalar.remsi (Scf.iv 1#32 1#32 t) 8#32⟩))
      ⊢ (wp frame (wpE (defs₀ (F := F)) 𝒱₀ ((c : Dev nD) : Thread nD τ) none) Set.univ) (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 c v5 v7 1#32 1#32 t) Q := by
  have ht : t.val < 31 := trips_eq ▸ t.isLt
  rw [k0_part1_eq_skeleton]
  iintro ⟨#He, ⟨Hc1, Hp1⟩, ⟨Hc2, Hp2⟩, Htk1, Htk2, HO, Hk⟩
  ihave #Hi := (env_invs Xs As K c) $$ He
  ihave #Hlev := (env_lev Xs As K c) $$ He
  iapply (wait_snd Xs As K c false false t.val ht (semA_of_off false false false (sl t.val) (k0_off3_eq t) _)
    ⟨sl t.val, slotM_of_off false false (sl t.val) (k0_off4_eq t) _⟩ _ hO) $$ [Hc1 HO Hp1]
  · isplitr; · iexact Hi
    isplitr; · iexact Hlev
    isplitl [Hc1]; · iexact Hc1
    isplitl [HO]; · iexact HO
    iexact Hp1
  iintro ⟨HO, Hp1, Hb1⟩
  iapply (wait_snd Xs As K c false true t.val ht (semA_of_off false true false (sl t.val) (k0_off3_eq t) _)
    ⟨sl t.val, slotM_of_off false true (sl t.val) (k0_off4_eq t) _⟩ _ hO) $$ [Hc2 HO Hp2]
  · isplitr; · iexact Hi
    isplitr; · iexact Hlev
    isplitl [Hc2]; · iexact Hc2
    isplitl [HO]; · iexact HO
    iexact Hp2
  iintro ⟨HO, Hp2, Hb2⟩
  by_cases h : k0_cond1 t = 1#1
  · have h' := (cond1_iff t).1 h
    simp only [dif_pos h]
    iapply (signal_cr Xs As K c false false (t.val + 1) h'.1 h'.2 (z := (1#32 : BitVec 32).toInt) (by decide) (sem := crN false false)
      rfl (dev_left c _ (k0_dev7_eq c)) (O + sg false true c (t.val + 1))) $$ [HO Htk1]
    · isplitr; · iexact Hi
      isplitr; · iapply (env_cr Xs As K c false false); iexact He
      isplitl [Htk1]; · iexact Htk1
      iexact HO
    iintro HO
    iapply (signal_cr Xs As K c false true (t.val + 1) h'.1 h'.2 (z := (1#32 : BitVec 32).toInt) (by decide) (sem := crN false true)
      rfl (dev_right c _ (k0_dev8_eq c)) O) $$ [HO Htk2]
    · isplitr; · iexact Hi
      isplitr; · iapply (env_cr Xs As K c false true); iexact He
      isplitl [Htk2]; · iexact Htk2
      iexact HO
    iintro HO
    iapply (le_wp_ret _ _ _ _ Q)
    iapply Hk $$ [Hp1 Hb1] [Hp2 Hb2] HO
    · isplitl [Hp1]; · iexact Hp1
      iexact Hb1
    · isplitl [Hp2]; · iexact Hp2
      iexact Hb2
  · have h' := fun e => h ((cond1_iff t).2 e)
    simp only [dif_neg h]
    rw [sg_out c false false _ h', sg_out c false true _ h', add_zero, add_zero]
    iapply (le_wp_ret _ _ _ _ Q)
    iapply Hk $$ [Hp1 Hb1] [Hp2 Hb2] HO
    · isplitl [Hp1]; · iexact Hp1
      iexact Hb1
    · isplitl [Hp2]; · iexact Hp2
      iexact Hb2

set_option maxRecDepth 65536 in
theorem part2_run (t : Fin k0_t1_loop.trips) (v2 v5 v7 arg19 : BitVec 32) (O : CellTallies nD τ sig ℕ)
    (hO : Above 0 (O + sg true true c (t.val + 1) + sg true false c (t.val + 1))) (hO' : Above (2 * (t.val + 1)) O) {Q : _ → sProp 𝕄} :
    iprop(env Xs As K c ∗ (cred (tallyAt (sndC true false (sl t.val) c) 0 N) ∗ posS c true false (t.val + 1))
        ∗ (cred (tallyAt (sndC true true (sl t.val) c) 0 N) ∗ posS c true true (t.val + 1))
        ∗ sgTok c true false (t.val + 1) ∗ sgTok c true true (t.val + 1)
        ∗ (cred (tallyAt (rcvC false false (sl (t.val + 1)) c) (t.val + 1) N) ∗ posR c false false (t.val + 1))
        ∗ ow c (O + sg true true c (t.val + 1) + sg true false c (t.val + 1))
        ∗ ((posS c true false (t.val + 2) ∗ sndPay Xs As c true false t.val) -∗ (posS c true true (t.val + 2) ∗ sndPay Xs As c true true t.val)
            -∗ (posR c false false (t.val + 2) ∗ rcvPay Xs As c false false (t.val + 1)) -∗ ow c O -∗ Q ⟨⟩))
      ⊢ (wp frame (wpE (defs₀ (F := F)) 𝒱₀ ((c : Dev nD) : Thread nD τ) none) Set.univ) (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 c v2 v5 v7 t arg19) Q := by
  have ht : t.val < 31 := trips_eq ▸ t.isLt
  rw [k0_part2_eq_skeleton]
  iintro ⟨#He, ⟨Hc1, Hp1⟩, ⟨Hc2, Hp2⟩, Htk1, Htk2, ⟨Hc3, Hp3⟩, HO, Hk⟩
  ihave #Hi := (env_invs Xs As K c) $$ He
  ihave #Hlev := (env_lev Xs As K c) $$ He
  iapply (wait_snd Xs As K c true false t.val (by unfold M; simp only [Bool.toNat_true]; omega) (semA_of_off true false false (sl t.val) (k0_off3_eq t) _)
    ⟨sl t.val, slotM_of_off true false (sl t.val) (k0_off4_eq t) _⟩ _ hO) $$ [Hc1 HO Hp1]
  · isplitr; · iexact Hi
    isplitr; · iexact Hlev
    isplitl [Hc1]; · iexact Hc1
    isplitl [HO]; · iexact HO
    iexact Hp1
  iintro ⟨HO, Hp1, Hb1⟩
  iapply (wait_snd Xs As K c true true t.val (by unfold M; simp only [Bool.toNat_true]; omega) (semA_of_off true true false (sl t.val) (k0_off3_eq t) _)
    ⟨sl t.val, slotM_of_off true true (sl t.val) (k0_off4_eq t) _⟩ _ hO) $$ [Hc2 HO Hp2]
  · isplitr; · iexact Hi
    isplitr; · iexact Hlev
    isplitl [Hc2]; · iexact Hc2
    isplitl [HO]; · iexact HO
    iexact Hp2
  iintro ⟨HO, Hp2, Hb2⟩
  by_cases h : k0_cond2 t = 1#1
  · have h' := (cond2_iff t).1 h
    simp only [dif_pos h]
    iapply (signal_cr Xs As K c true false (t.val + 1) h'.1 h'.2 (z := (1#32 : BitVec 32).toInt) (by decide) (sem := crN true false)
      rfl (dev_left c _ (k0_dev9_eq c)) (O + sg true true c (t.val + 1))) $$ [HO Htk1]
    · isplitr; · iexact Hi
      isplitr; · iapply (env_cr Xs As K c true false); iexact He
      isplitl [Htk1]; · iexact Htk1
      iexact HO
    iintro HO
    iapply (signal_cr Xs As K c true true (t.val + 1) h'.1 h'.2 (z := (1#32 : BitVec 32).toInt) (by decide) (sem := crN true true)
      rfl (dev_right c _ (k0_dev10_eq c)) O) $$ [HO Htk2]
    · isplitr; · iexact Hi
      isplitr; · iapply (env_cr Xs As K c true true); iexact He
      isplitl [Htk2]; · iexact Htk2
      iexact HO
    iintro HO
    iapply (wait_rcv Xs As K c false false (t.val + 1) (by omega) ht (semA_of_off false false true (sl (t.val + 1)) (k0_off5_eq t) _)
      ⟨sl (t.val + 1), slotM_of_off false false (sl (t.val + 1)) (k0_off6_eq t) _⟩ _ hO') $$ [Hc3 HO Hp3]
    · isplitr; · iexact Hi
      isplitr; · iexact Hlev
      isplitl [Hc3]; · iexact Hc3
      isplitl [HO]; · iexact HO
      iexact Hp3
    iintro ⟨HO, Hp3, Hb3⟩
    iapply (le_wp_ret _ _ _ _ Q)
    iapply Hk $$ [Hp1 Hb1] [Hp2 Hb2] [Hp3 Hb3] HO
    · isplitl [Hp1]; · iexact Hp1
      iexact Hb1
    · isplitl [Hp2]; · iexact Hp2
      iexact Hb2
    · isplitl [Hp3]; · iexact Hp3
      iexact Hb3
  · have h' := fun e => h ((cond2_iff t).2 e)
    simp only [dif_neg h]
    rw [sg_out c true false _ h', sg_out c true true _ h', add_zero, add_zero]
    iapply (wait_rcv Xs As K c false false (t.val + 1) (by omega) ht (semA_of_off false false true (sl (t.val + 1)) (k0_off5_eq t) _)
      ⟨sl (t.val + 1), slotM_of_off false false (sl (t.val + 1)) (k0_off6_eq t) _⟩ _ hO') $$ [Hc3 HO Hp3]
    · isplitr; · iexact Hi
      isplitr; · iexact Hlev
      isplitl [Hc3]; · iexact Hc3
      isplitl [HO]; · iexact HO
      iexact Hp3
    iintro ⟨HO, Hp3, Hb3⟩
    iapply (le_wp_ret _ _ _ _ Q)
    iapply Hk $$ [Hp1 Hb1] [Hp2 Hb2] [Hp3 Hb3] HO
    · isplitl [Hp1]; · iexact Hp1
      iexact Hb1
    · isplitl [Hp2]; · iexact Hp2
      iexact Hb2
    · isplitl [Hp3]; · iexact Hp3
      iexact Hb3

end Cert.Proof.Ring

end
-- ==== Proof.HopB.lean ====
/-
  The second half of a hop: sends, credits and the accumulators.
-/
module

public import proofs.«01_k».proof.Proof.HopA

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
variable (x : Bool → Dev nD → Blk F) (p : Dev nD → Par F) (Xs As : Bool → Dev nD → ℕ → Blk F) (K : GSem nD τ sig → ℕ) (c : Dev nD)

/-! ## Sends of a slot -/

theorem posS_dup (kd d : Bool) (t : ℕ) :
    (posS c kd d (t + 1) : sProp 𝕄) ⊢ iprop(reached ER (sndC kd d (sl t) c) (t / 8) ∗ posS c kd d (t + 1)) := by
  rw [posS_open]; unfold pos
  iintro ⟨⟨Ha, #Hr⟩, Hrest⟩
  isplitr; · iexact Hr
  isplitl [Ha]
  · isplitl [Ha]; · iexact Ha
    iexact Hr
  iexact Hrest

/-- An x block goes on, half its share with it, and with it the slots for the other direction. -/
theorem send_x (d : Bool) (t : ℕ) (ht1 : 1 ≤ t) (ht : t < M false) {src dst : Memref sig .tc .vmem S128x512 .f32} {sS sR : DmaSem sig} {dev : Dev nD}
    {hsrc : src.view.WordExact} {hdst : dst.view.WordExact} {hsc : dst.view.ref.isScScratch = false}
    {hsem : DmaTarget.Typed .vmem (.dma sR) (.remote (Dev.tc dev) dst (.dma sS) hsc)}
    {α : Type} {k : PUnit → Prog (TpuEff nD τ sig (Elt F) Λ₀ .tc) α} {Q : α → sProp 𝕄}
    (hS : sS = semN false d false (sl t)) (hR : sR = semN false d true (sl (t + 1))) (hdev : dev = nxt d c) (hdm : dst = slotM false d (sl (t + 1)))
    (hsm : src = slotM false d (sl t)) (O : CellTallies nD τ sig ℕ) :
    iprop(invs Xs As K ∗ posS c false d (t + 1) ∗ sdTok c false d t ∗ slotAt c false d (sl t) qL (Xs d c t) ∗ grant (nxt d c) false d (t + 1)
        ∗ G2 c (!d) (t + 2) ∗ ow c (O + sd false d c t))
      ⊢ iprop(((ow c O ∗ posS c false d (t + 1) ∗ cred (tallyAt (sndC false d (sl t) c) 0 N)) -∗ (wp frame (wpE (defs₀ (F := F)) 𝒱₀ ((c : Dev nD) : Thread nD τ) none) Set.univ) (k ⟨⟩) Q)
        -∗ (wp frame (wpE (defs₀ (F := F)) 𝒱₀ ((c : Dev nD) : Thread nD τ) none) Set.univ) (.op (.enqueueDma src (.remote (Dev.tc dev) dst (.dma sS) hsc) (.dma sR) hsrc hdst hsem) k) Q) := by
  subst hsm
  have e : (slotAt c false d (sl t) qL (Xs d c t) : sProp 𝕄)
      = heldV c (slotM false d (sl t)).view qL (fun y => Xs d c t (Shape.reshapeEquiv squeezes_S1x128x512_S128x512.numel_eq y)) :=
    (heldV_reshape c (slotV false d (sl t)) qL squeezes_S1x128x512_S128x512.numel_eq (Xs d c t)).symm
  iintro ⟨#Hi, Hp, Htok, Hs, Hg, HE, HO⟩ Hk
  ihave Hp := (posS_dup c false d t) $$ Hp
  icases Hp with ⟨#Hr, Hp⟩
  ihave Hs := (Entails.of_eq e) $$ Hs
  iapply (send_step Xs As K c false d t ht hS hR hdev hdm qL (Xs d c t) (G2 c (!d) (t + 2))
    (by rw [← e]; unfold sndPay; rw [if_neg (by decide), if_neg (by omega)])
    (by unfold rcvPay; rw [if_neg (by decide), Nat.add_sub_cancel, not_nxt]) O) $$ [Htok Hs Hg HE HO]
  · isplitr; · iexact Hi
    isplitr; · iexact Hr
    isplitl [Htok]; · iexact Htok
    isplitl [Hs]; · iexact Hs
    isplitl [Hg]; · iexact Hg
    isplitl [HE]; · iexact HE
    iexact HO
  iintro ⟨HO, Hc⟩
  iapply Hk
  isplitl [HO]; · iexact HO
  isplitl [Hp]; · iexact Hp
  iexact Hc

/-- An accumulator goes on. -/
theorem send_a (d : Bool) (t : ℕ) (ht : t < M true) {src dst : Memref sig .tc .vmem S128x512 .f32} {sS sR : DmaSem sig} {dev : Dev nD}
    {hsrc : src.view.WordExact} {hdst : dst.view.WordExact} {hsc : dst.view.ref.isScScratch = false}
    {hsem : DmaTarget.Typed .vmem (.dma sR) (.remote (Dev.tc dev) dst (.dma sS) hsc)}
    {α : Type} {k : PUnit → Prog (TpuEff nD τ sig (Elt F) Λ₀ .tc) α} {Q : α → sProp 𝕄}
    (hS : sS = semN true d false (sl t)) (hR : sR = semN true d true (sl (t + 1))) (hdev : dev = nxt d c) (hdm : dst = slotM true d (sl (t + 1)))
    (hsm : src = slotM true d (sl t)) (O : CellTallies nD τ sig ℕ) :
    iprop(invs Xs As K ∗ posS c true d (t + 1) ∗ sdTok c true d t ∗ slotAt c true d (sl t) fullShare (As d c t) ∗ grant (nxt d c) true d (t + 1)
        ∗ ow c (O + sd true d c t))
      ⊢ iprop(((ow c O ∗ posS c true d (t + 1) ∗ cred (tallyAt (sndC true d (sl t) c) 0 N)) -∗ (wp frame (wpE (defs₀ (F := F)) 𝒱₀ ((c : Dev nD) : Thread nD τ) none) Set.univ) (k ⟨⟩) Q)
        -∗ (wp frame (wpE (defs₀ (F := F)) 𝒱₀ ((c : Dev nD) : Thread nD τ) none) Set.univ) (.op (.enqueueDma src (.remote (Dev.tc dev) dst (.dma sS) hsc) (.dma sR) hsrc hdst hsem) k) Q) := by
  subst hsm
  have e : (slotAt c true d (sl t) fullShare (As d c t) : sProp 𝕄)
      = heldV c (slotM true d (sl t)).view fullShare (fun y => As d c t (Shape.reshapeEquiv squeezes_S1x128x512_S128x512.numel_eq y)) :=
    (heldV_reshape c (slotV true d (sl t)) fullShare squeezes_S1x128x512_S128x512.numel_eq (As d c t)).symm
  iintro ⟨#Hi, Hp, Htok, Hs, Hg, HO⟩ Hk
  ihave Hp := (posS_dup c true d t) $$ Hp
  icases Hp with ⟨#Hr, Hp⟩
  ihave Hs := (Entails.of_eq e) $$ Hs
  iapply (send_step Xs As K c true d t ht hS hR hdev hdm fullShare (As d c t) iprop(emp)
    (by rw [← e]; unfold sndPay; rw [if_pos rfl])
    (by unfold rcvPay; rw [if_pos rfl, Nat.add_sub_cancel, not_nxt]
        iintro ⟨H, -⟩; iexact H) O) $$ [Htok Hs Hg HO]
  · isplitr; · iexact Hi
    isplitr; · iexact Hr
    isplitl [Htok]; · iexact Htok
    isplitl [Hs]; · iexact Hs
    isplitl [Hg]; · iexact Hg
    isplitr; · iempintro
    iexact HO
  iintro ⟨HO, Hc⟩
  iapply Hk
  isplitl [HO]; · iexact HO
  isplitl [Hp]; · iexact Hp
  iexact Hc

/-! ## Credits, hop by hop -/

/-- The owner's position on a credit cell before hop `k`, and the credit hop `k` waits for. -/
def crS (kd d : Bool) (k : ℕ) : sProp 𝕄 := crSt (F := F) c kd d (min (k - 8) (Mc kd))
def crCred (kd d : Bool) (k : ℕ) : sProp 𝕄 := if 8 ≤ k ∧ k ≤ 30 + kd.toNat then cred (tallyAt (crC kd d c) (k - 8) 1) else iprop(emp)

theorem crS_stay (kd d : Bool) (k : ℕ) (h : ¬(8 ≤ k ∧ k ≤ 30 + kd.toNat)) : (crS c kd d (k + 1) : sProp 𝕄) = crS c kd d k := by
  unfold crS Mc
  congr 1; cases kd <;> simp at h ⊢ <;> omega

theorem wait_crS (kd d : Bool) (k₀ : ℕ) (h : 8 ≤ k₀ ∧ k₀ ≤ 30 + kd.toNat) {sem : Sem sig} {z : ℤ} (hz : z = ((1 : ℕ) : ℤ))
    {α : Type} {k : PUnit → Prog (TpuEff nD τ sig (Elt F) Λ₀ .tc) α} {Q : α → sProp 𝕄}
    (hs : sem = crN kd d) (O : CellTallies nD τ sig ℕ) (hO : Above (2 * k₀) O) :
    iprop(invs Xs As K ∗ levAts L lv ∗ crCred c kd d k₀ ∗ ow c O ∗ crS c kd d k₀)
      ⊢ iprop(((ow c O ∗ crS c kd d (k₀ + 1)) -∗ (wp frame (wpE (defs₀ (F := F)) 𝒱₀ ((c : Dev nD) : Thread nD τ) none) Set.univ) (k ⟨⟩) Q) -∗ (wp frame (wpE (defs₀ (F := F)) 𝒱₀ ((c : Dev nD) : Thread nD τ) none) Set.univ) (.op (.semWait sem z) k) Q) := by
  have e1 : min (k₀ - 8) (Mc kd) = k₀ - 8 := by unfold Mc; cases kd <;> simp at h ⊢ <;> omega
  have e2 : min (k₀ + 1 - 8) (Mc kd) = k₀ - 8 + 1 := by unfold Mc; cases kd <;> simp at h ⊢ <;> omega
  unfold crCred crS
  rw [if_pos h, e1, e2]
  exact wait_cr Xs As K c kd d (k₀ - 8) (by unfold Mc; cases kd <;> simp at h ⊢ <;> omega) hz hs O (hO.mono (by omega))

/-- The guards of the waits for credits. -/
theorem guard3 (t : Fin k0_t1_loop.trips) :
    Scalar.cmpi .ne (Scalar.extui (Scalar.andi (Scalar.cmpi .sle (Scf.iv 1#32 1#32 t) 30#32) (Scalar.cmpi .sge (Scf.iv 1#32 1#32 t) 8#32)) : BitVec 32) 0#32 = 1#1
      ↔ 8 ≤ t.val + 1 ∧ t.val + 1 ≤ 30 := by
  revert t; decide +kernel
theorem guard12 (t : Fin k0_t1_loop.trips) :
    Scalar.cmpi .ne (Scalar.extui (Scalar.cmpi .sge (Scf.iv 1#32 1#32 t) 8#32) : BitVec 32) 0#32 = 1#1 ↔ 8 ≤ t.val + 1 ∧ t.val + 1 ≤ 31 := by
  revert t; decide +kernel

/-! ## Kept, given and owed around the sends -/

/-- The slots given away with an x block, while there is one to send. -/
def gv (d : Bool) (k : ℕ) : sProp 𝕄 := if k ≤ 30 then G2 (F := F) c d (k + 2) else iprop(emp)
/-- The x block of hop `k` as kept for the computation. -/
def keepX (d : Bool) (k : ℕ) : sProp 𝕄 := slotAt c false d (sl k) (if k ≤ 30 then qR else fullShare) (xcs x d c k)
/-- The wait credit of hop `k`'s x send. -/
def outX (d : Bool) (k : ℕ) : sProp 𝕄 := if k ≤ 30 then cred (tallyAt (sndC false d (sl k) c) 0 N) else iprop(emp)

theorem sd_out (kd d : Bool) (k : ℕ) (h : ¬k < M kd) : sd kd d c k = 0 := if_neg h

set_option maxRecDepth 65536 in
theorem part3_run (t : Fin k0_t1_loop.trips) (v5 v7 v422 : BitVec 32) (O : CellTallies nD τ sig ℕ)
    (hO : Above (2 * (t.val + 1)) (O + sd false true c (t.val + 1) + sd false false c (t.val + 1))) {Q : _ → sProp 𝕄} :
    iprop(env (xcs x) (acs x p) K c ∗ (cred (tallyAt (rcvC false true (sl (t.val + 1)) c) (t.val + 1) N) ∗ posR c false true (t.val + 1))
        ∗ (crCred c false false (t.val + 1) ∗ crS c false false (t.val + 1)) ∗ (crCred c false true (t.val + 1) ∗ crS c false true (t.val + 1))
        ∗ (posS c false false (t.val + 2) ∗ sdTok c false false (t.val + 1)) ∗ (posS c false true (t.val + 2) ∗ sdTok c false true (t.val + 1))
        ∗ rcvPay (xcs x) (acs x p) c false false (t.val + 1) ∗ gv c false (t.val + 1) ∗ gv c true (t.val + 1) ∗ ro c (p c)
        ∗ ow c (O + sd false true c (t.val + 1) + sd false false c (t.val + 1))
        ∗ (posR c false true (t.val + 2) -∗ (crS c false false (t.val + 2) ∗ crS c false true (t.val + 2))
            -∗ (posS c false false (t.val + 2) ∗ outX c false (t.val + 1)) -∗ (posS c false true (t.val + 2) ∗ outX c true (t.val + 1))
            -∗ keepX x c false (t.val + 1) -∗ keepX x c true (t.val + 1)
            -∗ grant (nxt false c) true false (t.val + 2) -∗ grant (nxt true c) true true (t.val + 2) -∗ ro c (p c) -∗ ow c O
            -∗ Q ⟨k0_pay2 (xcs x false c (t.val + 1)) (xcs x true c (t.val + 1)) (ldW (p c).wq), k0_pay3 (xcs x false c (t.val + 1)) (xcs x true c (t.val + 1)) (ldW (p c).wq),
                k0_pay4 (xcs x false c (t.val + 1)) (xcs x true c (t.val + 1)) (ldW (p c).wq) (ldH (p c).kt 0 0),
                k0_pay5 (xcs x false c (t.val + 1)) (xcs x true c (t.val + 1)) (ldW (p c).wq) (ldH (p c).kt 0 0)⟩))
      ⊢ (wp frame (wpE (defs₀ (F := F)) 𝒱₀ ((c : Dev nD) : Thread nD τ) none) Set.univ) (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 c v5 v7 t (Scf.iv 1#32 1#32 t) v422) Q := by
  have ht : t.val < 31 := trips_eq ▸ t.isLt
  rw [k0_part3_eq_skeleton]
  have e : (Q ⟨k0_pay2 (xcs x false c (t.val + 1)) (xcs x true c (t.val + 1)) (ldW (p c).wq), k0_pay3 (xcs x false c (t.val + 1)) (xcs x true c (t.val + 1)) (ldW (p c).wq),
                k0_pay4 (xcs x false c (t.val + 1)) (xcs x true c (t.val + 1)) (ldW (p c).wq) (ldH (p c).kt 0 0),
                k0_pay5 (xcs x false c (t.val + 1)) (xcs x true c (t.val + 1)) (ldW (p c).wq) (ldH (p c).kt 0 0)⟩ : sProp 𝕄)
      = Q ⟨k0_pay2 (xcs x false c (t.val + 1)) (xcs x true c (t.val + 1)) (rd (Rect.unit (s := S512x512) ![0, 0] S512x512.size inb_S512x512_S512x512_0_0) (p c).wq),
          k0_pay3 (xcs x false c (t.val + 1)) (xcs x true c (t.val + 1)) (rd (Rect.unit (s := S512x512) ![0, 0] S512x512.size inb_S512x512_S512x512_0_0) (p c).wq),
          k0_pay4 (xcs x false c (t.val + 1)) (xcs x true c (t.val + 1)) (rd (Rect.unit (s := S512x512) ![0, 0] S512x512.size inb_S512x512_S512x512_0_0) (p c).wq)
            (rd (Rect.unit (s := S2x8x128x64) ![0, 0, 0, 0] S1x1x128x64.size inb_S2x8x128x64_S1x1x128x64_0_0_0_0) (p c).kt),
          k0_pay5 (xcs x false c (t.val + 1)) (xcs x true c (t.val + 1)) (rd (Rect.unit (s := S512x512) ![0, 0] S512x512.size inb_S512x512_S512x512_0_0) (p c).wq)
            (rd (Rect.unit (s := S2x8x128x64) ![0, 0, 0, 0] S1x1x128x64.size inb_S2x8x128x64_S1x1x128x64_0_0_0_0) (p c).kt)⟩ := rfl
  rw [e]
  have er1 : rcvPay (xcs x) (acs x p) c false false (t.val + 1)
      = iprop(slotAt c false false (sl (t.val + 1)) fullShare (xcs x false c (t.val + 1)) ∗ grant (nxt true c) false true (t.val + 2) ∗ grant (nxt true c) true true (t.val + 2)) := by
    unfold rcvPay G2; rw [if_neg (by decide)]; rfl
  have er2 : rcvPay (xcs x) (acs x p) c false true (t.val + 1)
      = iprop(slotAt c false true (sl (t.val + 1)) fullShare (xcs x true c (t.val + 1)) ∗ grant (nxt false c) false false (t.val + 2) ∗ grant (nxt false c) true false (t.val + 2)) := by
    unfold rcvPay G2; rw [if_neg (by decide)]; rfl
  iintro ⟨#He, ⟨Hc1, Hp1⟩, ⟨Hcc1, Hcs1⟩, ⟨Hcc2, Hcs2⟩, ⟨Hs1, Ht1⟩, ⟨Hs2, Ht2⟩, Hx1, Hg1, Hg2, Hro, HO, Hk⟩
  ihave #Hi := (env_invs (xcs x) (acs x p) K c) $$ He
  ihave #Hlev := (env_lev (xcs x) (acs x p) K c) $$ He
  iapply (wait_rcv (xcs x) (acs x p) K c false true (t.val + 1) (by omega) ht (semA_of_off false true true (sl (t.val + 1)) (k0_off5_eq t) _)
    ⟨sl (t.val + 1), slotM_of_off false true (sl (t.val + 1)) (k0_off6_eq t) _⟩ _ hO) $$ [Hc1 HO Hp1]
  · isplitr; · iexact Hi
    isplitr; · iexact Hlev
    isplitl [Hc1]; · iexact Hc1
    isplitl [HO]; · iexact HO
    iexact Hp1
  iintro ⟨HO, Hp1, Hx2⟩
  ihave Hx1 := (Entails.of_eq er1) $$ Hx1
  ihave Hx2 := (Entails.of_eq er2) $$ Hx2
  icases Hx1 with ⟨Hx1, Hgx2, Hga2⟩
  icases Hx2 with ⟨Hx2, Hgx1, Hga1⟩
  unfold ro
  icases Hro with ⟨Hq, Hwo, Hkt, Hvt⟩
  by_cases h3 : 8 ≤ t.val + 1 ∧ t.val + 1 ≤ 30
  · simp only [dif_pos ((guard3 t).2 h3)]
    iapply (wait_crS (xcs x) (acs x p) K c false false (t.val + 1) h3 (z := (1#32 : BitVec 32).toInt) (by decide) (sem := crN false false) rfl _ hO) $$ [Hcc1 HO Hcs1]
    · isplitr; · iexact Hi
      isplitr; · iexact Hlev
      isplitl [Hcc1]; · iexact Hcc1
      isplitl [HO]; · iexact HO
      iexact Hcs1
    iintro ⟨HO, Hcs1⟩
    iapply (wait_crS (xcs x) (acs x p) K c false true (t.val + 1) h3 (z := (1#32 : BitVec 32).toInt) (by decide) (sem := crN false true) rfl _ hO) $$ [Hcc2 HO Hcs2]
    · isplitr; · iexact Hi
      isplitr; · iexact Hlev
      isplitl [Hcc2]; · iexact Hcc2
      isplitl [HO]; · iexact HO
      iexact Hcs2
    iintro ⟨HO, Hcs2⟩
    by_cases h4 : k0_cond4 t = 1#1
    · have h4' := (cond4_iff t).1 h4
      have e0 : (gv c false (t.val + 1) : sProp 𝕄) = G2 c false (t.val + 1 + 2) := if_pos h4'
      have e1 : (gv c true (t.val + 1) : sProp 𝕄) = G2 c true (t.val + 1 + 2) := if_pos h4'
      simp only [dif_pos h4]
      ihave Hg1 := (Entails.of_eq e0) $$ Hg1
      ihave Hg2 := (Entails.of_eq e1) $$ Hg2
      ihave Hx1 := (heldV_split c _ _) $$ Hx1
      icases Hx1 with ⟨HxL, Hx1⟩
      iapply (send_x (xcs x) (acs x p) K c false (t.val + 1) (by omega) (show t.val + 1 < 31 by omega) (semA_of_off false false false (sl (t.val + 1)) (k0_off7_eq t) _)
        (semA_of_off false false true (sl (t.val + 2)) (k0_off8_eq t) _) (dev_right c _ (k0_dev11_eq c)) (slotM_of_off false false (sl (t.val + 2)) (k0_off9_eq t) _)
        (slotM_of_off false false (sl (t.val + 1)) (k0_off10_eq t) _) (O + sd false true c (t.val + 1))) $$ [Hs1 Ht1 HxL Hgx1 Hg2 HO]
      · isplitr; · iexact Hi
        isplitl [Hs1]; · iexact Hs1
        isplitl [Ht1]; · iexact Ht1
        isplitl [HxL]; · iexact HxL
        isplitl [Hgx1]; · iexact Hgx1
        isplitl [Hg2]; · iexact Hg2
        iexact HO
      iintro ⟨HO, Hs1, Ho1⟩
      ihave Hx2 := (heldV_split c _ _) $$ Hx2
      icases Hx2 with ⟨HxL, Hx2⟩
      iapply (send_x (xcs x) (acs x p) K c true (t.val + 1) (by omega) (show t.val + 1 < 31 by omega) (semA_of_off false true false (sl (t.val + 1)) (k0_off7_eq t) _)
        (semA_of_off false true true (sl (t.val + 2)) (k0_off8_eq t) _) (dev_left c _ (k0_dev12_eq c)) (slotM_of_off false true (sl (t.val + 2)) (k0_off9_eq t) _)
        (slotM_of_off false true (sl (t.val + 1)) (k0_off10_eq t) _) O) $$ [Hs2 Ht2 HxL Hgx2 Hg1 HO]
      · isplitr; · iexact Hi
        isplitl [Hs2]; · iexact Hs2
        isplitl [Ht2]; · iexact Ht2
        isplitl [HxL]; · iexact HxL
        isplitl [Hgx2]; · iexact Hgx2
        isplitl [Hg1]; · iexact Hg1
        iexact HO
      iintro ⟨HO, Hs2, Ho2⟩
      have k1 : (keepX x c false (t.val + 1) : sProp 𝕄) = slotAt c false false (sl (t.val + 1)) qR (xcs x false c (t.val + 1)) := by unfold keepX; rw [if_pos h4']
      have o1 : (outX c false (t.val + 1) : sProp 𝕄) = cred (tallyAt (sndC false false (sl (t.val + 1)) c) 0 N) := if_pos h4'
      have k2 : (keepX x c true (t.val + 1) : sProp 𝕄) = slotAt c false true (sl (t.val + 1)) qR (xcs x true c (t.val + 1)) := by unfold keepX; rw [if_pos h4']
      have o2 : (outX c true (t.val + 1) : sProp 𝕄) = cred (tallyAt (sndC false true (sl (t.val + 1)) c) 0 N) := if_pos h4'
      iapply (load_slot c false false (sl (t.val + 1)) (k0_off11_eq t) qR (xcs x false c (t.val + 1))) $$ Hx1
      iintro Hx1
      iapply (load_slot c false true (sl (t.val + 1)) (k0_off11_eq t) qR (xcs x true c (t.val + 1))) $$ Hx2
      iintro Hx2
      iapply (load_in c (Memref.whole cc0_stg1_0) (Rect.unit (s := S512x512) ![0, 0] S512x512.size inb_S512x512_S512x512_0_0) fullShare (p c).wq) $$ Hq
      iintro Hq
      iapply (load_in c (Memref.whole cc0_stg3_0) (Rect.unit (s := S2x8x128x64) ![0, 0, 0, 0] S1x1x128x64.size inb_S2x8x128x64_S1x1x128x64_0_0_0_0) fullShare (p c).kt) $$ Hkt
      iintro Hkt
      iapply (le_wp_ret _ _ _ _ Q)
      rw [k1, k2, o1, o2]
      iapply Hk $$ Hp1 [Hcs1 Hcs2] [Hs1 Ho1] [Hs2 Ho2] Hx1 Hx2 Hga1 Hga2 [Hq Hwo Hkt Hvt] HO
      · isplitl [Hcs1]; · iexact Hcs1
        iexact Hcs2
      · isplitl [Hs1]; · iexact Hs1
        iexact Ho1
      · isplitl [Hs2]; · iexact Hs2
        iexact Ho2
      · isplitl [Hq]; · iexact Hq
        isplitl [Hwo]; · iexact Hwo
        isplitl [Hkt]; · iexact Hkt
        iexact Hvt
    · have h4' : ¬t.val + 1 ≤ 30 := fun e => h4 ((cond4_iff t).2 e)
      simp only [dif_neg h4]
      rw [sd_out c false true _ (show ¬t.val + 1 < 31 by omega), sd_out c false false _ (show ¬t.val + 1 < 31 by omega), add_zero, add_zero]
      have k1 : (keepX x c false (t.val + 1) : sProp 𝕄) = slotAt c false false (sl (t.val + 1)) fullShare (xcs x false c (t.val + 1)) := by unfold keepX; rw [if_neg h4']
      have o1 : (outX c false (t.val + 1) : sProp 𝕄) = iprop(emp) := if_neg h4'
      have k2 : (keepX x c true (t.val + 1) : sProp 𝕄) = slotAt c false true (sl (t.val + 1)) fullShare (xcs x true c (t.val + 1)) := by unfold keepX; rw [if_neg h4']
      have o2 : (outX c true (t.val + 1) : sProp 𝕄) = iprop(emp) := if_neg h4'
      iapply (load_slot c false false (sl (t.val + 1)) (k0_off11_eq t) fullShare (xcs x false c (t.val + 1))) $$ Hx1
      iintro Hx1
      iapply (load_slot c false true (sl (t.val + 1)) (k0_off11_eq t) fullShare (xcs x true c (t.val + 1))) $$ Hx2
      iintro Hx2
      iapply (load_in c (Memref.whole cc0_stg1_0) (Rect.unit (s := S512x512) ![0, 0] S512x512.size inb_S512x512_S512x512_0_0) fullShare (p c).wq) $$ Hq
      iintro Hq
      iapply (load_in c (Memref.whole cc0_stg3_0) (Rect.unit (s := S2x8x128x64) ![0, 0, 0, 0] S1x1x128x64.size inb_S2x8x128x64_S1x1x128x64_0_0_0_0) fullShare (p c).kt) $$ Hkt
      iintro Hkt
      iapply (le_wp_ret _ _ _ _ Q)
      rw [k1, k2, o1, o2]
      iapply Hk $$ Hp1 [Hcs1 Hcs2] [Hs1] [Hs2] Hx1 Hx2 Hga1 Hga2 [Hq Hwo Hkt Hvt] HO
      · isplitl [Hcs1]; · iexact Hcs1
        iexact Hcs2
      · isplitl [Hs1]; · iexact Hs1
        iempintro
      · isplitl [Hs2]; · iexact Hs2
        iempintro
      · isplitl [Hq]; · iexact Hq
        isplitl [Hwo]; · iexact Hwo
        isplitl [Hkt]; · iexact Hkt
        iexact Hvt
  · have h3' : ¬Scalar.cmpi .ne (Scalar.extui (Scalar.andi (Scalar.cmpi .sle (Scf.iv 1#32 1#32 t) 30#32) (Scalar.cmpi .sge (Scf.iv 1#32 1#32 t) 8#32)) : BitVec 32) 0#32 = 1#1 :=
      fun e => h3 ((guard3 t).1 e)
    simp only [dif_neg h3']
    ihave Hcs1 := (Entails.of_eq (crS_stay c false false (t.val + 1) h3).symm) $$ Hcs1
    ihave Hcs2 := (Entails.of_eq (crS_stay c false true (t.val + 1) h3).symm) $$ Hcs2
    by_cases h4 : k0_cond4 t = 1#1
    · have h4' := (cond4_iff t).1 h4
      have e0 : (gv c false (t.val + 1) : sProp 𝕄) = G2 c false (t.val + 1 + 2) := if_pos h4'
      have e1 : (gv c true (t.val + 1) : sProp 𝕄) = G2 c true (t.val + 1 + 2) := if_pos h4'
      simp only [dif_pos h4]
      ihave Hg1 := (Entails.of_eq e0) $$ Hg1
      ihave Hg2 := (Entails.of_eq e1) $$ Hg2
      ihave Hx1 := (heldV_split c _ _) $$ Hx1
      icases Hx1 with ⟨HxL, Hx1⟩
      iapply (send_x (xcs x) (acs x p) K c false (t.val + 1) (by omega) (show t.val + 1 < 31 by omega) (semA_of_off false false false (sl (t.val + 1)) (k0_off7_eq t) _)
        (semA_of_off false false true (sl (t.val + 2)) (k0_off8_eq t) _) (dev_right c _ (k0_dev11_eq c)) (slotM_of_off false false (sl (t.val + 2)) (k0_off9_eq t) _)
        (slotM_of_off false false (sl (t.val + 1)) (k0_off10_eq t) _) (O + sd false true c (t.val + 1))) $$ [Hs1 Ht1 HxL Hgx1 Hg2 HO]
      · isplitr; · iexact Hi
        isplitl [Hs1]; · iexact Hs1
        isplitl [Ht1]; · iexact Ht1
        isplitl [HxL]; · iexact HxL
        isplitl [Hgx1]; · iexact Hgx1
        isplitl [Hg2]; · iexact Hg2
        iexact HO
      iintro ⟨HO, Hs1, Ho1⟩
      ihave Hx2 := (heldV_split c _ _) $$ Hx2
      icases Hx2 with ⟨HxL, Hx2⟩
      iapply (send_x (xcs x) (acs x p) K c true (t.val + 1) (by omega) (show t.val + 1 < 31 by omega) (semA_of_off false true false (sl (t.val + 1)) (k0_off7_eq t) _)
        (semA_of_off false true true (sl (t.val + 2)) (k0_off8_eq t) _) (dev_left c _ (k0_dev12_eq c)) (slotM_of_off false true (sl (t.val + 2)) (k0_off9_eq t) _)
        (slotM_of_off false true (sl (t.val + 1)) (k0_off10_eq t) _) O) $$ [Hs2 Ht2 HxL Hgx2 Hg1 HO]
      · isplitr; · iexact Hi
        isplitl [Hs2]; · iexact Hs2
        isplitl [Ht2]; · iexact Ht2
        isplitl [HxL]; · iexact HxL
        isplitl [Hgx2]; · iexact Hgx2
        isplitl [Hg1]; · iexact Hg1
        iexact HO
      iintro ⟨HO, Hs2, Ho2⟩
      have k1 : (keepX x c false (t.val + 1) : sProp 𝕄) = slotAt c false false (sl (t.val + 1)) qR (xcs x false c (t.val + 1)) := by unfold keepX; rw [if_pos h4']
      have o1 : (outX c false (t.val + 1) : sProp 𝕄) = cred (tallyAt (sndC false false (sl (t.val + 1)) c) 0 N) := if_pos h4'
      have k2 : (keepX x c true (t.val + 1) : sProp 𝕄) = slotAt c false true (sl (t.val + 1)) qR (xcs x true c (t.val + 1)) := by unfold keepX; rw [if_pos h4']
      have o2 : (outX c true (t.val + 1) : sProp 𝕄) = cred (tallyAt (sndC false true (sl (t.val + 1)) c) 0 N) := if_pos h4'
      iapply (load_slot c false false (sl (t.val + 1)) (k0_off11_eq t) qR (xcs x false c (t.val + 1))) $$ Hx1
      iintro Hx1
      iapply (load_slot c false true (sl (t.val + 1)) (k0_off11_eq t) qR (xcs x true c (t.val + 1))) $$ Hx2
      iintro Hx2
      iapply (load_in c (Memref.whole cc0_stg1_0) (Rect.unit (s := S512x512) ![0, 0] S512x512.size inb_S512x512_S512x512_0_0) fullShare (p c).wq) $$ Hq
      iintro Hq
      iapply (load_in c (Memref.whole cc0_stg3_0) (Rect.unit (s := S2x8x128x64) ![0, 0, 0, 0] S1x1x128x64.size inb_S2x8x128x64_S1x1x128x64_0_0_0_0) fullShare (p c).kt) $$ Hkt
      iintro Hkt
      iapply (le_wp_ret _ _ _ _ Q)
      rw [k1, k2, o1, o2]
      iapply Hk $$ Hp1 [Hcs1 Hcs2] [Hs1 Ho1] [Hs2 Ho2] Hx1 Hx2 Hga1 Hga2 [Hq Hwo Hkt Hvt] HO
      · isplitl [Hcs1]; · iexact Hcs1
        iexact Hcs2
      · isplitl [Hs1]; · iexact Hs1
        iexact Ho1
      · isplitl [Hs2]; · iexact Hs2
        iexact Ho2
      · isplitl [Hq]; · iexact Hq
        isplitl [Hwo]; · iexact Hwo
        isplitl [Hkt]; · iexact Hkt
        iexact Hvt
    · have h4' : ¬t.val + 1 ≤ 30 := fun e => h4 ((cond4_iff t).2 e)
      simp only [dif_neg h4]
      rw [sd_out c false true _ (show ¬t.val + 1 < 31 by omega), sd_out c false false _ (show ¬t.val + 1 < 31 by omega), add_zero, add_zero]
      have k1 : (keepX x c false (t.val + 1) : sProp 𝕄) = slotAt c false false (sl (t.val + 1)) fullShare (xcs x false c (t.val + 1)) := by unfold keepX; rw [if_neg h4']
      have o1 : (outX c false (t.val + 1) : sProp 𝕄) = iprop(emp) := if_neg h4'
      have k2 : (keepX x c true (t.val + 1) : sProp 𝕄) = slotAt c false true (sl (t.val + 1)) fullShare (xcs x true c (t.val + 1)) := by unfold keepX; rw [if_neg h4']
      have o2 : (outX c true (t.val + 1) : sProp 𝕄) = iprop(emp) := if_neg h4'
      iapply (load_slot c false false (sl (t.val + 1)) (k0_off11_eq t) fullShare (xcs x false c (t.val + 1))) $$ Hx1
      iintro Hx1
      iapply (load_slot c false true (sl (t.val + 1)) (k0_off11_eq t) fullShare (xcs x true c (t.val + 1))) $$ Hx2
      iintro Hx2
      iapply (load_in c (Memref.whole cc0_stg1_0) (Rect.unit (s := S512x512) ![0, 0] S512x512.size inb_S512x512_S512x512_0_0) fullShare (p c).wq) $$ Hq
      iintro Hq
      iapply (load_in c (Memref.whole cc0_stg3_0) (Rect.unit (s := S2x8x128x64) ![0, 0, 0, 0] S1x1x128x64.size inb_S2x8x128x64_S1x1x128x64_0_0_0_0) fullShare (p c).kt) $$ Hkt
      iintro Hkt
      iapply (le_wp_ret _ _ _ _ Q)
      rw [k1, k2, o1, o2]
      iapply Hk $$ Hp1 [Hcs1 Hcs2] [Hs1] [Hs2] Hx1 Hx2 Hga1 Hga2 [Hq Hwo Hkt Hvt] HO
      · isplitl [Hcs1]; · iexact Hcs1
        iexact Hcs2
      · isplitl [Hs1]; · iexact Hs1
        iempintro
      · isplitl [Hs2]; · iexact Hs2
        iempintro
      · isplitl [Hq]; · iexact Hq
        isplitl [Hwo]; · iexact Hwo
        isplitl [Hkt]; · iexact Hkt
        iexact Hvt

set_option maxRecDepth 65536 in
theorem part12_run (t : Fin k0_t1_loop.trips) (v2 v7 v422 : BitVec 32) (O : CellTallies nD τ sig ℕ) (hO : Above (2 * (t.val + 1)) O) {Q : _ → sProp 𝕄} :
    iprop(env (xcs x) (acs x p) K c ∗ (cred (tallyAt (rcvC true false (sl (t.val + 1)) c) (t.val + 1) N) ∗ posR c true false (t.val + 1))
        ∗ (crCred c true false (t.val + 1) ∗ crS c true false (t.val + 1)) ∗ ro c (p c) ∗ ow c O
        ∗ (posR c true false (t.val + 2) -∗ crS c true false (t.val + 2)
            -∗ slotAt c true false (sl (t.val + 1)) fullShare (acs x p false c (t.val + 1)) -∗ ro c (p c) -∗ ow c O
            -∗ Q (k0_pay32 (attend (p c) (xcs x false c (t.val + 1)) (xcs x true c (t.val + 1))) (ldW (p c).wo))))
      ⊢ (wp frame (wpE (defs₀ (F := F)) 𝒱₀ ((c : Dev nD) : Thread nD τ) none) Set.univ) (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 v2 v7 t (Scf.iv 1#32 1#32 t) v422 (attend (p c) (xcs x false c (t.val + 1)) (xcs x true c (t.val + 1)))) Q := by
  have ht : t.val < 31 := trips_eq ▸ t.isLt
  rw [k0_part12_eq_skeleton]
  have e : (Q (k0_pay32 (attend (p c) (xcs x false c (t.val + 1)) (xcs x true c (t.val + 1))) (ldW (p c).wo)) : sProp 𝕄)
      = Q (k0_pay32 (attend (p c) (xcs x false c (t.val + 1)) (xcs x true c (t.val + 1))) (rd (Rect.unit (s := S512x512) ![0, 0] S512x512.size inb_S512x512_S512x512_0_0) (p c).wo)) := rfl
  have ea : (slotAt c true false (sl (t.val + 1)) fullShare (acs x p false c (t.val + 1)) : sProp 𝕄)
      = slotAt c true false (sl (t.val + 1)) fullShare (k0_pay33 (attend (p c) (xcs x false c (t.val + 1)) (xcs x true c (t.val + 1))) (rd (Rect.unit (s := S512x512) ![0, 0] S512x512.size inb_S512x512_S512x512_0_0) (p c).wo) (acs x p false (nxt true c) t.val)) := rfl
  have er : rcvPay (xcs x) (acs x p) c true false (t.val + 1) = slotAt c true false (sl (t.val + 1)) fullShare (acs x p false (nxt true c) t.val) := by
    unfold rcvPay; rw [if_pos rfl]; rfl
  rw [e, ea]
  iintro ⟨#He, ⟨Hc1, Hp1⟩, ⟨Hcc, Hcs⟩, Hro, HO, Hk⟩
  ihave #Hi := (env_invs (xcs x) (acs x p) K c) $$ He
  ihave #Hlev := (env_lev (xcs x) (acs x p) K c) $$ He
  unfold ro
  icases Hro with ⟨Hq, Hwo, Hkt, Hvt⟩
  iapply (load_in c (Memref.whole cc0_stg2_0) (Rect.unit (s := S512x512) ![0, 0] S512x512.size inb_S512x512_S512x512_0_0) fullShare (p c).wo) $$ Hwo
  iintro Hwo
  iapply (wait_rcv (xcs x) (acs x p) K c true false (t.val + 1) (by omega) (show t.val + 1 ≤ 32 by omega) (semA_of_off true false true (sl (t.val + 1)) (k0_off5_eq t) _)
    ⟨sl (t.val + 1), slotM_of_off true false (sl (t.val + 1)) (k0_off6_eq t) _⟩ _ hO) $$ [Hc1 HO Hp1]
  · isplitr; · iexact Hi
    isplitr; · iexact Hlev
    isplitl [Hc1]; · iexact Hc1
    isplitl [HO]; · iexact HO
    iexact Hp1
  iintro ⟨HO, Hp1, Hb⟩
  ihave Hb := (Entails.of_eq er) $$ Hb
  iapply (load_slot c true false (sl (t.val + 1)) (k0_off11_eq t) fullShare _) $$ Hb
  iintro Hb
  iapply (load_slot c true false (sl (t.val + 1)) (k0_off11_eq t) fullShare _) $$ Hb
  iintro Hb
  ihave Hb := (freeV_of_heldV c _ _) $$ Hb
  iapply (store_slot c true false (sl (t.val + 1)) (k0_off11_eq t)) $$ Hb
  iintro Hb
  by_cases h3 : 8 ≤ t.val + 1 ∧ t.val + 1 ≤ 31
  · simp only [dif_pos ((guard12 t).2 h3)]
    iapply (wait_crS (xcs x) (acs x p) K c true false (t.val + 1) h3 (z := (1#32 : BitVec 32).toInt) (by decide) (sem := crN true false) rfl _ hO) $$ [Hcc HO Hcs]
    · isplitr; · iexact Hi
      isplitr; · iexact Hlev
      isplitl [Hcc]; · iexact Hcc
      isplitl [HO]; · iexact HO
      iexact Hcs
    iintro ⟨HO, Hcs⟩
    iapply (le_wp_ret _ _ _ _ Q)
    iapply Hk $$ Hp1 Hcs Hb [Hq Hwo Hkt Hvt] HO
    · isplitl [Hq]; · iexact Hq
      isplitl [Hwo]; · iexact Hwo
      isplitl [Hkt]; · iexact Hkt
      iexact Hvt
  · have h3' : ¬Scalar.cmpi .ne (Scalar.extui (Scalar.cmpi .sge (Scf.iv 1#32 1#32 t) 8#32) : BitVec 32) 0#32 = 1#1 := fun e => h3 ((guard12 t).1 e)
    simp only [dif_neg h3']
    ihave Hcs := (Entails.of_eq (crS_stay c true false (t.val + 1) h3).symm) $$ Hcs
    iapply (le_wp_ret _ _ _ _ Q)
    iapply Hk $$ Hp1 Hcs Hb [Hq Hwo Hkt Hvt] HO
    · isplitl [Hq]; · iexact Hq
      isplitl [Hwo]; · iexact Hwo
      isplitl [Hkt]; · iexact Hkt
      iexact Hvt

set_option maxRecDepth 65536 in
theorem part13_run (t : Fin k0_t1_loop.trips) (v2 v422 : BitVec 32) (O : CellTallies nD τ sig ℕ) (hO : Above (2 * (t.val + 1)) O) {Q : _ → sProp 𝕄} :
    iprop(env (xcs x) (acs x p) K c ∗ (posS c true false (t.val + 2) ∗ sdTok c true false (t.val + 1))
        ∗ slotAt c true false (sl (t.val + 1)) fullShare (acs x p false c (t.val + 1)) ∗ grant (nxt false c) true false (t.val + 2)
        ∗ (cred (tallyAt (rcvC true true (sl (t.val + 1)) c) (t.val + 1) N) ∗ posR c true true (t.val + 1))
        ∗ (crCred c true true (t.val + 1) ∗ crS c true true (t.val + 1)) ∗ ow c (O + sd true false c (t.val + 1))
        ∗ ((posS c true false (t.val + 2) ∗ cred (tallyAt (sndC true false (sl (t.val + 1)) c) 0 N)) -∗ posR c true true (t.val + 2) -∗ crS c true true (t.val + 2)
            -∗ slotAt c true true (sl (t.val + 1)) fullShare (acs x p true c (t.val + 1)) -∗ ow c O
            -∗ Q ⟨Scalar.addi (Scf.iv 1#32 1#32 t) 1#32, 8#32⟩))
      ⊢ (wp frame (wpE (defs₀ (F := F)) 𝒱₀ ((c : Dev nD) : Thread nD τ) none) Set.univ) (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 c v2 t (Scf.iv 1#32 1#32 t) v422 (k0_pay32 (attend (p c) (xcs x false c (t.val + 1)) (xcs x true c (t.val + 1))) (ldW (p c).wo))) Q := by
  have ht : t.val < 31 := trips_eq ▸ t.isLt
  rw [k0_part13_eq_skeleton]
  have ea : (slotAt c true true (sl (t.val + 1)) fullShare (acs x p true c (t.val + 1)) : sProp 𝕄)
      = slotAt c true true (sl (t.val + 1)) fullShare (k0_pay34 (k0_pay32 (attend (p c) (xcs x false c (t.val + 1)) (xcs x true c (t.val + 1))) (ldW (p c).wo)) (acs x p true (nxt false c) t.val)) := rfl
  have er : rcvPay (xcs x) (acs x p) c true true (t.val + 1) = slotAt c true true (sl (t.val + 1)) fullShare (acs x p true (nxt false c) t.val) := by
    unfold rcvPay; rw [if_pos rfl]; rfl
  rw [ea]
  iintro ⟨#He, ⟨Hs, Htk⟩, Ha, Hg, ⟨Hc1, Hp1⟩, ⟨Hcc, Hcs⟩, HO, Hk⟩
  ihave #Hi := (env_invs (xcs x) (acs x p) K c) $$ He
  ihave #Hlev := (env_lev (xcs x) (acs x p) K c) $$ He
  iapply (send_a (xcs x) (acs x p) K c false (t.val + 1) (show t.val + 1 < 32 by omega) (semA_of_off true false false (sl (t.val + 1)) (k0_off5_eq t) _)
    (semA_of_off true false true (sl (t.val + 2)) (k0_off12_eq t) _) (dev_right c _ (k0_dev13_eq c)) (slotM_of_off true false (sl (t.val + 2)) (k0_off13_eq t) _)
    (slotM_of_off true false (sl (t.val + 1)) (k0_off6_eq t) _) O) $$ [Hs Htk Ha Hg HO]
  · isplitr; · iexact Hi
    isplitl [Hs]; · iexact Hs
    isplitl [Htk]; · iexact Htk
    isplitl [Ha]; · iexact Ha
    isplitl [Hg]; · iexact Hg
    iexact HO
  iintro ⟨HO, Hs, Ho⟩
  iapply (wait_rcv (xcs x) (acs x p) K c true true (t.val + 1) (by omega) (show t.val + 1 ≤ 32 by omega) (semA_of_off true true true (sl (t.val + 1)) (k0_off5_eq t) _)
    ⟨sl (t.val + 1), slotM_of_off true true (sl (t.val + 1)) (k0_off6_eq t) _⟩ _ hO) $$ [Hc1 HO Hp1]
  · isplitr; · iexact Hi
    isplitr; · iexact Hlev
    isplitl [Hc1]; · iexact Hc1
    isplitl [HO]; · iexact HO
    iexact Hp1
  iintro ⟨HO, Hp1, Hb⟩
  ihave Hb := (Entails.of_eq er) $$ Hb
  iapply (load_slot c true true (sl (t.val + 1)) (k0_off11_eq t) fullShare _) $$ Hb
  iintro Hb
  iapply (load_slot c true true (sl (t.val + 1)) (k0_off11_eq t) fullShare _) $$ Hb
  iintro Hb
  ihave Hb := (freeV_of_heldV c _ _) $$ Hb
  iapply (store_slot c true true (sl (t.val + 1)) (k0_off11_eq t)) $$ Hb
  iintro Hb
  by_cases h3 : 8 ≤ t.val + 1 ∧ t.val + 1 ≤ 31
  · simp only [dif_pos ((guard12 t).2 h3)]
    iapply (wait_crS (xcs x) (acs x p) K c true true (t.val + 1) h3 (z := (1#32 : BitVec 32).toInt) (by decide) (sem := crN true true) rfl _ hO) $$ [Hcc HO Hcs]
    · isplitr; · iexact Hi
      isplitr; · iexact Hlev
      isplitl [Hcc]; · iexact Hcc
      isplitl [HO]; · iexact HO
      iexact Hcs
    iintro ⟨HO, Hcs⟩
    iapply (le_wp_ret _ _ _ _ Q)
    iapply Hk $$ [Hs Ho] Hp1 Hcs Hb HO
    · isplitl [Hs]; · iexact Hs
      iexact Ho
  · have h3' : ¬Scalar.cmpi .ne (Scalar.extui (Scalar.cmpi .sge (Scf.iv 1#32 1#32 t) 8#32) : BitVec 32) 0#32 = 1#1 := fun e => h3 ((guard12 t).1 e)
    simp only [dif_neg h3']
    ihave Hcs := (Entails.of_eq (crS_stay c true true (t.val + 1) h3).symm) $$ Hcs
    iapply (le_wp_ret _ _ _ _ Q)
    iapply Hk $$ [Hs Ho] Hp1 Hcs Hb HO
    · isplitl [Hs]; · iexact Hs
      iexact Ho

end Cert.Proof.Ring

end
-- ==== Proof.State.lean ====
/-
  The device's state between hops, and how a hop takes from it and gives back.
-/
module

public import proofs.«01_k».proof.Proof.HopB

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
variable (x : Bool → Dev nD → Blk F) (p : Dev nD → Par F) (K : GSem nD τ sig → ℕ) (c : Dev nD)

/-! ## Slots not lent, not granted -/

/-- Slot `j` before hop `k`: lent or kept as message `k - 1`, granted for index `k` or `k + 1`, or free. -/
def fr1 (kd d : Bool) (k : ℕ) (j : Fin 8) : sProp 𝕄 :=
  if j = sl (k - 1) ∨ (k ≤ M kd ∧ j = sl k) ∨ (k + 1 ≤ M kd ∧ j = sl (k + 1)) then iprop(emp) else slotFree (F := F) c kd d j
def frs (kd d : Bool) (k : ℕ) : sProp 𝕄 := bigSep Finset.univ (fr1 (F := F) c kd d k)
/-- The same within the hop: the slot of index `k + 2` is granted too. -/
def fm1 (kd d : Bool) (k : ℕ) (j : Fin 8) : sProp 𝕄 :=
  if j = sl (k - 1) ∨ (k ≤ M kd ∧ j = sl k) ∨ (k + 1 ≤ M kd ∧ j = sl (k + 1)) ∨ (k + 2 ≤ M kd ∧ j = sl (k + 2)) then iprop(emp)
  else slotFree (F := F) c kd d j
def frm (kd d : Bool) (k : ℕ) : sProp 𝕄 := bigSep Finset.univ (fm1 (F := F) c kd d k)

theorem sl_ne {a b : ℕ} (h1 : a < b) (h2 : b < a + 8) : sl a ≠ sl b := fun e => by
  have := congrArg Fin.val e
  change a % 8 = b % 8 at this
  omega

theorem sepE (P : sProp 𝕄) : (iprop(P ∗ emp) : sProp 𝕄) = P := equiv_iff.mp sep_emp
theorem Esep (P : sProp 𝕄) : (iprop(emp ∗ P) : sProp 𝕄) = P := equiv_iff.mp emp_sep

theorem one_slot (P : Fin 8 → sProp 𝕄) (j₀ : Fin 8) : P j₀ = bigSep Finset.univ (fun j => if j = j₀ then P j else iprop(emp)) := by
  rw [bigSep_erase (Finset.mem_univ j₀), if_pos rfl]
  have : (bigSep (Finset.univ.erase j₀) fun j => if j = j₀ then P j else iprop(emp)) = (iprop(emp) : sProp 𝕄) := by
    refine (bigSep_congr (Ψ := fun _ => iprop(emp)) (fun j hj => if_neg (Finset.ne_of_mem_erase hj))).trans ?_
    exact bigSep_emp_const _
  rw [this]; exact (sepE _).symm

theorem opt_slot (P : Fin 8 → sProp 𝕄) (j₀ : Fin 8) (b : Prop) [Decidable b] :
    (if b then P j₀ else iprop(emp)) = bigSep Finset.univ (fun j => if b ∧ j = j₀ then P j else iprop(emp)) := by
  by_cases h : b
  · rw [if_pos h, one_slot P j₀]
    exact bigSep_congr fun j _ => by by_cases e : j = j₀ <;> simp [h, e]
  · rw [if_neg h]
    refine ((bigSep_congr (Ψ := fun _ => iprop(emp)) (fun j hj => if_neg (fun e => h e.1))).trans ?_).symm
    exact bigSep_emp_const _

theorem frs_give (kd d : Bool) (k : ℕ) (h1 : 1 ≤ k) (h2 : k ≤ 31) :
    (frs c kd d k : sProp 𝕄) = iprop((if k + 2 ≤ M kd then slotFree c kd d (sl (k + 2)) else iprop(emp)) ∗ frm c kd d k) := by
  have hM : 31 ≤ M kd := Nat.le_add_right _ _
  rw [opt_slot (fun j => slotFree c kd d j) (sl (k + 2)) (k + 2 ≤ M kd)]
  unfold frs frm
  refine Eq.trans ?_ (bigSep_sep _ _ _)
  refine bigSep_congr fun j _ => ?_
  have n3 : sl (k - 1) ≠ sl (k + 2) := sl_ne (by omega) (by omega)
  have n5 : sl k ≠ sl (k + 2) := sl_ne (by omega) (by omega)
  have n6 : sl (k + 1) ≠ sl (k + 2) := sl_ne (by omega) (by omega)
  unfold fr1 fm1
  by_cases hh : k + 2 ≤ M kd
  · by_cases a4 : j = sl (k + 2)
    · subst a4; simp [n3.symm, n5.symm, n6.symm, hh]; exact (sepE _).symm
    · simp [a4]; exact (Esep _).symm
  · simp [hh]; exact (Esep _).symm

theorem frs_back (kd d : Bool) (k : ℕ) (h1 : 1 ≤ k) (h2 : k ≤ 31) :
    (iprop(slotFree c kd d (sl (k - 1)) ∗ frm c kd d k) : sProp 𝕄) = frs c kd d (k + 1) := by
  have hM : 31 ≤ M kd := Nat.le_add_right _ _
  rw [one_slot (fun j => slotFree c kd d j) (sl (k - 1))]
  unfold frs frm
  refine ((bigSep_sep _ _ _).symm).trans ?_
  refine bigSep_congr fun j _ => ?_
  have n1 : sl (k - 1) ≠ sl k := sl_ne (by omega) (by omega)
  have n2 : sl (k - 1) ≠ sl (k + 1) := sl_ne (by omega) (by omega)
  have n3 : sl (k - 1) ≠ sl (k + 2) := sl_ne (by omega) (by omega)
  have hk : k ≤ M kd := by omega
  unfold fr1 fm1
  rw [Nat.add_sub_cancel]
  by_cases a1 : j = sl (k - 1)
  · subst a1; simp [n1, n2, n3]; exact sepE _
  · simp [a1, hk]; exact Esep _

theorem posR_dup (kd d : Bool) (k i : ℕ) (h : rcvR (sl i) k = (i - 1) / 8) :
    (posR c kd d k : sProp 𝕄) ⊢ iprop(reached ER (rcvC kd d (sl i) c) ((i - 1) / 8) ∗ posR c kd d k) := by
  have h0 := bigSep_erase (Finset.mem_univ (sl i)) (Φ := fun j : Fin 8 => (pos (rcvC kd d j c) (rcvR j k) : sProp 𝕄))
  rw [h] at h0
  have h1 : (posR c kd d k : sProp 𝕄) = iprop(pos (rcvC kd d (sl i) c) ((i - 1) / 8) ∗ bigSep (Finset.univ.erase (sl i)) fun j => pos (rcvC kd d j c) (rcvR j k)) := h0
  rw [h1]; unfold pos
  iintro ⟨⟨Ha, #Hr⟩, Hrest⟩
  isplitr; · iexact Hr
  isplitl [Ha]
  · isplitl [Ha]; · iexact Ha
    iexact Hr
  iexact Hrest

theorem gv_of (d : Bool) (k : ℕ) (h1 : 1 ≤ k) :
    (iprop((if k + 2 ≤ M false then slotFree c false d (sl (k + 2)) else iprop(emp)) ∗ (if k + 2 ≤ M true then slotFree c true d (sl (k + 2)) else iprop(emp))
        ∗ reached ER (rcvC false d (sl (k + 2)) c) ((k + 2 - 1) / 8) ∗ reached ER (rcvC true d (sl (k + 2)) c) ((k + 2 - 1) / 8)) : sProp 𝕄)
      ⊢ gv c d k := by
  by_cases h : k ≤ 30
  · have e : (gv c d k : sProp 𝕄) = G2 c d (k + 2) := if_pos h
    rw [e]
    have ha : k + 2 ≤ M true := by show k + 2 ≤ 32; omega
    unfold G2 grant
    rw [if_pos ha, if_pos ha]
    by_cases hx : k + 2 ≤ M false
    · rw [if_pos hx, if_pos hx]
      iintro ⟨Hx, Ha, Hr, Hs⟩
      isplitl [Hx Hr]
      · isplitl [Hx]; · iexact Hx
        iexact Hr
      isplitl [Ha]; · iexact Ha
      iexact Hs
    · rw [if_neg hx, if_neg hx]
      iintro ⟨Hx, Ha, -, Hs⟩
      isplitl [Hx]; · iexact Hx
      isplitl [Ha]; · iexact Ha
      iexact Hs
  · have e : (gv c d k : sProp 𝕄) = iprop(emp) := if_neg h
    rw [e]; iintro -; iempintro

/-- The slots of index `k + 2` for one direction, ready to give. -/
theorem take_gv (d : Bool) (k : ℕ) (h1 : 1 ≤ k) (h2 : k ≤ 31) :
    (iprop(frs c false d k ∗ frs c true d k ∗ posR c false d k ∗ posR c true d k) : sProp 𝕄)
      ⊢ iprop(gv c d k ∗ frm c false d k ∗ frm c true d k ∗ posR c false d k ∗ posR c true d k) := by
  rw [frs_give c false d k h1 h2, frs_give c true d k h1 h2]
  iintro ⟨⟨Hx, Hfx⟩, ⟨Ha, Hfa⟩, Hp, Hq⟩
  ihave Hp := (posR_dup c false d k (k + 2) (rcvR_ahead k (k + 2) (by omega) (by omega) (by omega))) $$ Hp
  ihave Hq := (posR_dup c true d k (k + 2) (rcvR_ahead k (k + 2) (by omega) (by omega) (by omega))) $$ Hq
  icases Hp with ⟨#Hr, Hp⟩
  icases Hq with ⟨#Hs, Hq⟩
  isplitl [Hx Ha]
  · iapply (gv_of c d k h1)
    isplitl [Hx]; · iexact Hx
    isplitl [Ha]; · iexact Ha
    isplitr; · iexact Hr
    iexact Hs
  isplitl [Hfx]; · iexact Hfx
  isplitl [Hfa]; · iexact Hfa
  isplitl [Hp]; · iexact Hp
  iexact Hq

/-! ## The x block kept between hops -/

/-- Before hop `k`: at first half the own block and a free slot 0, later the block of hop `k - 1` and the own block whole. -/
def IX (d : Bool) (k : ℕ) : sProp 𝕄 :=
  if k = 1 then iprop(slotFree c false d (sl 0) ∗ heldV c (xV d) qR (xcs x d c 0))
  else iprop(keepX x c d (k - 1) ∗ heldV c (xV d) fullShare (xcs x d c 0))

/-- The send of message `k - 1` is over: its slot is free, the own block whole. -/
theorem rel_x (As : Bool → Dev nD → ℕ → Blk F) (d : Bool) (k : ℕ) (h1 : 1 ≤ k) (h2 : k ≤ 31) :
    (iprop(IX x c d k ∗ sndPay (xcs x) As c false d (k - 1)) : sProp 𝕄)
      ⊢ iprop(slotFree c false d (sl (k - 1)) ∗ heldV c (xV d) fullShare (xcs x d c 0)) := by
  by_cases h : k = 1
  · subst h
    have e1 : IX x c d 1 = iprop(slotFree c false d (sl 0) ∗ heldV c (xV d) qR (xcs x d c 0)) := if_pos rfl
    have e2 : sndPay (xcs x) As c false d (1 - 1) = heldV c (xV d) qL (xcs x d c 0) := (if_neg (by decide)).trans (if_pos rfl)
    rw [e1, e2]
    iintro ⟨⟨Hs, Hr⟩, Hl⟩
    isplitl [Hs]; · iexact Hs
    iapply (heldV_join c (xV d) _)
    isplitl [Hl]; · iexact Hl
    iexact Hr
  · have e1 : IX x c d k = iprop(keepX x c d (k - 1) ∗ heldV c (xV d) fullShare (xcs x d c 0)) := if_neg h
    have e2 : sndPay (xcs x) As c false d (k - 1) = slotAt c false d (sl (k - 1)) qL (xcs x d c (k - 1)) := (if_neg (by decide)).trans (if_neg (by omega))
    have e3 : keepX x c d (k - 1) = slotAt c false d (sl (k - 1)) qR (xcs x d c (k - 1)) := by unfold keepX; rw [if_pos (by omega)]
    rw [e1, e2, e3]
    iintro ⟨⟨Hr, Hx⟩, Hl⟩
    isplitl [Hl Hr]
    · iapply (freeV_of_heldV c _ _)
      iapply (heldV_join c _ _)
      isplitl [Hl]; · iexact Hl
      iexact Hr
    iexact Hx

/-! ## The state between hops -/

def rcvCr (kd d : Bool) (k : ℕ) : sProp 𝕄 := cred (tallyAt (rcvC kd d (sl k) c) k N)
/-- Everything hop `k` spends: tokens for its signals and sends, credits for its waits. -/
def hopRes (k : ℕ) : sProp 𝕄 :=
  iprop((sgTok c false false k ∗ sgTok c false true k ∗ sgTok c true false k ∗ sgTok c true true k)
    ∗ (sdTok c false false k ∗ sdTok c false true k ∗ sdTok c true false k ∗ sdTok c true true k)
    ∗ (rcvCr (F := F) c false false k ∗ rcvCr c false true k ∗ rcvCr c true false k ∗ rcvCr c true true k)
    ∗ (crCred c false false k ∗ crCred c false true k ∗ crCred c true false k ∗ crCred c true true k))
def fut (k : ℕ) : sProp 𝕄 := bigSep (Finset.Ico k 32) (hopRes (F := F) c)

theorem fut_pop (k : ℕ) (hk : k < 32) : (fut c k : sProp 𝕄) = iprop(hopRes c k ∗ fut c (k + 1)) := by
  unfold fut
  rw [Ico_pop k hk, bigSep_insert (by simp)]; rfl

/-- The wait credit of message `k`'s accumulator send. -/
def outA (d : Bool) (k : ℕ) : sProp 𝕄 := cred (tallyAt (sndC true d (sl k) c) 0 N)

/-- The device's state before hop `k`. -/
def hopSt (k : ℕ) : sProp 𝕄 :=
  iprop(env (xcs x) (acs x p) K c
    ∗ (posS c false false k ∗ posS c false true k ∗ posS c true false k ∗ posS c true true k)
    ∗ (posR c false false k ∗ posR c false true k ∗ posR c true false k ∗ posR c true true k)
    ∗ (crS c false false k ∗ crS c false true k ∗ crS c true false k ∗ crS c true true k)
    ∗ (IX x c false k ∗ IX x c true k) ∗ (outX c false (k - 1) ∗ outX c true (k - 1)) ∗ (outA c false (k - 1) ∗ outA c true (k - 1))
    ∗ (frs c false false k ∗ frs c false true k ∗ frs c true false k ∗ frs c true true k)
    ∗ fut c k ∗ ro c (p c) ∗ ow c (Orem c k))

end Cert.Proof.Ring

end
-- ==== Proof.Prolog.lean ====
/-
  The barrier and the first sends.
-/
module

public import proofs.«01_k».proof.Proof.State

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
variable (x : Bool → Dev nD → Blk F) (p : Dev nD → Par F) (Xs As : Bool → Dev nD → ℕ → Blk F) (K : GSem nD τ sig → ℕ) (c : Dev nD)

theorem off1_0 : k0_off1 0#32 = ![(sl 0).val] := by funext a; fin_cases a; decide +kernel
theorem off1_1 : k0_off1 1#32 = ![(sl 1).val] := by funext a; fin_cases a; decide +kernel
theorem off1_31 : k0_off1 31#32 = ![(sl 31).val] := by funext a; fin_cases a; decide +kernel
theorem off1_32 : k0_off1 32#32 = ![(sl 32).val] := by funext a; fin_cases a; decide +kernel
theorem off2_0 : k0_off2 0#32 = ![(sl 0).val, 0, 0] := by funext a; fin_cases a <;> decide +kernel
theorem off2_1 : k0_off2 1#32 = ![(sl 1).val, 0, 0] := by funext a; fin_cases a <;> decide +kernel
theorem off2_31 : k0_off2 31#32 = ![(sl 31).val, 0, 0] := by funext a; fin_cases a <;> decide +kernel
theorem off2_32 : k0_off2 32#32 = ![(sl 32).val, 0, 0] := by funext a; fin_cases a <;> decide +kernel

/-! ## The barrier -/

/-- One unit of a neighbour's barrier: it brings the neighbour this device's first slots, and word of its credit cells. -/
theorem signal_bar (d : Bool) {sem : Sem sig} {dst : Dev nD} {z : ℤ} (hz : z = ((1 : ℕ) : ℤ))
    {α : Type} {k : PUnit → Prog (TpuEff nD τ sig (Elt F) Λ₀ .tc) α} {Q : α → sProp 𝕄}
    (hs : sem = barS) (hd : dst = nxt (!d) c) (O : CellTallies nD τ sig ℕ) :
    iprop(invs Xs As K ∗ reached ER (barC (nxt (!d) c)) 0 ∗ dutyTok ER (barC (nxt (!d) c)) 0 d.toNat
        ∗ (G2 c d 1 ∗ reached ER (crC false (!d) c) 0 ∗ reached ER (crC true (!d) c) 0) ∗ ow c (O + tallyAt (barC (nxt (!d) c)) 0 1))
      ⊢ iprop((ow c O -∗ (wp frame (wpE (defs₀ (F := F)) 𝒱₀ ((c : Dev nD) : Thread nD τ) none) Set.univ) (k ⟨⟩) Q) -∗ (wp frame (wpE (defs₀ (F := F)) 𝒱₀ ((c : Dev nD) : Thread nD τ) none) Set.univ) (.op (.semSignal ((dst, Proc.tc) : Thread nD τ) sem z) k) Q) := by
  subst hs; subst hd; subst hz
  have e : barPay (F := F) (nxt (!d) c) d.toNat = iprop(G2 c d 1 ∗ reached ER (crC false (!d) c) 0 ∗ reached ER (crC true (!d) c) 0) := by
    unfold barPay
    have h : decide (d.toNat = 1) = d := by cases d <;> rfl
    rw [h]; unfold barPayD; rw [nxt_not]
  have hp := payload_bar Xs As (nxt (!d) c) 0 d.toNat
  rw [e] at hp
  unfold ow
  iintro ⟨#Hi, #Hr, Htok, Hpay, ⟨%W, HO⟩⟩ Hk
  iapply (Rounds.wp_signal 𝒱₀ ER (ringRd Xs As) (c : Thread nD τ) none (dst := (nxt (!d) c : Thread nD τ)) (sem := barS) (r := 0) (d := d.toNat)
      (κ := K (barC (nxt (!d) c)))
      (by rw [duties_bar]; cases d <;> decide) (amount_bar Xs As _ 0 _) 0 O rfl) $$ [HO Htok Hpay]
  · isplitr; · iapply (inv_bar Xs As K _); iexact Hi
    isplitl [HO]; · iexact HO
    isplitl [Htok]; · iexact Htok
    isplitl [Hpay]; · rw [hp]; iexact Hpay
    iexact Hr
  iintro HO
  iapply Hk
  iexists W; iexact HO

/-- The wait for both neighbours. -/
theorem wait_bar {sem : Sem sig} {z : ℤ} (hz : z = ((2 : ℕ) : ℤ))
    {α : Type} {k : PUnit → Prog (TpuEff nD τ sig (Elt F) Λ₀ .tc) α} {Q : α → sProp 𝕄}
    (hs : sem = barS) (O : CellTallies nD τ sig ℕ) (hO : Above 1 O) :
    iprop(invs Xs As K ∗ levAts L lv ∗ cred (tallyAt (barC c) 0 2) ∗ ow c O ∗ atPos ER (barC c) 0 ∅ 0)
      ⊢ iprop(((ow c O ∗ atPos ER (barC c) 1 ∅ 0 ∗ barPayD c false ∗ barPayD c true) -∗ (wp frame (wpE (defs₀ (F := F)) 𝒱₀ ((c : Dev nD) : Thread nD τ) none) Set.univ) (k ⟨⟩) Q) -∗ (wp frame (wpE (defs₀ (F := F)) 𝒱₀ ((c : Dev nD) : Thread nD τ) none) Set.univ) (.op (.semWait sem z) k) Q) := by
  subst hs; subst hz
  have hp := rest_bar Xs As c
  unfold ow
  iintro ⟨#Hi, #Hlev, Hc, ⟨%W, HO⟩, Hat⟩ Hk
  iapply (Rounds.wp_wait_rest_token 𝒱₀ ER (ringRd Xs As) (c : Thread nD τ) none (κ := K (barC c))
      (wpE_semWait_eq 𝒱₀ (c : Thread nD τ) none Set.univ) (Set.mem_univ _) 0 (O := O) (W := W) (R := 0) (m := 0) (T := ∅)
      ((Nat.zero_add _).trans (expect_bar Xs As c).symm)) $$ [Hc HO Hat]
  · isplitr; · iapply (inv_bar Xs As K c); iexact Hi
    isplitl [Hc]; · iexact Hc
    isplitl [HO]; · iexact HO
    isplitr
    · iapply (mayWait c _ 0 1 O (by decide) (le_of_eq (lv_bar c 0)) hO); iexact Hlev
    iexact Hat
  iintro ⟨HO, Hat, -, Hpay⟩
  ihave Hp := (Entails.of_eq hp) $$ Hpay
  iapply Hk
  isplitl [HO]; · iexists _; iexact HO
  isplitl [Hat]; · iexact Hat
  iexact Hp

/-! ## The first sends -/

/-- The own block goes out, half its share with it, and with it the slots for the other direction. -/
theorem send_x0 (d : Bool) {src dst : Memref sig .tc .vmem S128x512 .f32} {sS sR : DmaSem sig} {dev : Dev nD}
    {hsrc : src.view.WordExact} {hdst : dst.view.WordExact} {hsc : dst.view.ref.isScScratch = false}
    {hsem : DmaTarget.Typed .vmem (.dma sR) (.remote (Dev.tc dev) dst (.dma sS) hsc)}
    {α : Type} {k : PUnit → Prog (TpuEff nD τ sig (Elt F) Λ₀ .tc) α} {Q : α → sProp 𝕄}
    (hS : sS = semN false d false (sl 0)) (hR : sR = semN false d true (sl 1)) (hdev : dev = nxt d c) (hdm : dst = slotM false d (sl 1))
    (hsm : src.view = (xV d).reshape S128x512 squeezes_S1x128x512_S128x512.numel_eq) (O : CellTallies nD τ sig ℕ) :
    iprop(invs Xs As K ∗ posS c false d 1 ∗ sdTok c false d 0 ∗ heldV c (xV d) qL (Xs d c 0) ∗ grant (nxt d c) false d 1
        ∗ G2 c (!d) 2 ∗ ow c (O + sd false d c 0))
      ⊢ iprop(((ow c O ∗ posS c false d 1 ∗ cred (tallyAt (sndC false d (sl 0) c) 0 N)) -∗ (wp frame (wpE (defs₀ (F := F)) 𝒱₀ ((c : Dev nD) : Thread nD τ) none) Set.univ) (k ⟨⟩) Q)
        -∗ (wp frame (wpE (defs₀ (F := F)) 𝒱₀ ((c : Dev nD) : Thread nD τ) none) Set.univ) (.op (.enqueueDma src (.remote (Dev.tc dev) dst (.dma sS) hsc) (.dma sR) hsrc hdst hsem) k) Q) := by
  have e : (heldV c (xV d) qL (Xs d c 0) : sProp 𝕄)
      = heldV c src.view qL (fun y => Xs d c 0 (Shape.reshapeEquiv squeezes_S1x128x512_S128x512.numel_eq y)) := by
    rw [hsm]; exact (heldV_reshape c (xV d) qL squeezes_S1x128x512_S128x512.numel_eq (Xs d c 0)).symm
  iintro ⟨#Hi, Hp, Htok, Hs, Hg, HE, HO⟩ Hk
  ihave Hp := (posS_dup c false d 0) $$ Hp
  icases Hp with ⟨#Hr, Hp⟩
  ihave Hs := (Entails.of_eq e) $$ Hs
  iapply (send_step Xs As K c false d 0 (by decide) hS hR hdev hdm qL (Xs d c 0) (G2 c (!d) 2)
    (by rw [← e]; unfold sndPay; rw [if_neg (by decide), if_pos rfl])
    (by unfold rcvPay; rw [if_neg (by decide), Nat.add_sub_cancel, not_nxt]) O) $$ [Htok Hs Hg HE HO]
  · isplitr; · iexact Hi
    isplitr; · iexact Hr
    isplitl [Htok]; · iexact Htok
    isplitl [Hs]; · iexact Hs
    isplitl [Hg]; · iexact Hg
    isplitl [HE]; · iexact HE
    iexact HO
  iintro ⟨HO, Hc⟩
  iapply Hk
  isplitl [HO]; · iexact HO
  isplitl [Hp]; · iexact Hp
  iexact Hc

/-- What a first hop owes sits above the barrier. -/
theorem above_first : Above 1 (Orem c 1) := by
  rw [Orem_step c 1 (by decide)]
  have h : ∀ kd d, Above 1 (sg kd d c 1) := fun kd d => by rw [sg_out c kd d 1 (by omega)]; exact Above.zero 1
  exact ((((((((above_Orem c 2 1 (by omega)).add (above_sd _ _ _ _ _ (by omega))).add (above_sd _ _ _ _ _ (by omega))).add (above_sd _ _ _ _ _ (by omega))).add
    (above_sd _ _ _ _ _ (by omega))).add (h _ _)).add (h _ _)).add (h _ _)).add (h _ _)

/-- Both neighbours' words, kept. -/
def opened : sProp 𝕄 :=
  iprop((reached ER (crC false false (nxt true c)) 0 ∗ reached ER (crC true false (nxt true c)) 0)
    ∗ (reached ER (crC false true (nxt false c)) 0 ∗ reached ER (crC true true (nxt false c)) 0))
instance opened_persistent : BI.Persistent (opened (F := F) c) := by unfold opened; infer_instance

set_option maxRecDepth 65536 in
theorem part14_run (O : CellTallies nD τ sig ℕ) (hO : Above 1 O) {Q : _ → sProp 𝕄} :
    iprop(invs Xs As K ∗ levAts L lv ∗ reached ER (barC (nxt true c)) 0 ∗ reached ER (barC (nxt false c)) 0
        ∗ dutyTok ER (barC (nxt true c)) 0 0 ∗ dutyTok ER (barC (nxt false c)) 0 1
        ∗ (reached ER (crC false false c) 0 ∗ reached ER (crC false true c) 0 ∗ reached ER (crC true false c) 0 ∗ reached ER (crC true true c) 0)
        ∗ G2 c false 1 ∗ G2 c true 1 ∗ cred (tallyAt (barC c) 0 2) ∗ atPos ER (barC c) 0 ∅ 0
        ∗ (posS c false false 1 ∗ sdTok c false false 0) ∗ heldV c (xV false) qL (Xs false c 0) ∗ G2 c true 2
        ∗ ow c (O + sd false false c 0 + tallyAt (barC (nxt false c)) 0 1 + tallyAt (barC (nxt true c)) 0 1)
        ∗ (∀ v2 v5 v7, opened c -∗ atPos ER (barC c) 1 ∅ 0 -∗ (posS c false false 1 ∗ cred (tallyAt (sndC false false (sl 0) c) 0 N))
            -∗ grant (nxt false c) true false 1 -∗ G2 (nxt true c) true 1 -∗ ow c O -∗ Q ⟨c, v2, v5, v7, 1#32⟩))
      ⊢ (wp frame (wpE (defs₀ (F := F)) 𝒱₀ ((c : Dev nD) : Thread nD τ) none) Set.univ) (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12) Q := by
  rw [k0_part14_eq_skeleton]
  iintro ⟨#Hi, #Hlev, #Hr1, #Hr2, Ht1, Ht2, ⟨#Hff, #Hft, #Htf, #Htt⟩, Hg1, Hg2, Hcb, Hat, ⟨Hs, Hd⟩, Hx, Hgn, HO, Hk⟩
  rw [show (k0_part14_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 : Prog (TpuEff nD τ sig (Elt F) Λ₀ .tc) _) = .op .deviceId _ from rfl, wp_deviceId]
  iapply (signal_bar Xs As K c false (z := (1#32 : BitVec 32).toInt) (by decide) (sem := barS) rfl (dev_left c _ (k0_dev1_eq c)) _) $$ [Ht1 Hg1 HO]
  · isplitr; · iexact Hi
    isplitr; · iexact Hr1
    isplitl [Ht1]; · iexact Ht1
    isplitl [Hg1]
    · isplitl [Hg1]; · iexact Hg1
      isplitr; · iexact Hft
      iexact Htt
    iexact HO
  iintro HO
  iapply (signal_bar Xs As K c true (z := (1#32 : BitVec 32).toInt) (by decide) (sem := barS) rfl (dev_right c _ (k0_dev2_eq c)) _) $$ [Ht2 Hg2 HO]
  · isplitr; · iexact Hi
    isplitr; · iexact Hr2
    isplitl [Ht2]; · iexact Ht2
    isplitl [Hg2]
    · isplitl [Hg2]; · iexact Hg2
      isplitr; · iexact Hff
      iexact Htf
    iexact HO
  iintro HO
  iapply (wait_bar Xs As K c (z := (2#32 : BitVec 32).toInt) (by decide) (sem := barS) rfl (O + sd false false c 0) (hO.add (above_sd _ _ _ _ _ (by omega)))) $$ [Hcb Hat HO]
  · isplitr; · iexact Hi
    isplitr; · iexact Hlev
    isplitl [Hcb]; · iexact Hcb
    isplitl [HO]; · iexact HO
    iexact Hat
  unfold barPayD
  iintro ⟨HO, Hat, ⟨Hg, #Ho1, #Ho2⟩, ⟨Hgt, #Ho3, #Ho4⟩⟩
  ihave Hg := (Entails.of_eq (show (G2 (nxt false c) false 1 : sProp 𝕄) = iprop(grant (nxt false c) false false 1 ∗ grant (nxt false c) true false 1) from rfl)) $$ Hg
  icases Hg with ⟨Hgx, Hga⟩
  iapply (send_x0 Xs As K c false (semA_of_off false false false (sl 0) off1_0 _) (semA_of_off false false true (sl 1) off1_1 _) (dev_right c _ (k0_dev3_eq c))
    (slotM_of_off false false (sl 1) off2_1 _) rfl O) $$ [Hs Hd Hx Hgx Hgn HO]
  · isplitr; · iexact Hi
    isplitl [Hs]; · iexact Hs
    isplitl [Hd]; · iexact Hd
    isplitl [Hx]; · iexact Hx
    isplitl [Hgx]; · iexact Hgx
    isplitl [Hgn]; · iexact Hgn
    iexact HO
  iintro ⟨HO, Hs, Hc⟩
  iapply (le_wp_ret _ _ _ _ Q)
  unfold opened
  iapply Hk $$ [] Hat [Hs Hc] Hga Hgt HO
  · isplitr
    · isplitr; · iexact Ho3
      iexact Ho4
    isplitr; · iexact Ho1
    iexact Ho2
  · isplitl [Hs]; · iexact Hs
    iexact Hc

end Cert.Proof.Ring

end
-- ==== Proof.Trip.lean ====
/-
  One hop of the loop, from its stretches.
-/
module

public import proofs.«01_k».proof.Proof.State

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
variable (x : Bool → Dev nD → Blk F) (p : Dev nD → Par F) (K : GSem nD τ sig → ℕ) (c : Dev nD)

theorem rel_a (Xs As : Bool → Dev nD → ℕ → Blk F) (d : Bool) (t : ℕ) : (sndPay Xs As c true d t : sProp 𝕄) ⊢ slotFree c true d (sl t) := by
  have e : sndPay Xs As c true d t = slotAt c true d (sl t) fullShare (As d c t) := if_pos rfl
  rw [e]; exact freeV_of_heldV c _ _

theorem IX_succ (d : Bool) (k : ℕ) (h : 1 ≤ k) : (IX x c d (k + 1) : sProp 𝕄) = iprop(keepX x c d k ∗ heldV c (xV d) fullShare (xcs x d c 0)) :=
  if_neg (by omega)

set_option maxRecDepth 65536 in
set_option maxHeartbeats 1000000 in
theorem trip_run (t : Fin k0_t1_loop.trips) (v2 v5 v7 c1 c8 : BitVec 32) (u : Unit) :
    (hopSt x p K c (t.val + 1) : sProp 𝕄)
      ⊢ (wp frame (wpE (defs₀ (F := F)) 𝒱₀ ((c : Dev nD) : Thread nD τ) none) Set.univ) (k0_t1_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 c v2 v5 v7 c1 c8 t u) (fun _ => hopSt x p K c (t.val + 1 + 1)) := by
  have ht : t.val < 31 := trips_eq ▸ t.isLt
  have hk1 : 1 ≤ t.val + 1 := Nat.le_add_left _ _
  have hk2 : t.val + 1 ≤ 31 := ht
  have hk : t.val + 1 < 32 := by omega
  unfold hopSt
  rw [fut_pop c (t.val + 1) hk, Orem_step c (t.val + 1) hk, IX_succ x c false (t.val + 1) hk1, IX_succ x c true (t.val + 1) hk1]
  simp only [Nat.add_sub_cancel]
  unfold hopRes
  unfold k0_t1_body
  have aS : ∀ kd d b, b < 2 * (t.val + 1) - 1 → Above b (sg kd d c (t.val + 1)) := fun kd d b h => above_sg kd d c _ b h
  have aD : ∀ kd d b, b < 2 * (t.val + 1) + 2 → Above b (sd kd d c (t.val + 1)) := fun kd d b h => above_sd kd d c _ b h
  have aO : ∀ b, b < 2 * (t.val + 1) + 1 → Above b (Orem c (t.val + 1 + 1)) := fun b h => above_Orem c _ b (by omega)
  iintro ⟨#He, ⟨Hsff, Hsft, Hstf, Hstt⟩, ⟨Hrff, Hrft, Hrtf, Hrtt⟩, ⟨Hcff, Hcft, Hctf, Hctt⟩, ⟨HIf, HIt⟩, ⟨Hoxf, Hoxt⟩, ⟨Hoaf, Hoat⟩, ⟨Hfff, Hfft, Hftf, Hftt⟩,
    ⟨⟨⟨Hgff, Hgft, Hgtf, Hgtt⟩, ⟨Hdff, Hdft, Hdtf, Hdtt⟩, ⟨Hvff, Hvft, Hvtf, Hvtt⟩, ⟨Hwff, Hwft, Hwtf, Hwtt⟩⟩, Hfut⟩, Hro, HO⟩
  have eO : ∀ d, (outX c d t.val : sProp 𝕄) = cred (tallyAt (sndC false d (sl t.val) c) 0 N) := fun d => if_pos (by omega)
  ihave Hoxf := (Entails.of_eq (eO false)) $$ Hoxf
  ihave Hoxt := (Entails.of_eq (eO true)) $$ Hoxt
  ihave Hg := (take_gv c false (t.val + 1) hk1 hk2) $$ [Hfff Hftf Hrff Hrtf]
  · isplitl [Hfff]; · iexact Hfff
    isplitl [Hftf]; · iexact Hftf
    isplitl [Hrff]; · iexact Hrff
    iexact Hrtf
  icases Hg with ⟨Hgvf, Hfff, Hftf, Hrff, Hrtf⟩
  ihave Hg := (take_gv c true (t.val + 1) hk1 hk2) $$ [Hfft Hftt Hrft Hrtt]
  · isplitl [Hfft]; · iexact Hfft
    isplitl [Hftt]; · iexact Hftt
    isplitl [Hrft]; · iexact Hrft
    iexact Hrtt
  icases Hg with ⟨Hgvt, Hfft, Hftt, Hrft, Hrtt⟩
  rw [wp_bind]
  iapply (part1_run (xcs x) (acs x p) K c t _ _ (Orem c (t.val + 1 + 1) + sd true true c (t.val + 1) + sd true false c (t.val + 1) + sd false true c (t.val + 1) + sd false false c (t.val + 1) + sg true true c (t.val + 1) + sg true false c (t.val + 1)) (Above.add (Above.add (Above.add (Above.add (Above.add (Above.add (Above.add (Above.add (aO _ (by omega)) (aD _ _ _ (by omega))) (aD _ _ _ (by omega))) (aD _ _ _ (by omega))) (aD _ _ _ (by omega))) (aS _ _ _ (by omega))) (aS _ _ _ (by omega))) (aS _ _ _ (by omega))) (aS _ _ _ (by omega))))
  isplitr; · iexact He
  isplitl [Hoxf Hsff]
  · isplitl [Hoxf]; · iexact Hoxf
    iexact Hsff
  isplitl [Hoxt Hsft]
  · isplitl [Hoxt]; · iexact Hoxt
    iexact Hsft
  isplitl [Hgff]; · iexact Hgff
  isplitl [Hgft]; · iexact Hgft
  isplitl [HO]; · iexact HO
  iintro ⟨Hsff, Hbf⟩ ⟨Hsft, Hbt⟩ HO
  ihave Hbf := (rel_x x c (acs x p) false (t.val + 1) hk1 hk2) $$ [HIf Hbf]
  · isplitl [HIf]; · iexact HIf
    iexact Hbf
  icases Hbf with ⟨Hbf, Hxf⟩
  ihave Hbt := (rel_x x c (acs x p) true (t.val + 1) hk1 hk2) $$ [HIt Hbt]
  · isplitl [HIt]; · iexact HIt
    iexact Hbt
  icases Hbt with ⟨Hbt, Hxt⟩
  try dsimp only
  rw [wp_bind]
  unfold outA
  iapply (part2_run (xcs x) (acs x p) K c t _ _ _ _ (Orem c (t.val + 1 + 1) + sd true true c (t.val + 1) + sd true false c (t.val + 1) + sd false true c (t.val + 1) + sd false false c (t.val + 1)) (Above.add (Above.add (Above.add (Above.add (Above.add (Above.add (aO _ (by omega)) (aD _ _ _ (by omega))) (aD _ _ _ (by omega))) (aD _ _ _ (by omega))) (aD _ _ _ (by omega))) (aS _ _ _ (by omega))) (aS _ _ _ (by omega))) (Above.add (Above.add (Above.add (Above.add (aO _ (by omega)) (aD _ _ _ (by omega))) (aD _ _ _ (by omega))) (aD _ _ _ (by omega))) (aD _ _ _ (by omega))))
  isplitr; · iexact He
  isplitl [Hoaf Hstf]
  · isplitl [Hoaf]; · iexact Hoaf
    iexact Hstf
  isplitl [Hoat Hstt]
  · isplitl [Hoat]; · iexact Hoat
    iexact Hstt
  isplitl [Hgtf]; · iexact Hgtf
  isplitl [Hgtt]; · iexact Hgtt
  isplitl [Hvff Hrff]
  · isplitl [Hvff]; · unfold rcvCr; iexact Hvff
    iexact Hrff
  isplitl [HO]; · iexact HO
  iintro ⟨Hstf, Haf⟩ ⟨Hstt, Hat⟩ ⟨Hrff, Hmf⟩ HO
  ihave Haf := (rel_a c (xcs x) (acs x p) false t.val) $$ Haf
  ihave Hat := (rel_a c (xcs x) (acs x p) true t.val) $$ Hat
  ihave Hfff := (Entails.of_eq (frs_back c false false (t.val + 1) hk1 hk2)) $$ [Hbf Hfff]
  · isplitl [Hbf]; · iexact Hbf
    iexact Hfff
  ihave Hfft := (Entails.of_eq (frs_back c false true (t.val + 1) hk1 hk2)) $$ [Hbt Hfft]
  · isplitl [Hbt]; · iexact Hbt
    iexact Hfft
  ihave Hftf := (Entails.of_eq (frs_back c true false (t.val + 1) hk1 hk2)) $$ [Haf Hftf]
  · isplitl [Haf]; · iexact Haf
    iexact Hftf
  ihave Hftt := (Entails.of_eq (frs_back c true true (t.val + 1) hk1 hk2)) $$ [Hat Hftt]
  · isplitl [Hat]; · iexact Hat
    iexact Hftt
  try dsimp only
  rw [wp_bind]
  iapply (part3_run x p K c t _ _ _ (Orem c (t.val + 1 + 1) + sd true true c (t.val + 1) + sd true false c (t.val + 1)) (Above.add (Above.add (Above.add (Above.add (aO _ (by omega)) (aD _ _ _ (by omega))) (aD _ _ _ (by omega))) (aD _ _ _ (by omega))) (aD _ _ _ (by omega))))
  isplitr; · iexact He
  isplitl [Hvft Hrft]
  · isplitl [Hvft]; · unfold rcvCr; iexact Hvft
    iexact Hrft
  isplitl [Hwff Hcff]
  · isplitl [Hwff]; · iexact Hwff
    iexact Hcff
  isplitl [Hwft Hcft]
  · isplitl [Hwft]; · iexact Hwft
    iexact Hcft
  isplitl [Hsff Hdff]
  · isplitl [Hsff]; · iexact Hsff
    iexact Hdff
  isplitl [Hsft Hdft]
  · isplitl [Hsft]; · iexact Hsft
    iexact Hdft
  isplitl [Hmf]; · iexact Hmf
  isplitl [Hgvf]; · iexact Hgvf
  isplitl [Hgvt]; · iexact Hgvt
  isplitl [Hro]; · iexact Hro
  isplitl [HO]; · iexact HO
  iintro Hrft ⟨Hcff, Hcft⟩ ⟨Hsff, Hoxf⟩ ⟨Hsft, Hoxt⟩ Hkf Hkt Hnf Hnt Hro HO
  try dsimp only
  rw [wp_bind]
  iapply (part4_run c (p c) _ _ _)
  isplitl [Hro]; · iexact Hro
  iintro Hro
  try dsimp only
  rw [wp_bind]
  iapply (part5_run c (p c) _ _ _)
  isplitl [Hro]; · iexact Hro
  iintro Hro
  try dsimp only
  rw [wp_bind]
  iapply (part6_run c (p c) _ _)
  isplitl [Hro]; · iexact Hro
  iintro Hro
  try dsimp only
  rw [wp_bind]
  iapply (part7_run c (p c) _ _ _ _ _ _ _ _ _ _)
  isplitl [Hro]; · iexact Hro
  iintro Hro
  try dsimp only
  rw [wp_bind]
  iapply (part8_run c (p c) _ _)
  isplitl [Hro]; · iexact Hro
  iintro Hro
  try dsimp only
  rw [wp_bind]
  iapply (part9_run c (p c) _ _ _)
  isplitl [Hro]; · iexact Hro
  iintro Hro
  try dsimp only
  rw [wp_bind]
  iapply (part10_run c (p c) _ _ _ _)
  isplitl [Hro]; · iexact Hro
  iintro Hro
  try dsimp only
  rw [wp_bind]
  iapply (part11_run c (p c) _ _ _ _ _ _ _ _ _ _)
  isplitl [Hro]; · iexact Hro
  iintro Hro
  try dsimp only
  have hch := trip_chain (p c) (xcs x false c (t.val + 1)) (xcs x true c (t.val + 1))
  try dsimp only at hch
  rw [hch, wp_bind]
  iapply (part12_run x p K c t _ _ _ (Orem c (t.val + 1 + 1) + sd true true c (t.val + 1) + sd true false c (t.val + 1)) (Above.add (Above.add (aO _ (by omega)) (aD _ _ _ (by omega))) (aD _ _ _ (by omega))))
  isplitr; · iexact He
  isplitl [Hvtf Hrtf]
  · isplitl [Hvtf]; · unfold rcvCr; iexact Hvtf
    iexact Hrtf
  isplitl [Hwtf Hctf]
  · isplitl [Hwtf]; · iexact Hwtf
    iexact Hctf
  isplitl [Hro]; · iexact Hro
  isplitl [HO]; · iexact HO
  iintro Hrtf Hctf Haf Hro HO
  try dsimp only
  rw [wp_bind]
  iapply (part13_run x p K c t _ _ (Orem c (t.val + 1 + 1) + sd true true c (t.val + 1)) (Above.add (aO _ (by omega)) (aD _ _ _ (by omega))))
  isplitr; · iexact He
  isplitl [Hstf Hdtf]
  · isplitl [Hstf]; · iexact Hstf
    iexact Hdtf
  isplitl [Haf]; · iexact Haf
  isplitl [Hnf]; · iexact Hnf
  isplitl [Hvtt Hrtt]
  · isplitl [Hvtt]; · unfold rcvCr; iexact Hvtt
    iexact Hrtt
  isplitl [Hwtt Hctt]
  · isplitl [Hwtt]; · iexact Hwtt
    iexact Hctt
  isplitl [HO]; · iexact HO
  iintro ⟨Hstf, Hoaf⟩ Hrtt Hctt Hat HO
  try dsimp only
  ihave #Hi := (env_invs (xcs x) (acs x p) K c) $$ He
  iapply (send_a (xcs x) (acs x p) K c true (t.val + 1) (show t.val + 1 < 32 by omega) (semA_of_off true true false (sl (t.val + 1)) (k0_off5_eq t) _)
    (semA_of_off true true true (sl (t.val + 2)) (k0_off12_eq t) _) (dev_left c _ (k0_dev14_eq c)) (slotM_of_off true true (sl (t.val + 2)) (k0_off13_eq t) _)
    (slotM_of_off true true (sl (t.val + 1)) (k0_off6_eq t) _) _) $$ [Hstt Hdtt Hat Hnt HO]
  · isplitr; · iexact Hi
    isplitl [Hstt]; · iexact Hstt
    isplitl [Hdtt]; · iexact Hdtt
    isplitl [Hat]; · iexact Hat
    isplitl [Hnt]; · iexact Hnt
    iexact HO
  iintro ⟨HO, Hstt, Hoat⟩
  iapply (le_wp_ret _ _ _ _ _)
  isplitr; · iexact He
  isplitl [Hsff Hsft Hstf Hstt]
  · isplitl [Hsff]; · iexact Hsff
    isplitl [Hsft]; · iexact Hsft
    isplitl [Hstf]; · iexact Hstf
    iexact Hstt
  isplitl [Hrff Hrft Hrtf Hrtt]
  · isplitl [Hrff]; · iexact Hrff
    isplitl [Hrft]; · iexact Hrft
    isplitl [Hrtf]; · iexact Hrtf
    iexact Hrtt
  isplitl [Hcff Hcft Hctf Hctt]
  · isplitl [Hcff]; · iexact Hcff
    isplitl [Hcft]; · iexact Hcft
    isplitl [Hctf]; · iexact Hctf
    iexact Hctt
  isplitl [Hkf Hkt Hxf Hxt]
  · isplitl [Hkf Hxf]
    · isplitl [Hkf]; · iexact Hkf
      iexact Hxf
    · isplitl [Hkt]; · iexact Hkt
      iexact Hxt
  isplitl [Hoxf Hoxt]
  · isplitl [Hoxf]; · iexact Hoxf
    iexact Hoxt
  isplitl [Hoaf Hoat]
  · isplitl [Hoaf]; · iexact Hoaf
    iexact Hoat
  isplitl [Hfff Hfft Hftf Hftt]
  · isplitl [Hfff]; · iexact Hfff
    isplitl [Hfft]; · iexact Hfft
    isplitl [Hftf]; · iexact Hftf
    iexact Hftt
  isplitl [Hfut]; · iexact Hfut
  isplitl [Hro]; · iexact Hro
  iexact HO

end Cert.Proof.Ring

end
-- ==== Proof.Ends.lean ====
/-
  The first contribution, the loop, and the end of the body, part by part.
-/
module

public import proofs.«01_k».proof.Proof.Prolog
public import proofs.«01_k».proof.Proof.Trip

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
variable (x : Bool → Dev nD → Blk F) (p : Dev nD → Par F) (Xs As : Bool → Dev nD → ℕ → Blk F) (K : GSem nD τ sig → ℕ) (c : Dev nD)

/-- A load of what is free, whose value nothing reads. -/
theorem load_at_free {s : Shape} {m : Memref sig .tc .vmem s .f32} {r : Rect s} {α : Type} {hl : m.view.LoadsAt r.toLoadRect}
    {k : (r.shape.Idx → Elt F .f32) → Prog (TpuEff nD τ sig (Elt F) Λ₀ .tc) α} {Q : α → sProp 𝕄} :
    (freeV c (m.access r) : sProp 𝕄) ⊢ iprop((∀ w, freeV c (m.access r) -∗ (wp frame (wpE (defs₀ (F := F)) 𝒱₀ ((c : Dev nD) : Thread nD τ) none) Set.univ) (k w) Q) -∗ (wp frame (wpE (defs₀ (F := F)) 𝒱₀ ((c : Dev nD) : Thread nD τ) none) Set.univ) (.op (.load m r.toLoadRect hl) k) Q) := by
  refine (freeV_held c _).trans ?_
  iintro ⟨%w, H⟩ Hk
  iapply (load_at c m r fullShare w) $$ H
  iintro H
  iapply Hk
  iapply (freeV_of_heldV c _ w); iexact H

theorem xV_f (q : PosShare TreeShare) (v : Blk F) : (heldV c (xV false) q v : sProp 𝕄)
    = heldV c ((Memref.whole cc0_stg0_0 : Memref sig .tc .vmem S2x128x512 .f32).access (Rect.unit (s := S2x128x512) ![0, 0, 0] S1x128x512.size inb_S2x128x512_S1x128x512_0_0_0)) q v := rfl
theorem xV_t (q : PosShare TreeShare) (v : Blk F) : (heldV c (xV true) q v : sProp 𝕄)
    = heldV c ((Memref.whole cc0_stg0_0 : Memref sig .tc .vmem S2x128x512 .f32).access (Rect.unit (s := S2x128x512) ![1, 0, 0] S1x128x512.size inb_S2x128x512_S1x128x512_1_0_0)) q v := rfl

set_option maxRecDepth 65536 in
theorem part15_run (P : Par F) (v5 : BitVec 32) (O : CellTallies nD τ sig ℕ) {Q : _ → sProp 𝕄} :
    iprop(invs Xs As K ∗ (posS c false true 1 ∗ sdTok c false true 0) ∗ heldV c (xV true) qL (Xs true c 0)
        ∗ heldV c (xV false) qR (Xs false c 0) ∗ heldV c (xV true) qR (Xs true c 0) ∗ ro c P ∗ grant (nxt true c) false true 1 ∗ G2 c false 2
        ∗ ow c (O + sd false true c 0)
        ∗ ((posS c false true 1 ∗ cred (tallyAt (sndC false true (sl 0) c) 0 N)) -∗ heldV c (xV false) qR (Xs false c 0) -∗ heldV c (xV true) qR (Xs true c 0)
            -∗ ro c P -∗ ow c O
            -∗ Q ⟨k0_pay35 (Xs false c 0) (Xs true c 0) (ldW P.wq), k0_pay36 (Xs false c 0) (Xs true c 0) (ldW P.wq),
              k0_pay37 (Xs false c 0) (Xs true c 0) (ldW P.wq) (ldH P.kt 0 0), k0_pay38 (Xs false c 0) (Xs true c 0) (ldW P.wq) (ldH P.kt 0 0)⟩))
      ⊢ (wp frame (wpE (defs₀ (F := F)) 𝒱₀ ((c : Dev nD) : Thread nD τ) none) Set.univ) (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 c v5 1#32) Q := by
  rw [k0_part15_eq_skeleton]
  have e : Q ⟨k0_pay35 (Xs false c 0) (Xs true c 0) (ldW P.wq), k0_pay36 (Xs false c 0) (Xs true c 0) (ldW P.wq),
              k0_pay37 (Xs false c 0) (Xs true c 0) (ldW P.wq) (ldH P.kt 0 0), k0_pay38 (Xs false c 0) (Xs true c 0) (ldW P.wq) (ldH P.kt 0 0)⟩
      = Q ⟨k0_pay35 (Xs false c 0) (Xs true c 0) (rd (Rect.unit (s := S512x512) ![0, 0] S512x512.size inb_S512x512_S512x512_0_0) P.wq), k0_pay36 (Xs false c 0) (Xs true c 0) (rd (Rect.unit (s := S512x512) ![0, 0] S512x512.size inb_S512x512_S512x512_0_0) P.wq),
              k0_pay37 (Xs false c 0) (Xs true c 0) (rd (Rect.unit (s := S512x512) ![0, 0] S512x512.size inb_S512x512_S512x512_0_0) P.wq) (rd (Rect.unit (s := S2x8x128x64) ![0, 0, 0, 0] S1x1x128x64.size inb_S2x8x128x64_S1x1x128x64_0_0_0_0) P.kt), k0_pay38 (Xs false c 0) (Xs true c 0) (rd (Rect.unit (s := S512x512) ![0, 0] S512x512.size inb_S512x512_S512x512_0_0) P.wq) (rd (Rect.unit (s := S2x8x128x64) ![0, 0, 0, 0] S1x1x128x64.size inb_S2x8x128x64_S1x1x128x64_0_0_0_0) P.kt)⟩ := rfl
  rw [e, xV_f, xV_t c qR]
  unfold ro
  iintro ⟨#Hi, ⟨Hs, Hd⟩, Hx, Hy0, Hy1, ⟨H1, H2, H3, H4⟩, Hg, Hgn, HO, Hk⟩
  iapply (send_x0 Xs As K c true (semA_of_off false true false (sl 0) off1_0 _) (semA_of_off false true true (sl 1) off1_1 _) (dev_left c _ (k0_dev4_eq c))
    (slotM_of_off false true (sl 1) off2_1 _) rfl O) $$ [Hs Hd Hx Hg Hgn HO]
  · isplitr; · iexact Hi
    isplitl [Hs]; · iexact Hs
    isplitl [Hd]; · iexact Hd
    isplitl [Hx]; · iexact Hx
    isplitl [Hg]; · iexact Hg
    isplitl [Hgn]; · iexact Hgn
    iexact HO
  iintro ⟨HO, Hs, Hc⟩
  iapply (load_at c (Memref.whole cc0_stg0_0) _ qR (Xs false c 0)) $$ Hy0; iintro Hy0
  iapply (load_at c (Memref.whole cc0_stg0_0) _ qR (Xs true c 0)) $$ Hy1; iintro Hy1
  iapply (load_in c (Memref.whole cc0_stg1_0) _ fullShare P.wq) $$ H1; iintro H1
  iapply (load_in c (Memref.whole cc0_stg3_0) _ fullShare P.kt) $$ H3; iintro H3
  iapply (le_wp_ret _ _ _ _ Q)
  iapply Hk $$ [Hs Hc] Hy0 Hy1 [H1 H2 H3 H4] HO
  · isplitl [Hs]; · iexact Hs
    iexact Hc
  isplitl [H1]; · iexact H1
  isplitl [H2]; · iexact H2
  isplitl [H3]; · iexact H3
  iexact H4

set_option maxRecDepth 65536 in
theorem part24_run (P : Par F) (v7 : BitVec 32) (v192 : FVec F S128x512 .f32) (v211 : FVec F S128x64 .f32) (v229 : FVec F S128x64 .f32) (v247 : FVec F S128x64 .f32) (v265 : FVec F S128x64 .f32) (v283 : FVec F S128x64 .f32) (v301 : FVec F S128x64 .f32) (v319 : FVec F S128x64 .f32) (v334 : FVec F S128x128 .f32) (v336 : FVec F S128x64 .f32)
    (hf : k0_pay64 v192 v211 v229 v247 v265 v283 v301 v319 v334 v336 (ldW P.wo) = As false c 0)
    (ht : k0_pay65 v192 v211 v229 v247 v265 v283 v301 v319 v334 v336 (ldW P.wo) = As true c 0)
    (O : CellTallies nD τ sig ℕ) {Q : _ → sProp 𝕄} :
    iprop(invs Xs As K ∗ ro c P ∗ slotFree c true false (sl 0) ∗ slotFree c true true (sl 0) ∗ (posS c true false 1 ∗ sdTok c true false 0)
        ∗ grant (nxt false c) true false 1 ∗ ow c (O + sd true false c 0)
        ∗ (ro c P -∗ (posS c true false 1 ∗ cred (tallyAt (sndC true false (sl 0) c) 0 N)) -∗ slotAt c true true (sl 0) fullShare (As true c 0) -∗ ow c O
            -∗ Q ⟨1#32, 8#32⟩))
      ⊢ (wp frame (wpE (defs₀ (F := F)) 𝒱₀ ((c : Dev nD) : Thread nD τ) none) Set.univ) (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 c v7 v192 v211 v229 v247 v265 v283 v301 v319 v334 v336) Q := by
  rw [k0_part24_eq_skeleton]
  unfold ro
  iintro ⟨#Hi, ⟨H1, H2, H3, H4⟩, Hf, Ht, ⟨Hs, Hd⟩, Hg, HO, Hk⟩
  iapply (load_in c (Memref.whole cc0_stg2_0) _ fullShare P.wo) $$ H2; iintro H2
  iapply (load_free c true false (sl 0) rfl) $$ Hf; iintro %w Hf
  iapply (store_slot c true false (sl 0) rfl) $$ Hf; iintro Hf
  ihave Hf := (Entails.of_eq (show (slotAt c true false (sl 0) fullShare (k0_pay64 v192 v211 v229 v247 v265 v283 v301 v319 v334 v336 (rd (Rect.unit (s := S512x512) ![0, 0] S512x512.size inb_S512x512_S512x512_0_0) P.wo)) : sProp 𝕄)
    = slotAt c true false (sl 0) fullShare (As false c 0) from congrArg (fun v => (slotAt c true false (sl 0) fullShare v : sProp 𝕄)) hf)) $$ Hf
  iapply (send_a Xs As K c false 0 (by decide) (semA_of_off true false false (sl 0) off1_0 _) (semA_of_off true false true (sl 1) off1_1 _) (dev_right c _ (k0_dev5_eq c))
    (slotM_of_off true false (sl 1) off2_1 _) (slotM_of_off true false (sl 0) off2_0 _) O) $$ [Hs Hd Hf Hg HO]
  · isplitr; · iexact Hi
    isplitl [Hs]; · iexact Hs
    isplitl [Hd]; · iexact Hd
    isplitl [Hf]; · iexact Hf
    isplitl [Hg]; · iexact Hg
    iexact HO
  iintro ⟨HO, Hs, Hc⟩
  iapply (load_free c true true (sl 0) rfl) $$ Ht; iintro %w' Ht
  iapply (store_slot c true true (sl 0) rfl) $$ Ht; iintro Ht
  ihave Ht := (Entails.of_eq (show (slotAt c true true (sl 0) fullShare (k0_pay65 v192 v211 v229 v247 v265 v283 v301 v319 v334 v336 (rd (Rect.unit (s := S512x512) ![0, 0] S512x512.size inb_S512x512_S512x512_0_0) P.wo)) : sProp 𝕄)
    = slotAt c true true (sl 0) fullShare (As true c 0) from congrArg (fun v => (slotAt c true true (sl 0) fullShare v : sProp 𝕄)) ht)) $$ Ht
  iapply (le_wp_ret _ _ _ _ Q)
  iapply Hk $$ [H1 H2 H3 H4] [Hs Hc] Ht HO
  · isplitl [H1]; · iexact H1
    isplitl [H2]; · iexact H2
    isplitl [H3]; · iexact H3
    iexact H4
  · isplitl [Hs]; · iexact Hs
    iexact Hc

/-- After the loop and the first of the last two send waits. -/
def midSt : sProp 𝕄 :=
  iprop(env (xcs x) (acs x p) K c
    ∗ (posS c false false 32 ∗ posS c false true 32 ∗ posS c true false 33 ∗ posS c true true 32)
    ∗ (posR c false false 32 ∗ posR c false true 32 ∗ posR c true false 32 ∗ posR c true true 32)
    ∗ (crS c false false 32 ∗ crS c false true 32 ∗ crS c true false 32 ∗ crS c true true 32)
    ∗ (IX x c false 32 ∗ IX x c true 32) ∗ slotAt c true false (sl 31) fullShare (acs x p false c 31) ∗ cred (tallyAt (sndC true true (sl 31) c) 0 N)
    ∗ (frs c false false 32 ∗ frs c false true 32 ∗ frs c true false 32 ∗ frs c true true 32)
    ∗ ro c (p c) ∗ ow c 0)

set_option maxRecDepth 65536 in
theorem part25_run (v2 v5 v7 : BitVec 32) {Q : _ → sProp 𝕄} :
    iprop(invs (xcs x) (acs x p) K ∗ (posS c true true 1 ∗ sdTok c true true 0) ∗ slotAt c true true (sl 0) fullShare (acs x p true c 0)
        ∗ grant (nxt true c) true true 1 ∗ ow c (Orem c 1 + sd true true c 0)
        ∗ ((posS c true true 1 ∗ cred (tallyAt (sndC true true (sl 0) c) 0 N)) -∗ ow c (Orem c 1) -∗ hopSt x p K c 1)
        ∗ (midSt x p K c -∗ Q ⟨⟩))
      ⊢ (wp frame (wpE (defs₀ (F := F)) 𝒱₀ ((c : Dev nD) : Thread nD τ) none) Set.univ) (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 c v2 v5 v7 1#32 8#32) Q := by
  rw [k0_part25_eq_skeleton]
  iintro ⟨#Hi, ⟨Hs, Hd⟩, Ht, Hg, HO, Hh, Hk⟩
  iapply (send_a (xcs x) (acs x p) K c true 0 (by decide) (semA_of_off true true false (sl 0) off1_0 _) (semA_of_off true true true (sl 1) off1_1 _) (dev_left c _ (k0_dev6_eq c))
    (slotM_of_off true true (sl 1) off2_1 _) (slotM_of_off true true (sl 0) off2_0 _) (Orem c 1)) $$ [Hs Hd Ht Hg HO]
  · isplitr; · iexact Hi
    isplitl [Hs]; · iexact Hs
    isplitl [Hd]; · iexact Hd
    isplitl [Ht]; · iexact Ht
    isplitl [Hg]; · iexact Hg
    iexact HO
  iintro ⟨HO, Hs, Hc⟩
  ihave Hh := Hh $$ [Hs Hc] HO
  · isplitl [Hs]; · iexact Hs
    iexact Hc
  iapply (Scf.wp_for_bind _ _ _ k0_t1_loop.lb k0_t1_loop.ub k0_t1_loop.st k0_t1_ok ⟨⟩ (k0_t1_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 c v2 v5 v7 1#32 8#32)
    (fun t _ => hopSt x p K c (t + 1)) (fun k acc => trip_run x p K c k v2 v5 v7 1#32 8#32 acc)) $$ [Hh]
  · iexact Hh
  iintro %acc Hh
  have e0 : hopSt x p K c (Scf.trips k0_t1_loop.lb k0_t1_loop.ub k0_t1_loop.st + 1) = hopSt x p K c 32 :=
    congrArg (fun n => hopSt x p K c (n + 1)) trips_eq
  ihave Hh := (Entails.of_eq e0) $$ Hh
  have e : (hopSt x p K c 32 : sProp 𝕄) = iprop(env (xcs x) (acs x p) K c
    ∗ (posS c false false 32 ∗ posS c false true 32 ∗ posS c true false 32 ∗ posS c true true 32)
    ∗ (posR c false false 32 ∗ posR c false true 32 ∗ posR c true false 32 ∗ posR c true true 32)
    ∗ (crS c false false 32 ∗ crS c false true 32 ∗ crS c true false 32 ∗ crS c true true 32)
    ∗ (IX x c false 32 ∗ IX x c true 32) ∗ (outX c false 31 ∗ outX c true 31)
    ∗ (cred (tallyAt (sndC true false (sl 31) c) 0 N) ∗ cred (tallyAt (sndC true true (sl 31) c) 0 N))
    ∗ (frs c false false 32 ∗ frs c false true 32 ∗ frs c true false 32 ∗ frs c true true 32)
    ∗ fut c 32 ∗ ro c (p c) ∗ ow c 0) := by unfold hopSt outA; rw [Orem_end]
  ihave Hh := (Entails.of_eq e) $$ Hh
  icases Hh with ⟨#He, ⟨Hsff, Hsft, Hstf, Hstt⟩, HR, HC, HI, -, ⟨Hc1, Hc2⟩, Hf, -, Hro, HO⟩
  ihave #Hlev := (env_lev (xcs x) (acs x p) K c) $$ He
  iapply (wait_snd (xcs x) (acs x p) K c true false 31 (by decide) (semA_of_off true false false (sl 31) off1_31 _)
    ⟨sl 31, slotM_of_off true false (sl 31) off2_31 _⟩ 0 (Above.zero 0)) $$ [Hc1 HO Hstf]
  · isplitr; · iexact Hi
    isplitr; · iexact Hlev
    isplitl [Hc1]; · iexact Hc1
    isplitl [HO]; · iexact HO
    iexact Hstf
  iintro ⟨HO, Hstf, Hb⟩
  iapply (le_wp_ret _ _ _ _ Q)
  iapply Hk
  unfold midSt
  isplitr; · iexact He
  isplitl [Hsff Hsft Hstf Hstt]
  · isplitl [Hsff]; · iexact Hsff
    isplitl [Hsft]; · iexact Hsft
    isplitl [Hstf]; · iexact Hstf
    iexact Hstt
  isplitl [HR]; · iexact HR
  isplitl [HC]; · iexact HC
  isplitl [HI]; · iexact HI
  isplitl [Hb]
  · iapply (Entails.of_eq (show (sndPay (xcs x) (acs x p) c true false 31 : sProp 𝕄) = slotAt c true false (sl 31) fullShare (acs x p false c 31) from if_pos rfl)); iexact Hb
  isplitl [Hc2]; · iexact Hc2
  isplitl [Hf]; · iexact Hf
  isplitl [Hro]; · iexact Hro
  iexact HO

/-! ## The end -/

/-- The output's block `d`. -/
def oV (d : Bool) : View sig .tc .vmem S1x128x512 .f32 :=
  if d then (Memref.whole cc0_stg5_0 : Memref sig .tc .vmem S2x128x512 .f32).access (Rect.unit (s := S2x128x512) ![1, 0, 0] S1x128x512.size inb_S2x128x512_S1x128x512_1_0_0)
  else (Memref.whole cc0_stg5_0 : Memref sig .tc .vmem S2x128x512 .f32).access (Rect.unit (s := S2x128x512) ![0, 0, 0] S1x128x512.size inb_S2x128x512_S1x128x512_0_0_0)

/-- All slots of a buffer free. -/
def allFree (kd d : Bool) : sProp 𝕄 := bigSep Finset.univ fun j : Fin 8 => slotFree (F := F) c kd d j

theorem allFree_x (d : Bool) : (iprop(slotFree c false d (sl 31) ∗ frs c false d 32) : sProp 𝕄) = allFree c false d := by
  rw [one_slot (fun j => slotFree c false d j) (sl 31)]
  unfold frs allFree
  refine ((bigSep_sep _ _ _).symm).trans ?_
  refine bigSep_congr fun j _ => ?_
  unfold fr1
  have h1 : ¬(32 ≤ M false) := by decide
  have h2 : ¬(32 + 1 ≤ M false) := by decide
  by_cases a1 : j = sl 31
  · subst a1; simp; exact sepE _
  · simp [a1, h1, h2]; exact Esep _

theorem sepB (f g : Fin 8 → sProp 𝕄) : (iprop(bigSep Finset.univ f ∗ bigSep Finset.univ g) : sProp 𝕄) = bigSep Finset.univ fun j => iprop(f j ∗ g j) :=
  (bigSep_sep _ _ _).symm

theorem allFree_a (d : Bool) : (iprop(slotFree c true d (sl 31) ∗ slotFree c true d (sl 32) ∗ frs c true d 32) : sProp 𝕄) = allFree c true d := by
  rw [one_slot (fun j => slotFree c true d j) (sl 31), one_slot (fun j => slotFree c true d j) (sl 32)]
  unfold frs allFree
  rw [sepB, sepB]
  refine bigSep_congr fun j _ => ?_
  unfold fr1
  have h1 : 32 ≤ M true := by decide
  have h2 : ¬(32 + 1 ≤ M true) := by decide
  have n : sl 31 ≠ sl 32 := sl_ne (by omega) (by omega)
  by_cases a1 : j = sl 31
  · subst a1; simp [n]; rw [sepE]; exact sepE _
  · by_cases a2 : j = sl 32
    · subst a2; simp [n.symm, h1]; rw [sepE]; exact Esep _
    · simp [a1, a2, h1, h2]; rw [Esep]; exact Esep _

theorem allFree_start (kd d : Bool) : (iprop(slotFree c kd d (sl 0) ∗ slotFree c kd d (sl 1) ∗ slotFree c kd d (sl 2) ∗ frs c kd d 1) : sProp 𝕄) = allFree c kd d := by
  rw [one_slot (fun j => slotFree c kd d j) (sl 0), one_slot (fun j => slotFree c kd d j) (sl 1), one_slot (fun j => slotFree c kd d j) (sl 2)]
  unfold frs allFree
  rw [sepB, sepB, sepB]
  refine bigSep_congr fun j _ => ?_
  unfold fr1
  have h1 : 1 ≤ M kd := by cases kd <;> decide
  have h2 : 1 + 1 ≤ M kd := by cases kd <;> decide
  have n1 : sl 0 ≠ sl 1 := sl_ne (by omega) (by omega)
  have n2 : sl 0 ≠ sl 2 := sl_ne (by omega) (by omega)
  have n3 : sl 1 ≠ sl 2 := sl_ne (by omega) (by omega)
  by_cases a1 : j = sl 0
  · subst a1; simp [n1, n2]; rw [sepE, sepE]; exact sepE _
  · by_cases a2 : j = sl 1
    · subst a2; simp [n1.symm, n3, h1]; rw [sepE, sepE]; exact Esep _
    · by_cases a3 : j = sl 2
      · subst a3; simp [n2.symm, n3.symm, h2]; rw [sepE, Esep]; exact Esep _
      · simp [a1, a2, a3]; rw [Esep, Esep]; exact Esep _

/-- What remains at the end. -/
def doneSt : sProp 𝕄 :=
  iprop((posS c false false 32 ∗ posS c false true 32 ∗ posS c true false 33 ∗ posS c true true 33)
    ∗ (posR c false false 32 ∗ posR c false true 32 ∗ posR c true false 33 ∗ posR c true true 33)
    ∗ (crS c false false 32 ∗ crS c false true 32 ∗ crS c true false 32 ∗ crS c true true 32)
    ∗ (allFree c false false ∗ allFree c false true ∗ allFree c true false ∗ allFree c true true)
    ∗ (heldV c (xV false) fullShare (x false c) ∗ heldV c (xV true) fullShare (x true c))
    ∗ ro c (p c) ∗ ow c 0)

theorem IX_end (d : Bool) : (IX x c d 32 : sProp 𝕄) ⊢ iprop(slotFree c false d (sl 31) ∗ heldV c (xV d) fullShare (x d c)) := by
  have e : (IX x c d 32 : sProp 𝕄) = iprop(slotAt c false d (sl 31) fullShare (xcs x d c 31) ∗ heldV c (xV d) fullShare (x d c)) := by
    refine (if_neg (by decide)).trans ?_
    unfold keepX
    rw [if_neg (by decide)]; rfl
  rw [e]
  iintro ⟨H, Hx⟩
  isplitl [H]; · iapply (freeV_of_heldV c _ _); iexact H
  iexact Hx

set_option maxRecDepth 65536 in
theorem part26_run (v2 : BitVec 32) {Q : _ → sProp 𝕄} :
    iprop(midSt x p K c ∗ (cred (tallyAt (rcvC true false (sl 32) c) 32 N) ∗ cred (tallyAt (rcvC true true (sl 32) c) 32 N)) ∗ freeV c (oV false)
        ∗ (doneSt x p c -∗ heldV c (oV false) fullShare (outV x p false c) -∗ Q (k0_pay67 (acs x p true (nxt false c) 31))))
      ⊢ (wp frame (wpE (defs₀ (F := F)) 𝒱₀ ((c : Dev nD) : Thread nD τ) none) Set.univ) (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 v2) Q := by
  rw [k0_part26_eq_skeleton]
  have eo : (freeV (F := F) c (oV false) : sProp 𝕄) = freeV c ((Memref.whole cc0_stg5_0 : Memref sig .tc .vmem S2x128x512 .f32).access (Rect.unit (s := S2x128x512) ![0, 0, 0] S1x128x512.size inb_S2x128x512_S1x128x512_0_0_0)) := rfl
  rw [eo]
  unfold midSt
  iintro ⟨⟨#He, ⟨Hsff, Hsft, Hstf, Hstt⟩, ⟨Hrff, Hrft, Hrtf, Hrtt⟩, HC, ⟨HIf, HIt⟩, Hbf, Hc, ⟨Hfff, Hfft, Hftf, Hftt⟩, Hro, HO⟩, ⟨Hc1, Hc2⟩, Ho, Hk⟩
  ihave #Hi := (env_invs (xcs x) (acs x p) K c) $$ He
  ihave #Hlev := (env_lev (xcs x) (acs x p) K c) $$ He
  iapply (wait_snd (xcs x) (acs x p) K c true true 31 (by decide) (semA_of_off true true false (sl 31) off1_31 _)
    ⟨sl 31, slotM_of_off true true (sl 31) off2_31 _⟩ 0 (Above.zero 0)) $$ [Hc HO Hstt]
  · isplitr; · iexact Hi
    isplitr; · iexact Hlev
    isplitl [Hc]; · iexact Hc
    isplitl [HO]; · iexact HO
    iexact Hstt
  iintro ⟨HO, Hstt, Hbt⟩
  iapply (wait_rcv (xcs x) (acs x p) K c true false 32 (by decide) (by decide) (semA_of_off true false true (sl 32) off1_32 _)
    ⟨sl 32, slotM_of_off true false (sl 32) off2_32 _⟩ 0 (Above.zero _)) $$ [Hc1 HO Hrtf]
  · isplitr; · iexact Hi
    isplitr; · iexact Hlev
    isplitl [Hc1]; · iexact Hc1
    isplitl [HO]; · iexact HO
    iexact Hrtf
  iintro ⟨HO, Hrtf, Hvf⟩
  ihave Hvf := (Entails.of_eq (show (rcvPay (xcs x) (acs x p) c true false 32 : sProp 𝕄) = slotAt c true false (sl 32) fullShare (acs x p false (nxt true c) 31) from if_pos rfl)) $$ Hvf
  iapply (load_slot c true false (sl 32) rfl fullShare _) $$ Hvf; iintro Hvf
  iapply (load_at_free c) $$ Ho; iintro %w Ho
  iapply (store_at c (Memref.whole cc0_stg5_0) _) $$ Ho; iintro Ho
  iapply (wait_rcv (xcs x) (acs x p) K c true true 32 (by decide) (by decide) (semA_of_off true true true (sl 32) off1_32 _)
    ⟨sl 32, slotM_of_off true true (sl 32) off2_32 _⟩ 0 (Above.zero _)) $$ [Hc2 HO Hrtt]
  · isplitr; · iexact Hi
    isplitr; · iexact Hlev
    isplitl [Hc2]; · iexact Hc2
    isplitl [HO]; · iexact HO
    iexact Hrtt
  iintro ⟨HO, Hrtt, Hvt⟩
  ihave Hvt := (Entails.of_eq (show (rcvPay (xcs x) (acs x p) c true true 32 : sProp 𝕄) = slotAt c true true (sl 32) fullShare (acs x p true (nxt false c) 31) from if_pos rfl)) $$ Hvt
  iapply (load_slot c true true (sl 32) rfl fullShare _) $$ Hvt; iintro Hvt
  iapply (le_wp_ret _ _ _ _ Q)
  ihave Hbt := (Entails.of_eq (show (sndPay (xcs x) (acs x p) c true true 31 : sProp 𝕄) = slotAt c true true (sl 31) fullShare (acs x p true c 31) from if_pos rfl)) $$ Hbt
  ihave HIf := (IX_end x c false) $$ HIf
  icases HIf with ⟨HIf, Hxf⟩
  ihave HIt := (IX_end x c true) $$ HIt
  icases HIt with ⟨HIt, Hxt⟩
  iapply Hk $$ [-Ho] [Ho]
  · unfold doneSt
    isplitl [Hsff Hsft Hstf Hstt]
    · isplitl [Hsff]; · iexact Hsff
      isplitl [Hsft]; · iexact Hsft
      isplitl [Hstf]; · iexact Hstf
      iexact Hstt
    isplitl [Hrff Hrft Hrtf Hrtt]
    · isplitl [Hrff]; · iexact Hrff
      isplitl [Hrft]; · iexact Hrft
      isplitl [Hrtf]; · iexact Hrtf
      iexact Hrtt
    isplitl [HC]; · iexact HC
    isplitl [Hfff Hfft Hftf Hftt HIf HIt Hbf Hbt Hvf Hvt]
    · isplitl [Hfff HIf]
      · iapply (Entails.of_eq (allFree_x c false))
        isplitl [HIf]; · iexact HIf
        iexact Hfff
      isplitl [Hfft HIt]
      · iapply (Entails.of_eq (allFree_x c true))
        isplitl [HIt]; · iexact HIt
        iexact Hfft
      isplitl [Hftf Hbf Hvf]
      · iapply (Entails.of_eq (allFree_a c false))
        isplitl [Hbf]; · iapply (freeV_of_heldV c _ _); iexact Hbf
        isplitl [Hvf]; · iapply (freeV_of_heldV c _ _); iexact Hvf
        iexact Hftf
      · iapply (Entails.of_eq (allFree_a c true))
        isplitl [Hbt]; · iapply (freeV_of_heldV c _ _); iexact Hbt
        isplitl [Hvt]; · iapply (freeV_of_heldV c _ _); iexact Hvt
        iexact Hftt
    isplitl [Hxf Hxt]
    · isplitl [Hxf]; · iexact Hxf
      iexact Hxt
    isplitl [Hro]; · iexact Hro
    iexact HO
  · iexact Ho

end Cert.Proof.Ring

end
-- ==== Proof.Body.lean ====
/-
  The whole body of one device.
-/
module

public import proofs.«01_k».proof.Proof.Ends
public import proofs.«01_k».proof.Proof.Chain

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
variable (x : Bool → Dev nD → Blk F) (p : Dev nD → Par F) (K : GSem nD τ sig → ℕ) (c : Dev nD)

/-- A free slot whose round has been reached is a grant. -/
theorem grant_mk (kd d : Bool) (i : ℕ) (h1 : 1 ≤ i) (h2 : i ≤ 2) :
    (iprop(slotFree c kd d (sl i) ∗ posR c kd d 1) : sProp 𝕄) ⊢ iprop(grant c kd d i ∗ posR c kd d 1) := by
  have hr : rcvR (sl i) 1 = (i - 1) / 8 := by unfold rcvR sl; dsimp only; split <;> omega
  have e : (grant c kd d i : sProp 𝕄) = iprop(slotFree c kd d (sl i) ∗ reached ER (rcvC kd d (sl i) c) ((i - 1) / 8)) :=
    if_pos (by have : 31 ≤ M kd := Nat.le_add_right _ _; omega)
  rw [e]
  iintro ⟨Hs, Hp⟩
  ihave Hp := (posR_dup c kd d 1 i hr) $$ Hp
  icases Hp with ⟨#Hr, Hp⟩
  isplitl [Hs]
  · isplitl [Hs]; · iexact Hs
    iexact Hr
  iexact Hp

/-- The first grants in one direction. -/
theorem start_grants (d : Bool) :
    (iprop(allFree c false d ∗ allFree c true d ∗ posR c false d 1 ∗ posR c true d 1) : sProp 𝕄)
      ⊢ iprop(slotFree c false d (sl 0) ∗ slotFree c true d (sl 0) ∗ frs c false d 1 ∗ frs c true d 1 ∗ G2 c d 1 ∗ G2 c d 2
        ∗ posR c false d 1 ∗ posR c true d 1) := by
  rw [← allFree_start c false d, ← allFree_start c true d]
  unfold G2
  iintro ⟨⟨Hx0, Hx1, Hx2, Hfx⟩, ⟨Ha0, Ha1, Ha2, Hfa⟩, Hpx, Hpa⟩
  ihave H := (grant_mk c false d 1 (by decide) (by decide)) $$ [Hx1 Hpx]
  · isplitl [Hx1] <;> iassumption
  icases H with ⟨Hx1, Hpx⟩
  ihave H := (grant_mk c false d 2 (by decide) (by decide)) $$ [Hx2 Hpx]
  · isplitl [Hx2] <;> iassumption
  icases H with ⟨Hx2, Hpx⟩
  ihave H := (grant_mk c true d 1 (by decide) (by decide)) $$ [Ha1 Hpa]
  · isplitl [Ha1] <;> iassumption
  icases H with ⟨Ha1, Hpa⟩
  ihave H := (grant_mk c true d 2 (by decide) (by decide)) $$ [Ha2 Hpa]
  · isplitl [Ha2] <;> iassumption
  icases H with ⟨Ha2, Hpa⟩
  isplitl [Hx0]; · iexact Hx0
  isplitl [Ha0]; · iexact Ha0
  isplitl [Hfx]; · iexact Hfx
  isplitl [Hfa]; · iexact Hfa
  isplitl [Hx1 Ha1]; · isplitl [Hx1] <;> iassumption
  isplitl [Hx2 Ha2]; · isplitl [Hx2] <;> iassumption
  isplitl [Hpx] <;> iassumption

/-- Word of the device's own credit cells. -/
def ownCr : sProp 𝕄 :=
  iprop(reached ER (crC false false c) 0 ∗ reached ER (crC false true c) 0 ∗ reached ER (crC true false c) 0 ∗ reached ER (crC true true c) 0)
instance ownCr_persistent : BI.Persistent (ownCr (F := F) c) := by unfold ownCr; infer_instance

/-- What the body starts from, beside the output. -/
def startSt : sProp 𝕄 :=
  iprop(invs (xcs x) (acs x p) K ∗ levAts L lv ∗ reached ER (barC (nxt true c)) 0 ∗ reached ER (barC (nxt false c)) 0
    ∗ (dutyTok ER (barC (nxt true c)) 0 0 ∗ dutyTok ER (barC (nxt false c)) 0 1) ∗ ownCr c
    ∗ cred (tallyAt (barC c) 0 2) ∗ atPos ER (barC c) 0 ∅ 0
    ∗ (posS c false false 1 ∗ posS c false true 1 ∗ posS c true false 1 ∗ posS c true true 1)
    ∗ (posR c false false 1 ∗ posR c false true 1 ∗ posR c true false 1 ∗ posR c true true 1)
    ∗ (crS c false false 1 ∗ crS c false true 1 ∗ crS c true false 1 ∗ crS c true true 1)
    ∗ (sdTok c false false 0 ∗ sdTok c false true 0 ∗ sdTok c true false 0 ∗ sdTok c true true 0)
    ∗ fut c 1 ∗ (cred (tallyAt (rcvC true false (sl 32) c) 32 N) ∗ cred (tallyAt (rcvC true true (sl 32) c) 32 N))
    ∗ (allFree c false false ∗ allFree c false true ∗ allFree c true false ∗ allFree c true true)
    ∗ (heldV c (xV false) fullShare (x false c) ∗ heldV c (xV true) fullShare (x true c))
    ∗ ro c (p c) ∗ ow c (O₀ c))

theorem hop1 : (iprop(env (xcs x) (acs x p) K c
    ∗ (posS c false false 1 ∗ posS c false true 1 ∗ posS c true false 1 ∗ posS c true true 1)
    ∗ (posR c false false 1 ∗ posR c false true 1 ∗ posR c true false 1 ∗ posR c true true 1)
    ∗ (crS c false false 1 ∗ crS c false true 1 ∗ crS c true false 1 ∗ crS c true true 1)
    ∗ ((slotFree c false false (sl 0) ∗ heldV c (xV false) qR (x false c)) ∗ (slotFree c false true (sl 0) ∗ heldV c (xV true) qR (x true c)))
    ∗ (cred (tallyAt (sndC false false (sl 0) c) 0 N) ∗ cred (tallyAt (sndC false true (sl 0) c) 0 N))
    ∗ (cred (tallyAt (sndC true false (sl 0) c) 0 N) ∗ cred (tallyAt (sndC true true (sl 0) c) 0 N))
    ∗ (frs c false false 1 ∗ frs c false true 1 ∗ frs c true false 1 ∗ frs c true true 1)
    ∗ fut c 1 ∗ ro c (p c) ∗ ow c (Orem c 1)) : sProp 𝕄) = hopSt x p K c 1 := by
  have e : ∀ d, IX x c d 1 = iprop(slotFree c false d (sl 0) ∗ heldV c (xV d) qR (x d c)) := fun d => if_pos rfl
  have e2 : ∀ d, outX (F := F) c d (1 - 1) = cred (tallyAt (sndC false d (sl 0) c) 0 N) := fun d => if_pos (by decide)
  unfold hopSt outA
  rw [e, e, e2, e2]

set_option maxRecDepth 65536 in
set_option maxHeartbeats 1000000 in
theorem body_run (Q : PUnit → sProp 𝕄) :
    iprop(startSt x p K c ∗ (freeV c (oV false) ∗ freeV c (oV true))
        ∗ ((atPos ER (barC c) 1 ∅ 0 ∗ doneSt x p c ∗ (heldV c (oV false) fullShare (outV x p false c) ∗ heldV c (oV true) fullShare (outV x p true c)))
            -∗ (wp frame (wpE (defs₀ (F := F)) 𝒱₀ ((c : Dev nD) : Thread nD τ) none) Set.univ) (.ret ⟨⟩) Q))
      ⊢ (wp frame (wpE (defs₀ (F := F)) 𝒱₀ ((c : Dev nD) : Thread nD τ) none) Set.univ) (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12) Q := by
  rw [cc0_body_eq_skeleton]
  unfold cc0_body_skel startSt O₀
  iintro ⟨⟨#Hi, #Hlev, #Hb1, #Hb2, ⟨Ht1, Ht2⟩, #Hcr, Hcb, Hat, ⟨Hsff, Hsft, Hstf, Hstt⟩, ⟨Hrff, Hrft, Hrtf, Hrtt⟩, HC, ⟨Hdff, Hdft, Hdtf, Hdtt⟩,
    Hfut, Hfin, ⟨Haff, Haft, Hatf, Hatt⟩, ⟨Hxf, Hxt⟩, Hro, HO⟩, ⟨Hof, Hot⟩, Hk⟩
  ihave H := (start_grants c false) $$ [Haff Hatf Hrff Hrtf]
  · isplitl [Haff]; · iexact Haff
    isplitl [Hatf]; · iexact Hatf
    isplitl [Hrff] <;> iassumption
  icases H with ⟨Hxsf, Hasf, Hfff, Hftf, Hg1f, Hg2f, Hrff, Hrtf⟩
  ihave H := (start_grants c true) $$ [Haft Hatt Hrft Hrtt]
  · isplitl [Haft]; · iexact Haft
    isplitl [Hatt]; · iexact Hatt
    isplitl [Hrft] <;> iassumption
  icases H with ⟨Hxst, Hast, Hfft, Hftt, Hg1t, Hg2t, Hrft, Hrtt⟩
  ihave Hxf := (heldV_split c (xV false) (x false c)) $$ Hxf
  icases Hxf with ⟨HxfL, HxfR⟩
  ihave Hxt := (heldV_split c (xV true) (x true c)) $$ Hxt
  icases Hxt with ⟨HxtL, HxtR⟩
  rw [wp_bind]
  iapply (part14_run (xcs x) (acs x p) K c (Orem c 1 + sd true true c 0 + sd true false c 0 + sd false true c 0)
    ((((above_first c).add (above_sd _ _ _ _ _ (by decide))).add (above_sd _ _ _ _ _ (by decide))).add (above_sd _ _ _ _ _ (by decide))))
  isplitr; · iexact Hi
  isplitr; · iexact Hlev
  isplitr; · iexact Hb1
  isplitr; · iexact Hb2
  isplitl [Ht1]; · iexact Ht1
  isplitl [Ht2]; · iexact Ht2
  isplitr; · unfold ownCr; iexact Hcr
  isplitl [Hg1f]; · iexact Hg1f
  isplitl [Hg1t]; · iexact Hg1t
  isplitl [Hcb]; · iexact Hcb
  isplitl [Hat]; · iexact Hat
  isplitl [Hsff Hdff]; · isplitl [Hsff] <;> iassumption
  isplitl [HxfL]; · iexact HxfL
  isplitl [Hg2t]; · iexact Hg2t
  isplitl [HO]; · iexact HO
  iintro %v2 %v5 %v7 #Hop Hat ⟨Hsff, Hc1⟩ Hga Hgt HO
  ihave Hgt := (Entails.of_eq (show (G2 (nxt true c) true 1 : sProp 𝕄) = iprop(grant (nxt true c) false true 1 ∗ grant (nxt true c) true true 1) from rfl)) $$ Hgt
  icases Hgt with ⟨Hgtx, Hgta⟩
  try dsimp only
  rw [wp_bind]
  iapply (part15_run (xcs x) (acs x p) K c (p c) _ (Orem c 1 + sd true true c 0 + sd true false c 0))
  isplitr; · iexact Hi
  isplitl [Hsft Hdft]; · isplitl [Hsft] <;> iassumption
  isplitl [HxtL]; · iexact HxtL
  isplitl [HxfR]; · iexact HxfR
  isplitl [HxtR]; · iexact HxtR
  isplitl [Hro]; · iexact Hro
  isplitl [Hgtx]; · iexact Hgtx
  isplitl [Hg2f]; · iexact Hg2f
  isplitl [HO]; · iexact HO
  iintro ⟨Hsft, Hc2⟩ HxfR HxtR Hro HO
  try dsimp only
  rw [wp_bind]
  iapply (part16_run c (p c) _ _ _)
  isplitl [Hro]; · iexact Hro
  iintro Hro
  try dsimp only
  rw [wp_bind]
  iapply (part17_run c (p c) _ _ _)
  isplitl [Hro]; · iexact Hro
  iintro Hro
  try dsimp only
  rw [wp_bind]
  iapply (part18_run c (p c) _ _)
  isplitl [Hro]; · iexact Hro
  iintro Hro
  try dsimp only
  rw [wp_bind]
  iapply (part19_run c (p c) _ _ _ _ _ _ _ _ _ _)
  isplitl [Hro]; · iexact Hro
  iintro Hro
  try dsimp only
  rw [wp_bind]
  iapply (part20_run c (p c) _ _ _)
  isplitl [Hro]; · iexact Hro
  iintro Hro
  try dsimp only
  rw [wp_bind]
  iapply (part21_run c (p c) _ _)
  isplitl [Hro]; · iexact Hro
  iintro Hro
  try dsimp only
  rw [wp_bind]
  iapply (part22_run c (p c) _ _)
  isplitl [Hro]; · iexact Hro
  iintro Hro
  try dsimp only
  rw [wp_bind]
  iapply (part23_run c (p c) _)
  isplitl [Hro]; · iexact Hro
  iintro Hro
  try dsimp only
  rw [wp_bind]
  have hf := first_chain (p c) (xcs x false c 0) (xcs x true c 0) false
  have ht := first_chain (p c) (xcs x false c 0) (xcs x true c 0) true
  simp only [Bool.false_eq_true, if_false] at hf
  simp only [if_true] at ht
  iapply (part24_run (xcs x) (acs x p) K c (p c) v7 _ _ _ _ _ _ _ _ _ _ hf ht (Orem c 1 + sd true true c 0))
  isplitr; · iexact Hi
  isplitl [Hro]; · iexact Hro
  isplitl [Hasf]; · iexact Hasf
  isplitl [Hast]; · iexact Hast
  isplitl [Hstf Hdtf]; · isplitl [Hstf] <;> iassumption
  isplitl [Hga]; · iexact Hga
  isplitl [HO]; · iexact HO
  iintro Hro ⟨Hstf, Hc3⟩ Hslot HO
  try dsimp only
  rw [wp_bind]
  iapply (part25_run x p K c v2 v5 v7)
  isplitr; · iexact Hi
  isplitl [Hstt Hdtt]; · isplitl [Hstt] <;> iassumption
  isplitl [Hslot]; · iexact Hslot
  isplitl [Hgta]; · iexact Hgta
  isplitl [HO]; · iexact HO
  isplitl [Hsff Hsft Hstf Hrff Hrft Hrtf Hrtt HC Hxsf Hxst HxfR HxtR Hc1 Hc2 Hc3 Hfff Hfft Hftf Hftt Hfut Hro]
  · iintro ⟨Hstt, Hc4⟩ HO
    iapply (Entails.of_eq (hop1 x p K c))
    isplitr
    · unfold env opened
      isplitr; · iexact Hi
      isplitr; · iexact Hlev
      iexact Hop
    isplitl [Hsff Hsft Hstf Hstt]
    · isplitl [Hsff]; · iexact Hsff
      isplitl [Hsft]; · iexact Hsft
      isplitl [Hstf]; · iexact Hstf
      iexact Hstt
    isplitl [Hrff Hrft Hrtf Hrtt]
    · isplitl [Hrff]; · iexact Hrff
      isplitl [Hrft]; · iexact Hrft
      isplitl [Hrtf]; · iexact Hrtf
      iexact Hrtt
    isplitl [HC]; · iexact HC
    isplitl [Hxsf Hxst HxfR HxtR]
    · isplitl [Hxsf HxfR]
      · isplitl [Hxsf]; · iexact Hxsf
        iexact HxfR
      isplitl [Hxst]; · iexact Hxst
      iexact HxtR
    isplitl [Hc1 Hc2]; · isplitl [Hc1] <;> iassumption
    isplitl [Hc3 Hc4]; · isplitl [Hc3] <;> iassumption
    isplitl [Hfff Hfft Hftf Hftt]
    · isplitl [Hfff]; · iexact Hfff
      isplitl [Hfft]; · iexact Hfft
      isplitl [Hftf]; · iexact Hftf
      iexact Hftt
    isplitl [Hfut]; · iexact Hfut
    isplitl [Hro]; · iexact Hro
    iexact HO
  iintro Hmid
  try dsimp only
  rw [wp_bind]
  iapply (part26_run x p K c v2)
  isplitl [Hmid]; · iexact Hmid
  isplitl [Hfin]; · iexact Hfin
  isplitl [Hof]; · iexact Hof
  iintro Hdone Hof
  try dsimp only
  have eo : (freeV (F := F) c (oV true) : sProp 𝕄) = freeV c ((Memref.whole cc0_stg5_0 : Memref sig .tc .vmem S2x128x512 .f32).access (Rect.unit (s := S2x128x512) ![1, 0, 0] S1x128x512.size inb_S2x128x512_S1x128x512_1_0_0)) := rfl
  ihave Hot := (Entails.of_eq eo) $$ Hot
  iapply (load_at_free c) $$ Hot; iintro %w Hot
  iapply (store_at c (Memref.whole cc0_stg5_0) _) $$ Hot; iintro Hot
  iapply Hk
  isplitl [Hat]; · iexact Hat
  isplitl [Hdone]; · iexact Hdone
  isplitl [Hof]; · iexact Hof
  iexact Hot

end Cert.Proof.Ring

end
-- ==== Proof.Whole.lean ====
/-
  Whole buffers and the pieces the body works on: a ring buffer's slots, the two halves of the staged input and of the output.
-/
module

public import proofs.«01_k».proof.Proof.Ends
public import proofs.«01_k».proof.Proof.Body
public import Idealize.ShloMosaic.Lib.Ring

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## A ring buffer and its slots -/

theorem slots_disjoint (kd d : Bool) (b b' : Fin 8) (h : b ≠ b') : Disjoint (slotV kd d b).set (slotV kd d b').set := by
  show Disjoint ((bufM kd d).view.slice (slotR b)).set ((bufM kd d).view.slice (slotR b')).set
  rw [View.set_slice, View.set_slice, Finset.disjoint_map]
  refine Rect.unit_disjoint 0 ?_
  have : b.val ≠ b'.val := fun e => h (Fin.ext e)
  show b.val + 1 ≤ b'.val ∨ b'.val + 1 ≤ b.val
  omega

theorem bufM_set (kd d : Bool) : (bufM kd d).view.set = Finset.univ := by
  cases kd <;> cases d <;> exact View.set_whole _

/-- The slot's elements, as elements of its buffer. -/
abbrev slotSet (kd d : Bool) (b : Fin 8) : Finset (bufM kd d).view.ty.Idx := (slotV kd d b).set

theorem slots_cover (kd d : Bool) : (Finset.univ.biUnion fun b : Fin 8 => slotSet kd d b) = Finset.univ := by
  have h : ∀ b : Fin 8, slotSet kd d b = (slotR b).set.map (bufM kd d).view.emb := fun b => View.set_slice _ _
  have hc : (Finset.univ.biUnion fun b : Fin 8 => (slotR b).set) = (Finset.univ : Finset S8x128x512.Idx) := by
    ext i
    simp only [Finset.mem_biUnion, Finset.mem_univ, true_and, iff_true]
    refine ⟨⟨(i 0).val, (i 0).isLt⟩, Rect.mem_set_unit.mpr fun a => ?_⟩
    fin_cases a
    · exact ⟨le_rfl, Nat.lt_succ_self _⟩
    · exact ⟨Nat.zero_le _, by have := (i 1).isLt; show (i 1).val < 0 + 128; simpa using this⟩
    · exact ⟨Nat.zero_le _, by have := (i 2).isLt; show (i 2).val < 0 + 512; simpa using this⟩
  rw [← bufM_set kd d]
  simp only [h]
  show _ = Finset.univ.map (bufM kd d).view.emb
  rw [← hc]
  ext i
  simp only [Finset.mem_biUnion, Finset.mem_map, Finset.mem_univ, true_and]
  constructor
  · rintro ⟨b, x, hx, e⟩; exact ⟨x, ⟨b, hx⟩, e⟩
  · rintro ⟨x, ⟨b, hx⟩, e⟩; exact ⟨b, x, hx, e⟩

theorem slotFree_intro (c : Dev nD) (kd d : Bool) (b : Fin 8) (f : Buf (Elt F) ((slotV kd d b).loc (c : Thread nD τ))) :
    ((slotV kd d b).loc (c : Thread nD τ) ↦[(slotV kd d b).set]{fullShare} f : sProp 𝕄) ⊢ slotFree c kd d b := by
  unfold slotFree freeV; iintro H; iexists f; iexact H

/-- A whole ring buffer at any contents is its eight slots. -/
theorem allFree_intro (c : Dev nD) (kd d : Bool) (f : Buf (Elt F) ((bufM kd d).view.loc (c : Thread nD τ))) :
    ((bufM kd d).view.loc (c : Thread nD τ) ↦{fullShare} f : sProp 𝕄) ⊢ allFree c kd d :=
  (Entails.of_eq (Idealize.ShloMosaic.Ring.pointsTo_blocks (Ix := ℕ) (ℓ := (bufM kd d).view.loc (c : Thread nD τ)) (fun b : Fin 8 => slotSet kd d b) (slots_disjoint kd d) (slots_cover kd d) f)).trans
    (bigSep_mono (s := Finset.univ) (Ψ := fun b : Fin 8 => slotFree c kd d b) fun b _ => slotFree_intro c kd d b f)

theorem allFree_elim (c : Dev nD) (kd d : Bool) :
    (allFree (F := F) c kd d : sProp 𝕄)
      ⊢ iprop(∃ f : Buf (Elt F) ((bufM kd d).view.loc (c : Thread nD τ)), (bufM kd d).view.loc (c : Thread nD τ) ↦{fullShare} f) :=
  Idealize.ShloMosaic.Ring.pointsTo_blocks_join_exists (Ix := ℕ) (ℓ := (bufM kd d).view.loc (c : Thread nD τ)) (fun b : Fin 8 => slotSet kd d b) (slots_disjoint kd d) (slots_cover kd d)
    (fun _ => default)

/-! ## The staged input and output blocks -/

theorem half_disjoint : Disjoint (Rect.unit (s := S2x128x512) ![0, 0, 0] S1x128x512.size inb_S2x128x512_S1x128x512_0_0_0).set
    (Rect.unit (s := S2x128x512) ![1, 0, 0] S1x128x512.size inb_S2x128x512_S1x128x512_1_0_0).set :=
  Rect.unit_disjoint 0 (.inl (by show 0 + 1 ≤ 1; omega))

theorem half_cover : (Rect.unit (s := S2x128x512) ![0, 0, 0] S1x128x512.size inb_S2x128x512_S1x128x512_0_0_0).set
    ∪ (Rect.unit (s := S2x128x512) ![1, 0, 0] S1x128x512.size inb_S2x128x512_S1x128x512_1_0_0).set = (Finset.univ : Finset S2x128x512.Idx) := by
  ext i
  simp only [Finset.mem_union, Finset.mem_univ, iff_true]
  have h0 : (i 0).val < 2 := (i 0).isLt
  have h1 : (i 1).val < 128 := (i 1).isLt
  have h2 : (i 2).val < 512 := (i 2).isLt
  rcases Nat.lt_or_ge (i 0).val 1 with h | h
  · refine .inl (Rect.mem_set_unit.mpr fun a => ?_)
    fin_cases a
    · exact ⟨Nat.zero_le _, by show (i 0).val < 0 + 1; omega⟩
    · exact ⟨Nat.zero_le _, by show (i 1).val < 0 + 128; omega⟩
    · exact ⟨Nat.zero_le _, by show (i 2).val < 0 + 512; omega⟩
  · refine .inr (Rect.mem_set_unit.mpr fun a => ?_)
    fin_cases a
    · exact ⟨h, by show (i 0).val < 1 + 1; omega⟩
    · exact ⟨Nat.zero_le _, by show (i 1).val < 0 + 128; omega⟩
    · exact ⟨Nat.zero_le _, by show (i 2).val < 0 + 512; omega⟩

theorem xV_set0 : (xV false).set = (Rect.unit (s := S2x128x512) ![0, 0, 0] S1x128x512.size inb_S2x128x512_S1x128x512_0_0_0).set :=
  View.set_slice_whole _ _
theorem xV_set1 : (xV true).set = (Rect.unit (s := S2x128x512) ![1, 0, 0] S1x128x512.size inb_S2x128x512_S1x128x512_1_0_0).set :=
  View.set_slice_whole _ _
theorem oV_set0 : (oV false).set = (Rect.unit (s := S2x128x512) ![0, 0, 0] S1x128x512.size inb_S2x128x512_S1x128x512_0_0_0).set :=
  View.set_slice_whole _ _
theorem oV_set1 : (oV true).set = (Rect.unit (s := S2x128x512) ![1, 0, 0] S1x128x512.size inb_S2x128x512_S1x128x512_1_0_0).set :=
  View.set_slice_whole _ _

theorem cc0_stg0_0_halves (c : Dev nD) (f : Vec F S2x128x512 .f32) :
    (((c : Thread nD τ).loc cc0_stg0_0) ↦{fullShare} f : sProp 𝕄)
      = iprop((((c : Thread nD τ).loc cc0_stg0_0) ↦[(Rect.unit (s := S2x128x512) ![0, 0, 0] S1x128x512.size inb_S2x128x512_S1x128x512_0_0_0).set]{fullShare} f)
          ∗ (((c : Thread nD τ).loc cc0_stg0_0) ↦[(Rect.unit (s := S2x128x512) ![1, 0, 0] S1x128x512.size inb_S2x128x512_S1x128x512_1_0_0).set]{fullShare} f)) := by
  have h := pointsTo_union (Val := Elt F) (Ix := ℕ) (Name := ℕ) (U := UU) (Lvl := ℕ) (ℓ := (c : Thread nD τ).loc cc0_stg0_0) (q := fullShare) (f := f) half_disjoint
  refine Eq.trans ?_ (h.1.antisymm h.2)
  exact congrArg (fun S => (((c : Thread nD τ).loc cc0_stg0_0) ↦[S]{fullShare} f : sProp 𝕄)) half_cover.symm

theorem cc0_stg5_0_halves (c : Dev nD) (f : Vec F S2x128x512 .f32) :
    (((c : Thread nD τ).loc cc0_stg5_0) ↦{fullShare} f : sProp 𝕄)
      = iprop((((c : Thread nD τ).loc cc0_stg5_0) ↦[(Rect.unit (s := S2x128x512) ![0, 0, 0] S1x128x512.size inb_S2x128x512_S1x128x512_0_0_0).set]{fullShare} f)
          ∗ (((c : Thread nD τ).loc cc0_stg5_0) ↦[(Rect.unit (s := S2x128x512) ![1, 0, 0] S1x128x512.size inb_S2x128x512_S1x128x512_1_0_0).set]{fullShare} f)) := by
  have h := pointsTo_union (Val := Elt F) (Ix := ℕ) (Name := ℕ) (U := UU) (Lvl := ℕ) (ℓ := (c : Thread nD τ).loc cc0_stg5_0) (q := fullShare) (f := f) half_disjoint
  refine Eq.trans ?_ (h.1.antisymm h.2)
  exact congrArg (fun S => (((c : Thread nD τ).loc cc0_stg5_0) ↦[S]{fullShare} f : sProp 𝕄)) half_cover.symm

/-- Block `d` of a device's input. -/
def xBlk (X : Vec F S2x128x512 .f32) (d : Bool) : Blk F := (if d then fun i => X ((Rect.unit (s := S2x128x512) ![1, 0, 0] S1x128x512.size inb_S2x128x512_S1x128x512_1_0_0).emb i)
  else fun i => X ((Rect.unit (s := S2x128x512) ![0, 0, 0] S1x128x512.size inb_S2x128x512_S1x128x512_0_0_0).emb i))

/-- An index of a two-block array, in its block. -/
def rowOf (i : S2x128x512.Idx) : S1x128x512.Idx := fun a => ⟨if a = 0 then 0 else (i a).val, by
  have h1 : (i 1).val < 128 := (i 1).isLt
  have h2 : (i 2).val < 512 := (i 2).isLt
  fin_cases a
  · exact Nat.one_pos
  · exact h1
  · exact h2⟩

/-- The output block made of the two halves. -/
def oJoin (v : Bool → Blk F) : Vec F S2x128x512 .f32 := fun i => v (decide ((i 0).val = 1)) (rowOf i)

theorem rowOf_emb (o : ℕ) {inb} (x : S1x128x512.Idx) : rowOf ((Rect.unit (s := S2x128x512) ![o, 0, 0] S1x128x512.size inb).emb x) = x := by
  funext a
  apply Fin.ext
  have h0 : (x 0).val < 1 := (x 0).isLt
  fin_cases a
  · show 0 = (x 0).val; omega
  · show 0 + 1 * (x 1).val = (x 1).val; omega
  · show 0 + 1 * (x 2).val = (x 2).val; omega

theorem xBlk_oJoin (v : Bool → Blk F) (d : Bool) : xBlk (oJoin v) d = v d := by
  cases d
  · funext x
    have h0 : (x 0).val < 1 := (x 0).isLt
    have e : decide (((Rect.unit (s := S2x128x512) ![0, 0, 0] S1x128x512.size inb_S2x128x512_S1x128x512_0_0_0).emb x 0).val = 1) = false :=
      decide_eq_false (by show ¬ (0 + 1 * (x 0).val = 1); omega)
    show v (decide _) (rowOf _) = _
    rw [e, rowOf_emb]
  · funext x
    have h0 : (x 0).val < 1 := (x 0).isLt
    have e : decide (((Rect.unit (s := S2x128x512) ![1, 0, 0] S1x128x512.size inb_S2x128x512_S1x128x512_1_0_0).emb x 0).val = 1) = true :=
      decide_eq_true (by show 1 + 1 * (x 0).val = 1; omega)
    show v (decide _) (rowOf _) = _
    rw [e, rowOf_emb]

theorem x_split (c : Dev nD) (X : Vec F S2x128x512 .f32) :
    (((c : Thread nD τ).loc cc0_stg0_0) ↦{fullShare} X : sProp 𝕄)
      = iprop(heldV c (xV false) fullShare (xBlk X false) ∗ heldV c (xV true) fullShare (xBlk X true)) := by
  rw [← heldV_of c (xV false) fullShare X (xBlk X false) rfl, ← heldV_of c (xV true) fullShare X (xBlk X true) rfl, xV_set0, xV_set1]
  exact cc0_stg0_0_halves c _

theorem o_split (c : Dev nD) :
    (iprop(∃ f : Vec F S2x128x512 .f32, ((c : Thread nD τ).loc cc0_stg5_0) ↦{fullShare} f) : sProp 𝕄)
      ⊢ iprop(freeV c (oV false) ∗ freeV c (oV true)) := by
  iintro ⟨%X, H⟩
  have e : (((c : Thread nD τ).loc cc0_stg5_0) ↦{fullShare} X : sProp 𝕄)
      = iprop(((oV false).loc (c : Thread nD τ) ↦[(oV false).set]{fullShare} X) ∗ ((oV true).loc (c : Thread nD τ) ↦[(oV true).set]{fullShare} X)) := by
    rw [oV_set0, oV_set1]
    exact cc0_stg5_0_halves c _
  ihave H := (Entails.of_eq e) $$ H
  icases H with ⟨H0, H1⟩
  unfold freeV
  isplitl [H0]
  · iexists X; iexact H0
  · iexists X; iexact H1

theorem o_join (c : Dev nD) (v : Bool → Blk F) :
    iprop(heldV c (oV false) fullShare (v false) ∗ heldV c (oV true) fullShare (v true))
      ⊢ (((c : Thread nD τ).loc cc0_stg5_0) ↦{fullShare} (oJoin v) : sProp 𝕄) := by
  have e : (((c : Thread nD τ).loc cc0_stg5_0) ↦{fullShare} (oJoin v) : sProp 𝕄)
      = iprop(heldV c (oV false) fullShare (xBlk (oJoin v) false) ∗ heldV c (oV true) fullShare (xBlk (oJoin v) true)) := by
    rw [← heldV_of c (oV false) fullShare (oJoin v) (xBlk (oJoin v) false) rfl, ← heldV_of c (oV true) fullShare (oJoin v) (xBlk (oJoin v) true) rfl, oV_set0, oV_set1]
    exact cc0_stg5_0_halves c _
  rw [e, xBlk_oJoin, xBlk_oJoin]

end Cert.Proof.Ring

end
-- ==== Proof.Open.lean ====
/-
  Opening all of a device's own cells at the region's entry, and closing them after the last hop.
-/
module

public import proofs.«01_k».proof.Proof.Ends
public import proofs.«01_k».proof.Proof.Body

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem bsBool (Φ : Bool → sProp 𝕄) : bigSep Finset.univ Φ = iprop(Φ false ∗ Φ true) := by
  rw [show (Finset.univ : Finset Bool) = {false, true} by decide, bigSep_insert (by decide), bigSep_singleton]
  rfl

theorem bsProd {α : Type} [Fintype α] (Φ : Bool × α → sProp 𝕄) :
    bigSep Finset.univ Φ = iprop((bigSep Finset.univ fun a => Φ (false, a)) ∗ bigSep Finset.univ fun a => Φ (true, a)) :=
  (bigSep_univ_prod Φ).trans (bsBool _)

theorem bsCong {A B C D : sProp 𝕄} (h : A = C) (h' : B = D) : (iprop(A ∗ B) : sProp 𝕄) = iprop(C ∗ D) := by rw [h, h']

/-- A family over the device's own cells, by kind. -/
theorem okSplit (Φ : OK → sProp 𝕄) : bigSep Finset.univ Φ
    = iprop(((Φ (.inl (false, false)) ∗ Φ (.inl (false, true))) ∗ (Φ (.inl (true, false)) ∗ Φ (.inl (true, true))))
        ∗ ((((bigSep Finset.univ fun j => Φ (.inr (false, false, false, j))) ∗ (bigSep Finset.univ fun j => Φ (.inr (false, false, true, j))))
            ∗ ((bigSep Finset.univ fun j => Φ (.inr (false, true, false, j))) ∗ (bigSep Finset.univ fun j => Φ (.inr (false, true, true, j)))))
          ∗ (((bigSep Finset.univ fun j => Φ (.inr (true, false, false, j))) ∗ (bigSep Finset.univ fun j => Φ (.inr (true, false, true, j))))
            ∗ ((bigSep Finset.univ fun j => Φ (.inr (true, true, false, j))) ∗ (bigSep Finset.univ fun j => Φ (.inr (true, true, true, j))))))) :=
  (bigSep_univ_sum Φ).trans (bsCong
    ((bsProd _).trans (bsCong (bsBool _) (bsBool _)))
    ((bsProd _).trans (bsCong ((bsProd _).trans (bsCong (bsProd _) (bsProd _))) ((bsProd _).trans (bsCong (bsProd _) (bsProd _))))))

variable (Xs As : Bool → Dev nD → ℕ → Blk F) (K : GSem nD τ sig → ℕ) (c : Dev nD)

/-- The device's own cells opened: every owner stands at round 0. -/
theorem open_all : iprop(invs Xs As K ∗ (bigSep Finset.univ fun k : OK => openTok ER (cell c (some k))) ∗ Pipeline.ownSems0 osem c)
    ⊢ (iprop(|={Set.univ}=> bigSep Finset.univ fun k : OK => pos (F := F) (cell c (some k)) 0) : sProp 𝕄) := by
  classical
  have h : ∀ k ∈ (Finset.univ : Finset OK), iprop(invs Xs As K ∗ (openTok ER (cell c (some k)) ∗ semVal (cell c (some k)) 0))
      ⊢ (iprop(|={Set.univ}=> pos (F := F) (cell c (some k)) 0) : sProp 𝕄) := by
    intro k _
    unfold pos
    iintro ⟨#Hi, Ho, Hv⟩
    iapply (Rounds.cell_open ER (ringRd Xs As) (g := cell c (some k)) (Set.mem_univ (K (cell c (some k)))))
    isplitr; · iapply (inv_get Xs As K c (some k)); iexact Hi
    isplitl [Ho] <;> iassumption
  have e : (iprop((bigSep Finset.univ fun k : OK => openTok ER (cell c (some k))) ∗ Pipeline.ownSems0 osem c) : sProp 𝕄)
      = bigSep Finset.univ fun k : OK => iprop(openTok ER (cell c (some k)) ∗ semVal (cell c (some k)) 0) := (bigSep_sep' _ _ _).symm
  rw [e]
  exact BI.Entails.trans (bigSep_with_persistent h) (bigSep_fupd Finset.univ fun k : OK => pos (F := F) (cell c (some k)) 0)

/-- The send cells of a buffer closed. -/
theorem close_snd (kd d : Bool) : iprop(invs Xs As K ∗ posS c kd d (M kd + 1))
    ⊢ (iprop(|={Set.univ}=> bigSep Finset.univ fun j : Fin 8 => semVal (sndC kd d j c) 0) : sProp 𝕄) := by
  classical
  have h : ∀ j ∈ (Finset.univ : Finset (Fin 8)), iprop(invs Xs As K ∗ pos (F := F) (sndC kd d j c) (sndR j (M kd + 1)))
      ⊢ (iprop(|={Set.univ}=> semVal (sndC kd d j c) 0) : sProp 𝕄) := by
    intro j _
    unfold pos
    iintro ⟨#Hi, Hat, -⟩
    iapply (Rounds.cell_close ER (ringRd Xs As) (g := sndC kd d j c) (Set.mem_univ (K (sndC kd d j c))) (R := sndR j (M kd + 1)) (fun h => h)
      (fun r hr => (duties_snd Xs As c kd d j r).trans (if_neg (by unfold sndR at hr; have := j.isLt; omega))))
    isplitr; · iapply (inv_snd Xs As K c kd d j); iexact Hi
    iexact Hat
  refine BI.Entails.trans ?_ (bigSep_fupd Finset.univ fun j : Fin 8 => semVal (sndC kd d j c) 0)
  exact bigSep_with_persistent h

/-- The receive cells of a buffer closed. -/
theorem close_rcv (kd d : Bool) : iprop(invs Xs As K ∗ posR c kd d (M kd + 1))
    ⊢ (iprop(|={Set.univ}=> bigSep Finset.univ fun j : Fin 8 => semVal (rcvC kd d j c) 0) : sProp 𝕄) := by
  classical
  have h : ∀ j ∈ (Finset.univ : Finset (Fin 8)), iprop(invs Xs As K ∗ pos (F := F) (rcvC kd d j c) (rcvR j (M kd + 1)))
      ⊢ (iprop(|={Set.univ}=> semVal (rcvC kd d j c) 0) : sProp 𝕄) := by
    intro j _
    unfold pos
    iintro ⟨#Hi, Hat, -⟩
    iapply (Rounds.cell_close ER (ringRd Xs As) (g := rcvC kd d j c) (Set.mem_univ (K (rcvC kd d j c))) (R := rcvR j (M kd + 1)) (fun h => h)
      (fun r hr => (duties_rcv Xs As c kd d j r).trans (if_neg (by unfold rcvR at hr; unfold ridx; have := j.isLt; split at hr <;> split <;> omega))))
    isplitr; · iapply (inv_rcv Xs As K c kd d j); iexact Hi
    iexact Hat
  refine BI.Entails.trans ?_ (bigSep_fupd Finset.univ fun j : Fin 8 => semVal (rcvC kd d j c) 0)
  exact bigSep_with_persistent h

/-- A credit cell closed. -/
theorem close_cr (kd d : Bool) : iprop(invs Xs As K ∗ crS c kd d 32)
    ⊢ (iprop(|={Set.univ}=> semVal (crC kd d c) 0) : sProp 𝕄) := by
  have e : min (32 - 8) (Mc kd) = Mc kd := by cases kd <;> rfl
  unfold crS crSt
  rw [e]
  iintro ⟨#Hi, ⟨%S, %hS, Hat⟩⟩
  have hsub : Finset.range (Mc kd) ⊆ S := by
    have h0 : (Finset.range (Mc kd) \ S).card = 0 := by omega
    exact Finset.sdiff_eq_empty_iff_subset.mp (Finset.card_eq_zero.mp h0)
  imod (Rounds.fupd_skip ER (ringRd Xs As) (g := crC kd d c) (κ := K (crC kd d c)) (R := 0) (m := Mc kd) (T := S)
    ((duties_cr Xs As c kd d).symm ▸ hsub) (expect_cr Xs As c kd d).symm (Set.mem_univ _)) $$ [Hat] with ⟨Hat, -⟩
  · isplitr; · iapply (inv_cr Xs As K c kd d); iexact Hi
    iexact Hat
  iapply (Rounds.cell_close ER (ringRd Xs As) (g := crC kd d c) (Set.mem_univ (K (crC kd d c))) (R := 0 + 1) (fun h => h)
    (fun r hr => duties_cr_later Xs As c kd d r (by omega)))
  isplitr; · iapply (inv_cr Xs As K c kd d); iexact Hi
  iexact Hat

/-- The barrier's cell closed. -/
theorem close_bar : iprop(invs Xs As K ∗ atPos ER (barC c) 1 ∅ 0)
    ⊢ (iprop(|={Set.univ}=> semVal (barC c) 0) : sProp 𝕄) := by
  iintro ⟨#Hi, Hat⟩
  iapply (Rounds.cell_close ER (ringRd Xs As) (g := barC c) (Set.mem_univ (K (barC c))) (R := 1) (fun h => h)
    (fun r hr => duties_bar_later Xs As c r hr))
  isplitr; · iapply (inv_bar Xs As K c); iexact Hi
  iexact Hat

/-- Opened cells, by kind. -/
theorem opened_parts : (bigSep Finset.univ fun k : OK => pos (F := F) (cell c (some k)) 0 : sProp 𝕄)
    ⊢ iprop(ownCr c
      ∗ (posS c false false 1 ∗ posS c false true 1 ∗ posS c true false 1 ∗ posS c true true 1)
      ∗ (posR c false false 1 ∗ posR c false true 1 ∗ posR c true false 1 ∗ posR c true true 1)
      ∗ (crS c false false 1 ∗ crS c false true 1 ∗ crS c true false 1 ∗ crS c true true 1)) := by
  have hs : ∀ kd d, (bigSep Finset.univ fun j : Fin 8 => pos (F := F) (cell c (some (.inr (kd, d, false, j)))) 0 : sProp 𝕄) = posS c kd d 1 := by
    intro kd d
    unfold posS
    refine bigSep_congr fun j _ => ?_
    rw [show sndR j 1 = 0 by unfold sndR; have := j.isLt; omega]
    rfl
  have hr : ∀ kd d, (bigSep Finset.univ fun j : Fin 8 => pos (F := F) (cell c (some (.inr (kd, d, true, j)))) 0 : sProp 𝕄) = posR c kd d 1 := by
    intro kd d
    unfold posR
    refine bigSep_congr fun j _ => ?_
    rw [show rcvR j 1 = 0 by unfold rcvR; have := j.isLt; split <;> omega]
    rfl
  have hc : ∀ kd d, (atPos ER (crC kd d c) 0 ∅ 0 : sProp 𝕄) ⊢ crS c kd d 1 := by
    intro kd d
    unfold crS crSt
    rw [show min (1 - 8) (Mc kd) = 0 by omega]
    iintro H; iexists ∅
    isplitr; · ipureintro; simp
    iexact H
  rw [okSplit, hs, hs, hs, hs, hr, hr, hr, hr]
  have e : ∀ kd d, (pos (F := F) (cell c (some (.inl (kd, d)))) 0 : sProp 𝕄) = iprop(atPos ER (crC kd d c) 0 ∅ 0 ∗ reached ER (crC kd d c) 0) := fun _ _ => rfl
  rw [e, e, e, e]
  unfold ownCr
  iintro ⟨⟨⟨⟨A1, #R1⟩, ⟨A2, #R2⟩⟩, ⟨⟨A3, #R3⟩, ⟨A4, #R4⟩⟩⟩, ⟨⟨⟨S1, V1⟩, ⟨S2, V2⟩⟩, ⟨⟨S3, V3⟩, ⟨S4, V4⟩⟩⟩⟩
  isplitr
  · isplitr; · iexact R1
    isplitr; · iexact R2
    isplitr; · iexact R3
    iexact R4
  isplitl [S1 S2 S3 S4]
  · isplitl [S1]; · iexact S1
    isplitl [S2]; · iexact S2
    isplitl [S3] <;> iassumption
  isplitl [V1 V2 V3 V4]
  · isplitl [V1]; · iexact V1
    isplitl [V2]; · iexact V2
    isplitl [V3] <;> iassumption
  isplitl [A1]; · iapply (hc false false); iexact A1
  isplitl [A2]; · iapply (hc false true); iexact A2
  isplitl [A3]; · iapply (hc true false); iexact A3
  iapply (hc true true); iexact A4

/-- Everything of the protocol closed: all counters of the device are zero. -/
theorem close_all : iprop(invs Xs As K ∗ atPos ER (barC c) 1 ∅ 0
      ∗ (posS c false false 32 ∗ posS c false true 32 ∗ posS c true false 33 ∗ posS c true true 33)
      ∗ (posR c false false 32 ∗ posR c false true 32 ∗ posR c true false 33 ∗ posR c true true 33)
      ∗ (crS c false false 32 ∗ crS c false true 32 ∗ crS c true false 32 ∗ crS c true true 32))
    ⊢ (iprop(|={Set.univ}=> (semVal (barC c) 0 ∗ Pipeline.ownSems0 osem c)) : sProp 𝕄) := by
  have e : (Pipeline.ownSems0 osem c : sProp 𝕄) = bigSep Finset.univ fun k : OK => semVal (cell c (some k)) 0 := rfl
  rw [e, okSplit]
  iintro ⟨#Hi, Hb, ⟨S1, S2, S3, S4⟩, ⟨V1, V2, V3, V4⟩, ⟨C1, C2, C3, C4⟩⟩
  imod (close_bar Xs As K c) $$ [Hb] with Hb
  · isplitr; · iexact Hi
    iexact Hb
  imod (close_snd Xs As K c false false) $$ [S1] with S1
  · isplitr; · iexact Hi
    iexact S1
  imod (close_snd Xs As K c false true) $$ [S2] with S2
  · isplitr; · iexact Hi
    iexact S2
  imod (close_snd Xs As K c true false) $$ [S3] with S3
  · isplitr; · iexact Hi
    iexact S3
  imod (close_snd Xs As K c true true) $$ [S4] with S4
  · isplitr; · iexact Hi
    iexact S4
  imod (close_rcv Xs As K c false false) $$ [V1] with V1
  · isplitr; · iexact Hi
    iexact V1
  imod (close_rcv Xs As K c false true) $$ [V2] with V2
  · isplitr; · iexact Hi
    iexact V2
  imod (close_rcv Xs As K c true false) $$ [V3] with V3
  · isplitr; · iexact Hi
    iexact V3
  imod (close_rcv Xs As K c true true) $$ [V4] with V4
  · isplitr; · iexact Hi
    iexact V4
  imod (close_cr Xs As K c false false) $$ [C1] with C1
  · isplitr; · iexact Hi
    iexact C1
  imod (close_cr Xs As K c false true) $$ [C2] with C2
  · isplitr; · iexact Hi
    iexact C2
  imod (close_cr Xs As K c true false) $$ [C3] with C3
  · isplitr; · iexact Hi
    iexact C3
  imod (close_cr Xs As K c true true) $$ [C4] with C4
  · isplitr; · iexact Hi
    iexact C4
  imodintro
  isplitl [Hb]; · iexact Hb
  isplitl [C1 C2 C3 C4]
  · isplitl [C1 C2]
    · isplitl [C1]; · iexact C1
      iexact C2
    isplitl [C3]; · iexact C3
    iexact C4
  isplitl [S1 V1 S2 V2]
  · isplitl [S1 V1]
    · isplitl [S1]; · iexact S1
      iexact V1
    isplitl [S2]; · iexact S2
    iexact V2
  isplitl [S3 V3]
  · isplitl [S3]; · iexact S3
    iexact V3
  isplitl [S4]; · iexact S4
  iexact V4

end Cert.Proof.Ring

end
-- ==== Proof.Region.lean ====
/-
  The region of the kernel: its data, its body and its boundary.
-/
module

public import proofs.«01_k».proof.Proof.Whole
public import proofs.«01_k».proof.Proof.Open
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit.Geometry

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
open Idealize.ShloMosaic.Pipeline (Dat BodyObligation)

variable (m : (ℓ : Loc nD τ sig) → Buf (Elt F) ℓ) (c : Dev nD)

/-- The input block of a device, its parameters, and its output block. -/
def xin : Vec F S2x128x512 .f32 := V1 m c main_arg0
def parD : Par F := ⟨V1 m c main_arg1, V1 m c main_arg4, V1 m c main_v15, V1 m c main_v16⟩
def xD (d : Bool) (c : Dev nD) : Blk F := xBlk (xin m c) d
def outD : Vec F S2x128x512 .f32 := oJoin fun d => outV (xD m) (parD m) d c

/-- What the body starts from, beside the buffers. -/
def openedSt (K : GSem nD τ sig → ℕ) : sProp 𝕄 :=
  iprop(invs (xcs (xD m)) (acs (xD m) (parD m)) K ∗ levAts L lv ∗ reached ER (barC (nxt true c)) 0 ∗ reached ER (barC (nxt false c)) 0
    ∗ (dutyTok ER (barC (nxt true c)) 0 0 ∗ dutyTok ER (barC (nxt false c)) 0 1) ∗ ownCr c
    ∗ cred (tallyAt (barC c) 0 2) ∗ atPos ER (barC c) 0 ∅ 0
    ∗ (posS c false false 1 ∗ posS c false true 1 ∗ posS c true false 1 ∗ posS c true true 1)
    ∗ (posR c false false 1 ∗ posR c false true 1 ∗ posR c true false 1 ∗ posR c true true 1)
    ∗ (crS c false false 1 ∗ crS c false true 1 ∗ crS c true false 1 ∗ crS c true true 1)
    ∗ (sdTok c false false 0 ∗ sdTok c false true 0 ∗ sdTok c true false 0 ∗ sdTok c true true 0)
    ∗ fut c 1 ∗ (cred (tallyAt (rcvC true false (sl 32) c) 32 N) ∗ cred (tallyAt (rcvC true true (sl 32) c) 32 N)))

/-- The four ring buffers, free. -/
def bufs4 : sProp 𝕄 := iprop(allFree c false false ∗ allFree c false true ∗ allFree c true false ∗ allFree c true true)

/-- The region's data: the arrays as the host leaves them, the output after the body, and the protocol around it. -/
def dat0 : Dat τ (Elt F) ℕ ℕ UU ℕ cfg0 c where
  A w := V1 m c (Proc.devRef .tc (Pipeline.arrRef spec0 w))
  after w t := match w with
    | 0 => xin m c
    | 1 => V1 m c main_arg1
    | 2 => V1 m c main_arg4
    | 3 => V1 m c main_v15
    | 4 => V1 m c main_v16
    | 5 => outD m c
  Φ t := if t.val = 0 then iprop((∃ K, openedSt m c K) ∗ bufs4 c ∗ ∃ r, prngReg c r)
    else iprop((semVal (barC c) 0 ∗ Pipeline.ownSems0 osem c) ∗ bufs4 c ∗ ∃ r, prngReg c r)
  q _ := fullShare
  owed t := if t.val = 0 then O₀ c else 0

def pdats : (p : Fin 1) → (c : Dev nD) → Dat τ (Elt F) ℕ ℕ UU ℕ (Pipeline.pin (pcfgs (F := F)) adm p) c
  | 0 => dat0 m

/-! ## The block of a window that is the whole array -/

section
variable {F : FTy → Type} [FloatOps F]

theorem blk_read0 (f : Vec F S2x128x512 .f32) : ((win0_0.blk t0_0).view.read (Elt F) f : Vec F S2x128x512 .f32) = f := by
  funext x
  show f _ = f x
  refine congrArg f (funext fun a => Fin.ext ?_)
  show 0 * _ + 1 * (x a).val = (x a).val
  rw [Nat.zero_mul, Nat.zero_add, Nat.one_mul]
theorem blk_read1 (f : Vec F S512x512 .f32) : ((win0_1.blk t0_0).view.read (Elt F) f : Vec F S512x512 .f32) = f := by
  funext x
  show f _ = f x
  refine congrArg f (funext fun a => Fin.ext ?_)
  show 0 * _ + 1 * (x a).val = (x a).val
  rw [Nat.zero_mul, Nat.zero_add, Nat.one_mul]
theorem blk_read2 (f : Vec F S512x512 .f32) : ((win0_2.blk t0_0).view.read (Elt F) f : Vec F S512x512 .f32) = f := by
  funext x
  show f _ = f x
  refine congrArg f (funext fun a => Fin.ext ?_)
  show 0 * _ + 1 * (x a).val = (x a).val
  rw [Nat.zero_mul, Nat.zero_add, Nat.one_mul]
theorem blk_read3 (f : Vec F S2x8x128x64 .f32) : ((win0_3.blk t0_0).view.read (Elt F) f : Vec F S2x8x128x64 .f32) = f := by
  funext x
  show f _ = f x
  refine congrArg f (funext fun a => Fin.ext ?_)
  show 0 * _ + 1 * (x a).val = (x a).val
  rw [Nat.zero_mul, Nat.zero_add, Nat.one_mul]
theorem blk_read4 (f : Vec F S2x8x128x64 .f32) : ((win0_4.blk t0_0).view.read (Elt F) f : Vec F S2x8x128x64 .f32) = f := by
  funext x
  show f _ = f x
  refine congrArg f (funext fun a => Fin.ext ?_)
  show 0 * _ + 1 * (x a).val = (x a).val
  rw [Nat.zero_mul, Nat.zero_add, Nat.one_mul]
theorem blk_read5 (f : Vec F S2x128x512 .f32) : ((win0_5.blk t0_0).view.read (Elt F) f : Vec F S2x128x512 .f32) = f := by
  funext x
  show f _ = f x
  refine congrArg f (funext fun a => Fin.ext ?_)
  show 0 * _ + 1 * (x a).val = (x a).val
  rw [Nat.zero_mul, Nat.zero_add, Nat.one_mul]
end

theorem before0 (d) : (dat0 m c).before 0 t0_0 d = xin m c := by
  rw [Dat.before_fetched _ 0 t0_0 (fetch0_0 t0_0) d]
  exact blk_read0 (V1 m c main_arg0)
theorem before1 (d) : (dat0 m c).before 1 t0_0 d = V1 m c main_arg1 := by
  rw [Dat.before_fetched _ 1 t0_0 (fetch0_1 t0_0) d]
  exact blk_read1 (V1 m c main_arg1)
theorem before2 (d) : (dat0 m c).before 2 t0_0 d = V1 m c main_arg4 := by
  rw [Dat.before_fetched _ 2 t0_0 (fetch0_2 t0_0) d]
  exact blk_read2 (V1 m c main_arg4)
theorem before3 (d) : (dat0 m c).before 3 t0_0 d = V1 m c main_v15 := by
  rw [Dat.before_fetched _ 3 t0_0 (fetch0_3 t0_0) d]
  exact blk_read3 (V1 m c main_v15)
theorem before4 (d) : (dat0 m c).before 4 t0_0 d = V1 m c main_v16 := by
  rw [Dat.before_fetched _ 4 t0_0 (fetch0_4 t0_0) d]
  exact blk_read4 (V1 m c main_v16)

theorem arr5 : (dat0 m c).arrAt 5 cfg0.N = outD m c := by
  refine (dat0 m c).arrAt_eq_of_covers 5 _ (by decide +kernel) fun t hf y => ?_
  exact (congrFun (blk_read5 (outD m c)) y).symm

/-- A whole buffer owned at known contents is the buffer held at them. -/
theorem owns_held {s : Shape} (w : Memref sig .tc .vmem s .f32) (q : PosShare TreeShare) (X : Vec F s .f32) :
    (owns (c : Thread nD τ) w q X : sProp 𝕄) = heldV c w.view q X := by
  have h1 : (owns (c : Thread nD τ) w q X : sProp 𝕄) ⊢ heldV c w.view q X := by
    unfold owns
    iintro ⟨%f, %h, H⟩
    iapply (Entails.of_eq (heldV_of c w.view q f X h))
    iexact H
  have h2 : (heldV c w.view q X : sProp 𝕄) ⊢ owns (c : Thread nD τ) w q X := by
    unfold owns heldV
    iintro H
    iexists _
    isplitr; · ipureintro; exact View.read_rep (Val := Elt F) w.view X
    iexact H
  exact h1.antisymm h2

theorem owesAt_mk (t : Fin (cfg0.N + 1)) (O : CellTallies nD τ sig ℕ) (h : (dat0 m c).owed t = O) :
    (ow c O : sProp 𝕄) ⊢ (dat0 m c).owesAt 0 t := by
  unfold ow Dat.owesAt Pipeline.owesWithin Dat.bound
  rw [h, show (dat0 m c).recorded t = Set.univ from rfl]
  iintro ⟨%W, H⟩
  iexists W
  isplitr; · ipureintro; exact fun _ _ => Or.inl trivial
  iexact H

theorem owesAt_ow (t : Fin (cfg0.N + 1)) (O : CellTallies nD τ sig ℕ) (h : (dat0 m c).owed t = O) :
    ((dat0 m c).owesAt 0 t : sProp 𝕄) ⊢ ow c O := by
  unfold ow Dat.owesAt Pipeline.owesWithin
  rw [h]
  iintro ⟨%W, -, H⟩
  iexists W
  iexact H

theorem owed_first : (dat0 m c).owed 0 = O₀ c := by
  show (if (0 : Fin (cfg0.N + 1)).val = 0 then O₀ c else 0) = _
  exact if_pos rfl
theorem owed_first' : (dat0 m c).owed t0_0.castSucc = O₀ c := by
  show (if (t0_0 : Fin cfg0.N).castSucc.val = 0 then O₀ c else 0) = _
  exact if_pos rfl
theorem owed_last : (dat0 m c).owed (Fin.last _) = 0 := by
  show (if (Fin.last cfg0.N).val = 0 then O₀ c else 0) = _
  exact if_neg (by decide)
theorem owed_last' : (dat0 m c).owed t0_0.succ = 0 := by
  show (if (t0_0 : Fin cfg0.N).succ.val = 0 then O₀ c else 0) = _
  exact if_neg (by decide)

theorem in0 : (iprop(∃ d, owns (c : Thread nD τ) (Memref.whole cc0_stg0_0) fullShare ((dat0 m c).before 0 t0_0 d)) : sProp 𝕄)
    ⊢ owns (c : Thread nD τ) (Memref.whole cc0_stg0_0) fullShare (xin m c) := by
  iintro ⟨%d, H⟩
  iapply (Entails.of_eq (congrArg (owns (c : Thread nD τ) (Memref.whole cc0_stg0_0) fullShare) (before0 m c d)))
  iexact H
theorem in1 : (iprop(∃ d, owns (c : Thread nD τ) (Memref.whole cc0_stg1_0) fullShare ((dat0 m c).before 1 t0_0 d)) : sProp 𝕄)
    ⊢ owns (c : Thread nD τ) (Memref.whole cc0_stg1_0) fullShare (V1 m c main_arg1) := by
  iintro ⟨%d, H⟩
  iapply (Entails.of_eq (congrArg (owns (c : Thread nD τ) (Memref.whole cc0_stg1_0) fullShare) (before1 m c d)))
  iexact H
theorem in2 : (iprop(∃ d, owns (c : Thread nD τ) (Memref.whole cc0_stg2_0) fullShare ((dat0 m c).before 2 t0_0 d)) : sProp 𝕄)
    ⊢ owns (c : Thread nD τ) (Memref.whole cc0_stg2_0) fullShare (V1 m c main_arg4) := by
  iintro ⟨%d, H⟩
  iapply (Entails.of_eq (congrArg (owns (c : Thread nD τ) (Memref.whole cc0_stg2_0) fullShare) (before2 m c d)))
  iexact H
theorem in3 : (iprop(∃ d, owns (c : Thread nD τ) (Memref.whole cc0_stg3_0) fullShare ((dat0 m c).before 3 t0_0 d)) : sProp 𝕄)
    ⊢ owns (c : Thread nD τ) (Memref.whole cc0_stg3_0) fullShare (V1 m c main_v15) := by
  iintro ⟨%d, H⟩
  iapply (Entails.of_eq (congrArg (owns (c : Thread nD τ) (Memref.whole cc0_stg3_0) fullShare) (before3 m c d)))
  iexact H
theorem in4 : (iprop(∃ d, owns (c : Thread nD τ) (Memref.whole cc0_stg4_0) fullShare ((dat0 m c).before 4 t0_0 d)) : sProp 𝕄)
    ⊢ owns (c : Thread nD τ) (Memref.whole cc0_stg4_0) fullShare (V1 m c main_v16) := by
  iintro ⟨%d, H⟩
  iapply (Entails.of_eq (congrArg (owns (c : Thread nD τ) (Memref.whole cc0_stg4_0) fullShare) (before4 m c d)))
  iexact H

/-- What the windows give the body. -/
def stIn : sProp 𝕄 :=
  iprop((∃ d, owns (c : Thread nD τ) (Memref.whole cc0_stg0_0) fullShare ((dat0 m c).before 0 t0_0 d))
    ∗ (∃ d, owns (c : Thread nD τ) (Memref.whole cc0_stg1_0) fullShare ((dat0 m c).before 1 t0_0 d))
    ∗ (∃ d, owns (c : Thread nD τ) (Memref.whole cc0_stg2_0) fullShare ((dat0 m c).before 2 t0_0 d))
    ∗ (∃ d, owns (c : Thread nD τ) (Memref.whole cc0_stg3_0) fullShare ((dat0 m c).before 3 t0_0 d))
    ∗ (∃ d, owns (c : Thread nD τ) (Memref.whole cc0_stg4_0) fullShare ((dat0 m c).before 4 t0_0 d))
    ∗ (∃ d, owns (c : Thread nD τ) (Memref.whole cc0_stg5_0) fullShare ((dat0 m c).before 5 t0_0 d)))
/-- What the body gives the windows. -/
def stOut : sProp 𝕄 :=
  iprop(owns (c : Thread nD τ) (Memref.whole cc0_stg0_0) fullShare (xin m c)
    ∗ owns (c : Thread nD τ) (Memref.whole cc0_stg1_0) fullShare (V1 m c main_arg1)
    ∗ owns (c : Thread nD τ) (Memref.whole cc0_stg2_0) fullShare (V1 m c main_arg4)
    ∗ owns (c : Thread nD τ) (Memref.whole cc0_stg3_0) fullShare (V1 m c main_v15)
    ∗ owns (c : Thread nD τ) (Memref.whole cc0_stg4_0) fullShare (V1 m c main_v16)
    ∗ owns (c : Thread nD τ) (Memref.whole cc0_stg5_0) fullShare (outD m c))

theorem stIn_use : stIn m c ⊢ iprop((heldV c (xV false) fullShare (xD m false c) ∗ heldV c (xV true) fullShare (xD m true c))
    ∗ ro c (parD m c) ∗ (freeV c (oV false) ∗ freeV c (oV true))) := by
  unfold stIn ro parD xD
  rw [← x_split c (xin m c), ← owns_held, ← owns_held, ← owns_held, ← owns_held]
  iintro ⟨H0, H1, H2, H3, H4, H5⟩
  isplitl [H0]
  · ihave H := (in0 m c) $$ H0
    iapply (Entails.of_eq (owns_whole (c : Thread nD τ) cc0_stg0_0 fullShare (xin m c)))
    iexact H
  isplitr [H5]
  · isplitl [H1]; · iapply (in1 m c); iexact H1
    isplitl [H2]; · iapply (in2 m c); iexact H2
    isplitl [H3]; · iapply (in3 m c); iexact H3
    iapply (in4 m c); iexact H4
  iapply (o_split c)
  icases H5 with ⟨%d, H⟩
  iexists _
  iapply (Entails.of_eq (owns_whole (c : Thread nD τ) cc0_stg5_0 fullShare ((dat0 m c).before 5 t0_0 d)))
  iexact H

theorem stOut_mk : iprop((heldV c (xV false) fullShare (xD m false c) ∗ heldV c (xV true) fullShare (xD m true c))
    ∗ ro c (parD m c) ∗ (heldV c (oV false) fullShare (outV (xD m) (parD m) false c) ∗ heldV c (oV true) fullShare (outV (xD m) (parD m) true c)))
    ⊢ stOut m c := by
  unfold stOut ro parD xD
  rw [← x_split c (xin m c), ← owns_held, ← owns_held, ← owns_held, ← owns_held]
  iintro ⟨H0, ⟨H1, H2, H3, H4⟩, H5⟩
  isplitl [H0]
  · iapply (Entails.of_eq (owns_whole (c : Thread nD τ) cc0_stg0_0 fullShare (xin m c)).symm)
    iexact H0
  isplitl [H1]; · iexact H1
  isplitl [H2]; · iexact H2
  isplitl [H3]; · iexact H3
  isplitl [H4]; · iexact H4
  iapply (Entails.of_eq (owns_whole (c : Thread nD τ) cc0_stg5_0 fullShare (outD m c)).symm)
  iapply (o_join c fun d => outV (xD m) (parD m) d c)
  iexact H5

theorem body_wp : iprop(((∃ K, openedSt m c K) ∗ bufs4 c ∗ ∃ r, prngReg c r) ∗ (dat0 m c).owesAt 0 t0_0.castSucc ∗ stIn m c)
    ⊢ (wp frame (wpE (defs₀ (F := F)) 𝒱₀ ((c : Dev nD) : Thread nD τ) none) Set.univ) (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12) fun _ => iprop(((semVal (barC c) 0 ∗ Pipeline.ownSems0 osem c) ∗ bufs4 c ∗ ∃ r, prngReg c r)
        ∗ (dat0 m c).owesAt 0 t0_0.succ ∗ stOut m c) := by
  iintro ⟨⟨⟨%K, Hg⟩, Hb, Hp⟩, HO, Hst⟩
  ihave HO := (owesAt_ow m c _ _ (owed_first' m c)) $$ HO
  ihave Hst := (stIn_use m c) $$ Hst
  icases Hst with ⟨Hx, Hro, Hof⟩
  unfold openedSt
  icases Hg with ⟨#Hi, #Hlev, #Hb1, #Hb2, Ht, Hcr, Hcb, Hat, HS, HR, HC, Hd, Hfut, Hfin⟩
  iapply (body_run (xD m) (parD m) K c _)
  isplitr [Hof Hp]
  · unfold startSt
    isplitr; · iexact Hi
    isplitr; · iexact Hlev
    isplitr; · iexact Hb1
    isplitr; · iexact Hb2
    isplitl [Ht]; · iexact Ht
    isplitl [Hcr]; · iexact Hcr
    isplitl [Hcb]; · iexact Hcb
    isplitl [Hat]; · iexact Hat
    isplitl [HS]; · iexact HS
    isplitl [HR]; · iexact HR
    isplitl [HC]; · iexact HC
    isplitl [Hd]; · iexact Hd
    isplitl [Hfut]; · iexact Hfut
    isplitl [Hfin]; · iexact Hfin
    isplitl [Hb]; · unfold bufs4; iexact Hb
    isplitl [Hx]; · iexact Hx
    isplitl [Hro]; · iexact Hro
    iexact HO
  isplitl [Hof]; · iexact Hof
  unfold doneSt
  iintro ⟨Hat, ⟨HS, HR, HC, Hb, Hx, Hro, HO⟩, Hout⟩
  rw [wp_ret]
  imod (close_all (xcs (xD m)) (acs (xD m) (parD m)) K c) $$ [Hat HS HR HC] with Hsem
  · isplitr; · iexact Hi
    isplitl [Hat]; · iexact Hat
    isplitl [HS]; · iexact HS
    isplitl [HR]; · iexact HR
    iexact HC
  imodintro
  isplitl [Hsem Hb Hp]
  · isplitl [Hsem]; · iexact Hsem
    isplitl [Hb]; · unfold bufs4; iexact Hb
    iexact Hp
  isplitl [HO]
  · iapply (owesAt_mk m c _ _ (owed_last' m c)); iexact HO
  iapply (stOut_mk m c)
  isplitl [Hx]; · iexact Hx
  isplitl [Hro]; · iexact Hro
  iexact Hout

theorem phi_first : (dat0 m c).Φ (t0_0 : Fin cfg0.N).castSucc = iprop((∃ K, openedSt m c K) ∗ bufs4 c ∗ ∃ r, prngReg c r) := by
  show (if (t0_0 : Fin cfg0.N).castSucc.val = 0 then iprop((∃ K, openedSt m c K) ∗ bufs4 c ∗ ∃ r, prngReg c r)
    else iprop((semVal (barC c) 0 ∗ Pipeline.ownSems0 osem c) ∗ bufs4 c ∗ ∃ r, prngReg c r)) = _
  exact if_pos rfl
theorem phi_last : (dat0 m c).Φ (t0_0 : Fin cfg0.N).succ = iprop((semVal (barC c) 0 ∗ Pipeline.ownSems0 osem c) ∗ bufs4 c ∗ ∃ r, prngReg c r) := by
  show (if (t0_0 : Fin cfg0.N).succ.val = 0 then iprop((∃ K, openedSt m c K) ∗ bufs4 c ∗ ∃ r, prngReg c r)
    else iprop((semVal (barC c) 0 ∗ Pipeline.ownSems0 osem c) ∗ bufs4 c ∗ ∃ r, prngReg c r)) = _
  exact if_neg (by decide)

theorem body0 : BodyObligation (dat0 m c) (defs₀ (F := F)) 𝒱₀ 0 Set.univ := fun t => by
  obtain rfl := fin_N0 t
  have h := body_wp m c
  rw [← phi_first, ← phi_last] at h
  rw [bigSep_W0, bigSep_W0]
  exact h

/-! ## The region's boundary -/

/-- What a device holds of the protocol from the launch to the region. -/
def Tk : sProp 𝕄 :=
  iprop((∃ K, invs (xcs (xD m)) (acs (xD m) (parD m)) K) ∗ reached ER (barC (nxt true c)) 0 ∗ reached ER (barC (nxt false c)) 0
    ∗ (dutyTok ER (barC (nxt true c)) 0 0 ∗ dutyTok ER (barC (nxt false c)) 0 1)
    ∗ cred (tallyAt (barC c) 0 2) ∗ atPos ER (barC c) 0 ∅ 0
    ∗ (bigSep Finset.univ fun k : OK => openTok ER (cell c (some k)))
    ∗ (sdTok c false false 0 ∗ sdTok c false true 0 ∗ sdTok c true false 0 ∗ sdTok c true true 0)
    ∗ fut c 1 ∗ (cred (tallyAt (rcvC true false (sl 32) c) 32 N) ∗ cred (tallyAt (rcvC true true (sl 32) c) 32 N)))
/-- The same once its cells are open, and what it holds at the end. -/
def Xk : sProp 𝕄 := iprop(∃ K, openedSt m c K)
def Yk : sProp 𝕄 := semVal (barC c) 0

theorem hopen0 : iprop(Tk m c ∗ Pipeline.ownSems0 osem c ∗ levAts L lv) ⊢ (iprop(|={Set.univ}=> Xk m c) : sProp 𝕄) := by
  unfold Tk Xk openedSt
  iintro ⟨⟨⟨%K, #Hi⟩, #Hb1, #Hb2, Ht, Hcb, Hat, Hop, Hd, Hfut, Hfin⟩, Hs, #Hlev⟩
  imod (open_all (xcs (xD m)) (acs (xD m) (parD m)) K c) $$ [Hop Hs] with Hp
  · isplitr; · iexact Hi
    isplitl [Hop] <;> iassumption
  ihave Hp := (opened_parts c) $$ Hp
  icases Hp with ⟨Hcr, HS, HR, HC⟩
  imodintro
  iexists K
  isplitr; · iexact Hi
  isplitr; · iexact Hlev
  isplitr; · iexact Hb1
  isplitr; · iexact Hb2
  isplitl [Ht]; · iexact Ht
  isplitl [Hcr]; · iexact Hcr
  isplitl [Hcb]; · iexact Hcb
  isplitl [Hat]; · iexact Hat
  isplitl [HS]; · iexact HS
  isplitl [HR]; · iexact HR
  isplitl [HC]; · iexact HC
  isplitl [Hd]; · iexact Hd
  isplitl [Hfut]; · iexact Hfut
  iexact Hfin

theorem bufs4_intro : (Pipeline.scopedRest (Ix := ℕ) (Name := ℕ) (U := UU) (Lvl := ℕ) (Val := Elt F) spec0 c : sProp 𝕄) ⊢ bufs4 c := by
  rw [scopedRest0_eq]
  unfold bufs4
  iintro ⟨⟨%f0, H0⟩, ⟨%f1, H1⟩, ⟨%f2, H2⟩, ⟨%f3, H3⟩⟩
  isplitl [H0]; · iapply (allFree_intro c false false f0); iexact H0
  isplitl [H1]; · iapply (allFree_intro c false true f1); iexact H1
  isplitl [H2]; · iapply (allFree_intro c true false f2); iexact H2
  iapply (allFree_intro c true true f3); iexact H3

theorem bufs4_elim : (bufs4 c : sProp 𝕄) ⊢ Pipeline.scopedRest (Ix := ℕ) (Name := ℕ) (U := UU) (Lvl := ℕ) (Val := Elt F) spec0 c := by
  rw [scopedRest0_eq]
  unfold bufs4
  iintro ⟨H0, H1, H2, H3⟩
  isplitl [H0]; · iapply (allFree_elim c false false); iexact H0
  isplitl [H1]; · iapply (allFree_elim c false true); iexact H1
  isplitl [H2]; · iapply (allFree_elim c true false); iexact H2
  iapply (allFree_elim c true true); iexact H3

theorem hin0 : iprop(Pipeline.scopedRest (Pipeline.pin (pcfgs (F := F)) adm 0).spec c ∗ (∃ r, prngReg c r) ∗ StableHlo.held (c.tc : Thread nD τ) ∅ (V1 m c) ∗ Xk m c)
    ⊢ (pdats m 0 c).Φ 0 := by
  have e : (pdats m 0 c).Φ 0 = iprop((∃ K, openedSt m c K) ∗ bufs4 c ∗ ∃ r, prngReg c r) := phi_first m c
  rw [e]
  unfold Xk
  iintro ⟨Hs, Hp, -, HX⟩
  isplitl [HX]; · iexact HX
  isplitl [Hs]; · iapply (bufs4_intro c); iexact Hs
  iexact Hp

/-- The host buffers after the region. -/
def W2 (c : Dev nD) : Valuation τ sig (Elt F) := Function.update (V1 m c) main_v17 (outD m c)

theorem hout0 : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W2 m c) ∗ Pipeline.ownSems0 osem c ∗ Yk c) := by
  have e : (pdats m 0 c).Φ (Fin.last (Pipeline.pin (pcfgs (F := F)) adm 0).N) = iprop((semVal (barC c) 0 ∗ Pipeline.ownSems0 osem c) ∗ bufs4 c ∗ ∃ r, prngReg c r) := phi_last m c
  rw [e]
  unfold Yk
  iintro ⟨⟨Hb, Hs⟩, Hf, Hp⟩
  isplitl [Hf]; · iapply (bufs4_elim c); iexact Hf
  isplitl [Hp]; · iexact Hp
  isplitr; · unfold StableHlo.held; rw [bigSep_empty]; iempintro
  isplitl [Hs]; · iexact Hs
  iexact Hb

theorem above_O₀ : Above 0 (O₀ c) := by
  unfold O₀
  refine Above.add (Above.add (Above.add (Above.add (Above.add (Above.add (above_Orem c 1 0 (by decide)) (above_sd _ _ _ _ _ (by decide)))
    (above_sd _ _ _ _ _ (by decide))) (above_sd _ _ _ _ _ (by decide))) (above_sd _ _ _ _ _ (by decide))) ?_) ?_
  · exact Above.tally (mem_L _ _ _ (by decide)) (by rw [lv_bar]; decide)
  · exact Above.tally (mem_L _ _ _ (by decide)) (by rw [lv_bar]; decide)

theorem cut0 (t : Fin ((Pipeline.pin (pcfgs (F := F)) adm 0).N + 1)) (g : GSem nD τ sig) (i : ℕ) (h : 0 < (pdats m 0 c).owed t g i) :
    i ∈ L g ∧ (0 : ℕ) < lv g i := by
  have e : (pdats m 0 c).owed t = if t.val = 0 then O₀ c else 0 := rfl
  rw [e] at h
  split at h
  · exact above_O₀ c g i h
  · exact absurd h (Nat.lt_irrefl 0)

theorem stg_ne : ∀ (w : Fin 6) (s : Fin (win0 w).nbuf) (k : Option OK), asem k ≠ SemLoc.dma ((win0 w).sem s) := by
  decide +kernel

theorem stg_lv (w : Fin 6) (s : Fin (win0 w).nbuf) : lv (c.tc, SemLoc.dma ((win0 w).sem s)) 0 = 0 := by
  unfold lv dec
  dsimp only
  rw [show Function.partialInv asem (SemLoc.dma ((win0 w).sem s)) = none from by
    unfold Function.partialInv
    exact dif_neg fun ⟨k, hk⟩ => stg_ne w s k hk]

/-- The host buffers that no window reads or writes. -/
def restRefs : Finset (DevRef τ sig) := Pipeline.ucRefs τ sig \ Pipeline.arrRefs (τ := τ) spec0

theorem update_self' (V : Valuation τ sig (Elt F)) (b : DevRef τ sig) (v : b.ty.Contents (Elt F)) : (Function.update V b v : Valuation τ sig (Elt F)) b = v :=
  Function.update_self _ _ _
theorem update_ne' (V : Valuation τ sig (Elt F)) (b b' : DevRef τ sig) (v : b.ty.Contents (Elt F)) (h : b' ≠ b) :
    (Function.update V b v : Valuation τ sig (Elt F)) b' = V b' := Function.update_of_ne h _ _

theorem W2_self : W2 m c (Proc.devRef .tc main_v17) = outD m c := by
  unfold W2; generalize V1 m c = V; exact update_self' V _ _
theorem W2_ne (b : DevRef τ sig) (h : b ≠ Proc.devRef .tc main_v17) : W2 m c b = V1 m c b := by
  unfold W2; generalize V1 m c = V; exact update_ne' V _ b _ h
theorem W2_ref (r : Ref sig .tc) (h : r ≠ main_v17) : W2 m c (Proc.devRef .tc r) = V1 m c (Proc.devRef .tc r) :=
  W2_ne m c _ (StableHlo.devRef_ne_of_ne h)

theorem v17_mem : (Proc.devRef .tc main_v17 : DevRef τ sig) ∈ Pipeline.arrRefs (τ := τ) spec0 :=
  Finset.mem_map_of_mem _ (Finset.mem_image_of_mem (Pipeline.arrRef spec0) (Finset.mem_univ (5 : Fin 6)))

theorem restW (b : DevRef τ sig) (hb : b ∈ restRefs \ ∅) : W2 m c b = V1 m c b := by
  have hb' : b ∉ Pipeline.arrRefs (τ := τ) spec0 := (Finset.mem_sdiff.mp (Finset.mem_sdiff.mp hb).1).2
  exact W2_ne m c b fun e => hb' (e ▸ v17_mem)

theorem arrIn (w : Fin 6) : (dat0 m c).arrAt w 0 = V1 m c (Proc.devRef .tc (Pipeline.arrRef spec0 w)) := rfl

theorem arrOut (w : Fin 6) : (dat0 m c).arrAt w cfg0.N = W2 m c (Proc.devRef .tc (Pipeline.arrRef spec0 w)) := by
  match w with
  | 5 => exact (arr5 m c).trans (W2_self m c).symm
  | 0 => exact ((dat0 m c).arrAt_in 0 rfl _).trans (W2_ref m c main_arg0 (by decide)).symm
  | 1 => exact ((dat0 m c).arrAt_in 1 rfl _).trans (W2_ref m c main_arg1 (by decide)).symm
  | 2 => exact ((dat0 m c).arrAt_in 2 rfl _).trans (W2_ref m c main_arg4 (by decide)).symm
  | 3 => exact ((dat0 m c).arrAt_in 3 rfl _).trans (W2_ref m c main_v15 (by decide)).symm
  | 4 => exact ((dat0 m c).arrAt_in 4 rfl _).trans (W2_ref m c main_v16 (by decide)).symm

local notation "ℝ𝕊" => Pipeline.RegionSeg (pcfgs (F := F)) adm (pdats m) 0 (defs₀ (F := F)) 𝒱₀ L lv

set_option backward.isDefEq.respectTransparency.types false in
/-- The region, as a segment of the launch. -/
def reg0 : ℝ𝕊 0 :=
  Pipeline.RegionSeg.ofTalk (pcfgs (F := F)) adm (pdats m) 0 (defs₀ (F := F)) 𝒱₀ L lv 0 osem (by decide +kernel : Pipeline.OwnSemFacts spec0 osem)
    ∅ restRefs (Finset.empty_subset _) launch0.toP rfl (fun c => (body0 m c).loose)
    (fun _ => 0) O₀ (fun c => (owed_first m c).trans (zero_add _).symm) (owed_last m) (fun _ => rfl)
    (fun c w => by show (if _ then fullShare else fullShare) = fullShare; exact ite_self _)
    (V1 m) (W2 m) (fun c => restW m c)
    (Tk m) Yk (Xk m) Yk (hopen0 m) (hin0 m) (hout0 m)
    (fun c => by iintro H; imodintro; iexact H)
    (fun _ => 0)
    ⟨fun c w s => mem_L c _ 0 (by decide), fun c w s => le_of_eq (stg_lv c w s), fun c t g i h => cut0 m c t g i h⟩
    (fun _ => iprop(emp))
    (fun c w => arrIn m c w) (fun c w => arrOut m c w)

end Cert.Proof.Ring

end
-- ==== Proof.Deal.lean ====
/-
  What the launch deals to each device: its tokens and its credits.
-/
module

public import proofs.«01_k».proof.Proof.Open
public import proofs.«01_k».proof.Proof.State
public import Idealize.ShloMosaic.Lib.Pipeline.Launch
public import Idealize.SL.BI.BigOpNat

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
variable (c : Dev nD)

/-- Parts of a big conjunction, taken along a partial injection. -/
theorem bigSep_reach {α β : Type} [DecidableEq α] [DecidableEq β] (S : Finset α) (T : Finset β) (P : β → Prop) [DecidablePred P] (f : β → α)
    (hf : ∀ k ∈ T, P k → f k ∈ S) (hi : ∀ k ∈ T, ∀ k' ∈ T, P k → P k' → f k = f k' → k = k') (Φ : α → sProp 𝕄) (Ψ : β → sProp 𝕄)
    (hΨ : ∀ k ∈ T, Ψ k = if P k then Φ (f k) else iprop(emp)) :
    bigSep S Φ ⊢ bigSep T Ψ := by
  have e1 : bigSep T Ψ = bigSep ((T.filter P).image f) Φ := by
    rw [bigSep_congr (Ψ := fun k => if P k then Φ (f k) else iprop(emp)) hΨ]
    refine (bigSep_filter T P (fun k => Φ (f k))).symm.trans ?_
    refine (bigSep_image_of_injOn ?_ Φ).symm
    intro k hk k' hk' h
    have h1 := Finset.mem_filter.mp (Finset.mem_coe.mp hk)
    have h2 := Finset.mem_filter.mp (Finset.mem_coe.mp hk')
    exact hi k h1.1 k' h2.1 h1.2 h2.2 h
  rw [e1]
  refine bigSep_subset fun a ha => ?_
  obtain ⟨k, hk, rfl⟩ := Finset.mem_image.mp ha
  have h1 := Finset.mem_filter.mp hk
  exact hf k h1.1 h1.2

/-! ## Tokens -/

/-- The tokens one device spends: the barrier's, the credits', and the two ends of its messages. -/
abbrev TI := Bool ⊕ (Bool × Bool × Fin 24) ⊕ (Bool × Bool × Fin 32) ⊕ (Bool × Bool × Fin 32)

def tDev (c : Dev nD) : TI → Dev nD
  | .inl d => nxt d c
  | .inr (.inl (_, d, _)) => nxt (!d) c
  | .inr (.inr (.inl _)) => c
  | .inr (.inr (.inr (_, d, _))) => nxt d c
def tKey : TI → Option OK
  | .inl _ => none
  | .inr (.inl (kd, d, _)) => some (.inl (kd, d))
  | .inr (.inr (.inl (kd, d, t))) => some (.inr (kd, d, false, sl t))
  | .inr (.inr (.inr (kd, d, t))) => some (.inr (kd, d, true, sl (t + 1)))
def tRd : TI → ℕ
  | .inl _ => 0
  | .inr (.inl _) => 0
  | .inr (.inr (.inl (_, _, t))) => t / 8
  | .inr (.inr (.inr (_, _, t))) => t / 8
def tDu : TI → ℕ
  | .inl d => if d then 0 else 1
  | .inr (.inl (_, _, j)) => j
  | .inr (.inr (.inl _)) => 0
  | .inr (.inr (.inr _)) => 0

theorem tKey_inj (i i' : TI) (h1 : tKey i = tKey i') (h2 : tRd i = tRd i') (h3 : tDu i = tDu i') : i = i' := by
  rcases i with d | ⟨kd, d, j⟩ | ⟨kd, d, t⟩ | ⟨kd, d, t⟩ <;> rcases i' with d' | ⟨kd', d', j'⟩ | ⟨kd', d', t'⟩ | ⟨kd', d', t'⟩ <;>
    simp [tKey, tRd, tDu, sl] at h1 h2 h3 ⊢
  · cases d <;> cases d' <;> simp at h3 ⊢
  · exact ⟨h1.1, h1.2, Fin.ext h3⟩
  · refine ⟨h1.1, h1.2.1, Fin.ext ?_⟩
    have := h1.2.2; omega
  · refine ⟨h1.1, h1.2.1, Fin.ext ?_⟩
    have := h1.2.2; omega

theorem tDev_inj (i : TI) (c c' : Dev nD) (h : tDev c i = tDev c' i) : c = c' := by
  rcases i with d | ⟨kd, d, j⟩ | ⟨kd, d, t⟩ | ⟨kd, d, t⟩
  · exact nxt_inj d h
  · exact nxt_inj (!d) h
  · exact h
  · exact nxt_inj d h

def tokEmb : Dev nD × TI ↪ GSem nD τ sig × ℕ × ℕ :=
  ⟨fun p => (cell (tDev p.1 p.2) (tKey p.2), tRd p.2, tDu p.2), fun p p' h => by
    obtain ⟨c, i⟩ := p; obtain ⟨c', i'⟩ := p'
    obtain ⟨h1, h23⟩ := Prod.mk.inj h
    obtain ⟨h2, h3⟩ := Prod.mk.inj h23
    have hk : tKey i = tKey i' := asem_inj (congrArg Prod.snd h1)
    have hi := tKey_inj i i' hk h2 h3
    subst hi
    rw [tDev_inj i c c' (congrArg (fun g : GSem nD τ sig => g.1.1) h1)]⟩

def ringToks : Finset (GSem nD τ sig × ℕ × ℕ) := Finset.univ.map tokEmb

theorem ringToks_eq : (bigSep ringToks fun x => (dutyTok ER x.1 x.2.1 x.2.2 : sProp 𝕄))
    = bigSep Finset.univ fun c : Dev nD => bigSep Finset.univ fun i : TI => dutyTok ER (cell (tDev c i) (tKey i)) (tRd i) (tDu i) := by
  unfold ringToks
  rw [bigSep_map, bigSep_univ_prod]
  rfl

theorem sg_deal (kd d : Bool) : (bigSep Finset.univ fun j : Fin 24 => (dutyTok ER (crC kd d (nxt (!d) c)) 0 (j : ℕ) : sProp 𝕄))
    ⊢ bigSep (Finset.Ico 1 32) (sgTok c kd d) := by
  refine bigSep_reach _ _ (fun k => 2 ≤ k ∧ k ≤ 24 + kd.toNat) (fun k => Fin.ofNat 24 (k - 2)) (fun _ _ _ => Finset.mem_univ _) ?_ _ _ ?_
  · intro k _ k' _ h h' e
    have e' := congrArg Fin.val e
    simp only [Fin.ofNat] at e'
    have : kd.toNat ≤ 1 := by cases kd <;> decide
    omega
  · intro k _
    unfold sgTok
    refine ite_congr rfl (fun h => ?_) fun _ => rfl
    have : kd.toNat ≤ 1 := by cases kd <;> decide
    have e : ((Fin.ofNat 24 (k - 2) : Fin 24) : ℕ) = k - 2 := by simp only [Fin.ofNat]; omega
    rw [e]

theorem sd_deal (kd d : Bool) : iprop((bigSep Finset.univ fun t : Fin 32 => (dutyTok ER (sndC kd d (sl t) c) ((t : ℕ) / 8) 0 : sProp 𝕄))
      ∗ (bigSep Finset.univ fun t : Fin 32 => (dutyTok ER (rcvC kd d (sl ((t : ℕ) + 1)) (nxt d c)) ((t : ℕ) / 8) 0 : sProp 𝕄)))
    ⊢ iprop(sdTok c kd d 0 ∗ bigSep (Finset.Ico 1 32) (sdTok c kd d)) := by
  have e : iprop(sdTok c kd d 0 ∗ bigSep (Finset.Ico 1 32) (sdTok c kd d)) = bigSep (Finset.Ico 0 32) (sdTok (F := F) c kd d) :=
    (Idealize.SL.BI.bigSep_Ico_succ_bot (a := 0) (b := 32) (by decide) _).symm
  rw [e, ← bigSep_sep']
  refine bigSep_reach _ _ (fun k => k < M kd) (fun k => Fin.ofNat 32 k) (fun _ _ _ => Finset.mem_univ _) ?_ _ _ ?_
  · intro k hk k' hk' _ _ e
    have e' := congrArg Fin.val e
    have := (Finset.mem_Ico.mp hk).2
    have := (Finset.mem_Ico.mp hk').2
    simp only [Fin.ofNat] at e'
    omega
  · intro k hk
    unfold sdTok
    refine ite_congr rfl (fun h => ?_) fun _ => rfl
    have := (Finset.mem_Ico.mp hk).2
    have e : ((Fin.ofNat 32 k : Fin 32) : ℕ) = k := by simp only [Fin.ofNat]; omega
    rw [e]

/-! ## Credits -/

def sgT (kd d : Bool) (c : Dev nD) (k : ℕ) : CellTallies nD τ sig ℕ :=
  if 2 ≤ k ∧ k ≤ 24 + kd.toNat then tallyAt (crC kd d c) (k - 2) 1 else 0
def sdT (kd d : Bool) (c : Dev nD) (k : ℕ) : CellTallies nD τ sig ℕ :=
  if k < M kd then tallyAt (rcvC kd d (sl (k + 1)) c) (k + 1) N else 0
def hopT (c : Dev nD) (k : ℕ) : CellTallies nD τ sig ℕ :=
  sdT true true c k + sdT true false c k + sdT false true c k + sdT false false c k
    + sgT true true c k + sgT true false c k + sgT false true c k + sgT false false c k
/-- All that the others owe to the cells of one device. -/
def dueT (c : Dev nD) : CellTallies nD τ sig ℕ :=
  (∑ k ∈ Finset.Ico 1 32, hopT c k) + sdT true true c 0 + sdT true false c 0 + sdT false true c 0 + sdT false false c 0
    + tallyAt (barC c) 0 1 + tallyAt (barC c) 0 1

theorem sum_sg (kd d : Bool) (k : ℕ) : ∑ c : Dev nD, sg kd d c k = ∑ c : Dev nD, sgT kd d c k :=
  Equiv.sum_comp (nxtE (!d)) fun c => sgT kd d c k
theorem sum_sd (kd d : Bool) (k : ℕ) : ∑ c : Dev nD, sd kd d c k = ∑ c : Dev nD, sdT kd d c k :=
  Equiv.sum_comp (nxtE d) fun c => sdT kd d c k
theorem sum_bar (d : Bool) : ∑ c : Dev nD, (tallyAt (barC (nxt d c)) 0 1 : CellTallies nD τ sig ℕ) = ∑ c : Dev nD, tallyAt (barC c) 0 1 :=
  Equiv.sum_comp (nxtE d) fun c => (tallyAt (barC c) 0 1 : CellTallies nD τ sig ℕ)
theorem sum_hop (k : ℕ) : ∑ c : Dev nD, hop c k = ∑ c : Dev nD, hopT c k := by
  unfold hop hopT
  simp only [Finset.sum_add_distrib, sum_sg, sum_sd]
theorem sum_due : ∑ c : Dev nD, O₀ c = ∑ c : Dev nD, dueT c := by
  unfold O₀ dueT Orem
  simp only [Finset.sum_add_distrib]
  rw [Finset.sum_comm, Finset.sum_comm (f := hopT)]
  simp only [sum_hop, sum_sd, sum_bar]

/-- Tallies on one device's cells only. -/
def On (d : Dev nD) (T : CellTallies nD τ sig ℕ) : Prop := ∀ g, T g ≠ 0 → g.1 = d.tc
theorem On.zero (d : Dev nD) : On d 0 := fun _ h => absurd rfl h
theorem On.add {d : Dev nD} {A B : CellTallies nD τ sig ℕ} (ha : On d A) (hb : On d B) : On d (A + B) := fun g h => by
  by_cases h1 : A g = 0
  · refine hb g fun h2 => h ?_
    rw [Pi.add_apply, h1, h2, add_zero]
  · exact ha g h1
theorem On.sum {d : Dev nD} {s : Finset ℕ} {f : ℕ → CellTallies nD τ sig ℕ} (h : ∀ k, On d (f k)) : On d (∑ k ∈ s, f k) :=
  Finset.sum_induction f (On d) (fun _ _ => On.add) (On.zero d) fun k _ => h k
theorem On.tally (d : Dev nD) (s : SemLoc sig) (i n : ℕ) : On d (tallyAt (d.tc, s) i n) := fun g h => by
  by_contra hg
  refine h ?_
  have : g ≠ (d.tc, s) := fun e => hg (congrArg Prod.fst e)
  unfold tallyAt tallyOn
  exact Pi.single_eq_of_ne this _
theorem On.sg (kd d : Bool) (c : Dev nD) (k : ℕ) : On c (sgT kd d c k) := by
  unfold sgT; split
  · exact On.tally c _ _ _
  · exact On.zero c
theorem On.sd (kd d : Bool) (c : Dev nD) (k : ℕ) : On c (sdT kd d c k) := by
  unfold sdT; split
  · exact On.tally c _ _ _
  · exact On.zero c
theorem On.hop (c : Dev nD) (k : ℕ) : On c (hopT c k) :=
  ((((((((On.sd _ _ c k).add (On.sd _ _ c k)).add (On.sd _ _ c k)).add (On.sd _ _ c k)).add (On.sg _ _ c k)).add (On.sg _ _ c k)).add
    (On.sg _ _ c k)).add (On.sg _ _ c k))
theorem On.due (c : Dev nD) : On c (dueT c) :=
  ((((((On.sum fun k => On.hop c k).add (On.sd _ _ c 0)).add (On.sd _ _ c 0)).add (On.sd _ _ c 0)).add (On.sd _ _ c 0)).add
    (On.tally c _ _ _)).add (On.tally c _ _ _)

theorem launch_due : (Pipeline.launchCred O₀ c : sProp 𝕄) = cred (dueT c) :=
  Pipeline.launchCred_of_sum O₀ dueT sum_due On.due c

theorem credA (A B : CellTallies nD τ sig ℕ) : (cred (A + B) : sProp 𝕄) = iprop(cred A ∗ cred B) :=
  (cred_add A B).1.antisymm (cred_add A B).2

theorem cr_deal (kd d : Bool) : (bigSep (Finset.Ico 1 32) fun k => (cred (sgT kd d c k) : sProp 𝕄)) ⊢ bigSep (Finset.Ico 1 32) (crCred c kd d) := by
  have hk1 : kd.toNat ≤ 1 := by cases kd <;> decide
  refine bigSep_reach _ _ (fun k => 8 ≤ k ∧ k ≤ 30 + kd.toNat) (fun k => k - 6) ?_ ?_ _ _ ?_
  · intro k _ h
    exact Finset.mem_Ico.mpr (by omega)
  · intro k _ k' _ h h' e
    have e' : k - 6 = k' - 6 := e
    omega
  · intro k _
    unfold crCred
    refine ite_congr rfl (fun h => ?_) fun _ => rfl
    have e : sgT kd d c (k - 6) = tallyAt (crC kd d c) (k - 6 - 2) 1 := if_pos (by omega)
    rw [e, Nat.sub_sub]

theorem rcv_deal (kd d : Bool) : iprop(cred (sdT kd d c 0) ∗ bigSep (Finset.Ico 1 32) fun k => (cred (sdT kd d c k) : sProp 𝕄))
    ⊢ bigSep (Finset.Ico 1 (M kd + 1)) (rcvCr c kd d) := by
  have e : iprop(cred (sdT kd d c 0) ∗ bigSep (Finset.Ico 1 32) fun k => (cred (sdT kd d c k) : sProp 𝕄))
      = bigSep (Finset.Ico 0 32) fun k => (cred (sdT kd d c k) : sProp 𝕄) := (Idealize.SL.BI.bigSep_Ico_succ_bot (a := 0) (b := 32) (by decide) (fun k => (cred (sdT kd d c k) : sProp 𝕄))).symm
  rw [e]
  have hM : M kd ≤ 32 := by cases kd <;> decide
  refine bigSep_reach _ _ (fun k => 1 ≤ k) (fun k => k - 1) ?_ ?_ _ _ ?_
  · intro k hk _
    have := (Finset.mem_Ico.mp hk).2
    exact Finset.mem_Ico.mpr (by omega)
  · intro k _ k' _ h h' e
    have e' : k - 1 = k' - 1 := e
    omega
  · intro k hk
    obtain ⟨h1, h2⟩ := Finset.mem_Ico.mp hk
    rw [if_pos h1]
    unfold rcvCr
    have e : sdT kd d c (k - 1) = tallyAt (rcvC kd d (sl (k - 1 + 1)) c) (k - 1 + 1) N := if_pos (by omega)
    rw [e, Nat.sub_add_cancel h1]

theorem rcv_x (d : Bool) : iprop(cred (sdT false d c 0) ∗ bigSep (Finset.Ico 1 32) fun k => (cred (sdT false d c k) : sProp 𝕄))
    ⊢ bigSep (Finset.Ico 1 32) (rcvCr c false d) := rcv_deal c false d
theorem rcv_a (d : Bool) : iprop(cred (sdT true d c 0) ∗ bigSep (Finset.Ico 1 32) fun k => (cred (sdT true d c k) : sProp 𝕄))
    ⊢ iprop(cred (tallyAt (rcvC true d (sl 32) c) 32 N) ∗ bigSep (Finset.Ico 1 32) (rcvCr c true d)) := by
  have e : bigSep (Finset.Ico 1 (M true + 1)) (rcvCr (F := F) c true d)
      = iprop(cred (tallyAt (rcvC true d (sl 32) c) 32 N) ∗ bigSep (Finset.Ico 1 32) (rcvCr c true d)) :=
    Idealize.SL.BI.bigSep_Ico_succ_top (a := 1) (b := 32) (by decide) _
  rw [← e]
  exact rcv_deal c true d

/-- The tokens of one device, as its body holds them. -/
theorem tok_deal : (bigSep Finset.univ fun i : TI => (dutyTok ER (cell (tDev c i) (tKey i)) (tRd i) (tDu i) : sProp 𝕄))
    ⊢ iprop((dutyTok ER (barC (nxt true c)) 0 0 ∗ dutyTok ER (barC (nxt false c)) 0 1)
      ∗ (sdTok c false false 0 ∗ sdTok c false true 0 ∗ sdTok c true false 0 ∗ sdTok c true true 0)
      ∗ ((bigSep (Finset.Ico 1 32) (sgTok c false false) ∗ bigSep (Finset.Ico 1 32) (sgTok c false true)
          ∗ bigSep (Finset.Ico 1 32) (sgTok c true false) ∗ bigSep (Finset.Ico 1 32) (sgTok c true true))
        ∗ (bigSep (Finset.Ico 1 32) (sdTok c false false) ∗ bigSep (Finset.Ico 1 32) (sdTok c false true)
          ∗ bigSep (Finset.Ico 1 32) (sdTok c true false) ∗ bigSep (Finset.Ico 1 32) (sdTok c true true)))) := by
  have e : (bigSep Finset.univ fun i : TI => (dutyTok ER (cell (tDev c i) (tKey i)) (tRd i) (tDu i) : sProp 𝕄))
      = iprop((dutyTok ER (barC (nxt false c)) 0 1 ∗ dutyTok ER (barC (nxt true c)) 0 0)
        ∗ ((((bigSep Finset.univ fun j : Fin 24 => dutyTok ER (crC false false (nxt (!false) c)) 0 (j : ℕ))
              ∗ (bigSep Finset.univ fun j : Fin 24 => dutyTok ER (crC false true (nxt (!true) c)) 0 (j : ℕ)))
            ∗ ((bigSep Finset.univ fun j : Fin 24 => dutyTok ER (crC true false (nxt (!false) c)) 0 (j : ℕ))
              ∗ (bigSep Finset.univ fun j : Fin 24 => dutyTok ER (crC true true (nxt (!true) c)) 0 (j : ℕ))))
          ∗ ((((bigSep Finset.univ fun t : Fin 32 => dutyTok ER (sndC false false (sl t) c) ((t : ℕ) / 8) 0)
              ∗ (bigSep Finset.univ fun t : Fin 32 => dutyTok ER (sndC false true (sl t) c) ((t : ℕ) / 8) 0))
            ∗ ((bigSep Finset.univ fun t : Fin 32 => dutyTok ER (sndC true false (sl t) c) ((t : ℕ) / 8) 0)
              ∗ (bigSep Finset.univ fun t : Fin 32 => dutyTok ER (sndC true true (sl t) c) ((t : ℕ) / 8) 0)))
            ∗ (((bigSep Finset.univ fun t : Fin 32 => dutyTok ER (rcvC false false (sl ((t : ℕ) + 1)) (nxt false c)) ((t : ℕ) / 8) 0)
              ∗ (bigSep Finset.univ fun t : Fin 32 => dutyTok ER (rcvC false true (sl ((t : ℕ) + 1)) (nxt true c)) ((t : ℕ) / 8) 0))
            ∗ ((bigSep Finset.univ fun t : Fin 32 => dutyTok ER (rcvC true false (sl ((t : ℕ) + 1)) (nxt false c)) ((t : ℕ) / 8) 0)
              ∗ (bigSep Finset.univ fun t : Fin 32 => dutyTok ER (rcvC true true (sl ((t : ℕ) + 1)) (nxt true c)) ((t : ℕ) / 8) 0)))))) :=
    (bigSep_univ_sum _).trans (bsCong (bsBool _)
      ((bigSep_univ_sum _).trans (bsCong ((bsProd _).trans (bsCong (bsProd _) (bsProd _)))
        ((bigSep_univ_sum _).trans (bsCong ((bsProd _).trans (bsCong (bsProd _) (bsProd _)))
          ((bsProd _).trans (bsCong (bsProd _) (bsProd _))))))))
  rw [e]
  iintro ⟨⟨B0, B1⟩, ⟨⟨G0, G1⟩, ⟨G2, G3⟩⟩, ⟨⟨S0, S1⟩, ⟨S2, S3⟩⟩, ⟨⟨R0, R1⟩, ⟨R2, R3⟩⟩⟩
  ihave G0 := (sg_deal c false false) $$ G0
  ihave G1 := (sg_deal c false true) $$ G1
  ihave G2 := (sg_deal c true false) $$ G2
  ihave G3 := (sg_deal c true true) $$ G3
  ihave D0 := (sd_deal c false false) $$ [S0 R0]
  · iframe
  ihave D1 := (sd_deal c false true) $$ [S1 R1]
  · iframe
  ihave D2 := (sd_deal c true false) $$ [S2 R2]
  · iframe
  ihave D3 := (sd_deal c true true) $$ [S3 R3]
  · iframe
  icases D0 with ⟨Z0, D0⟩
  icases D1 with ⟨Z1, D1⟩
  icases D2 with ⟨Z2, D2⟩
  icases D3 with ⟨Z3, D3⟩
  iframe

/-- The launch's credits of one device, as its body holds them. -/
theorem cred_deal : (cred (dueT c) : sProp 𝕄)
    ⊢ iprop(cred (tallyAt (barC c) 0 2)
      ∗ (cred (tallyAt (rcvC true false (sl 32) c) 32 N) ∗ cred (tallyAt (rcvC true true (sl 32) c) 32 N))
      ∗ ((bigSep (Finset.Ico 1 32) (rcvCr c false false) ∗ bigSep (Finset.Ico 1 32) (rcvCr c false true)
          ∗ bigSep (Finset.Ico 1 32) (rcvCr c true false) ∗ bigSep (Finset.Ico 1 32) (rcvCr c true true))
        ∗ (bigSep (Finset.Ico 1 32) (crCred c false false) ∗ bigSep (Finset.Ico 1 32) (crCred c false true)
          ∗ bigSep (Finset.Ico 1 32) (crCred c true false) ∗ bigSep (Finset.Ico 1 32) (crCred c true true)))) := by
  have e : (cred (∑ k ∈ Finset.Ico 1 32, hopT c k) : sProp 𝕄)
      = iprop(((((((bigSep (Finset.Ico 1 32) (fun k => cred (sdT true true c k)) ∗ bigSep (Finset.Ico 1 32) (fun k => cred (sdT true false c k)))
        ∗ bigSep (Finset.Ico 1 32) (fun k => cred (sdT false true c k))) ∗ bigSep (Finset.Ico 1 32) (fun k => cred (sdT false false c k)))
        ∗ bigSep (Finset.Ico 1 32) (fun k => cred (sgT true true c k))) ∗ bigSep (Finset.Ico 1 32) (fun k => cred (sgT true false c k)))
        ∗ bigSep (Finset.Ico 1 32) (fun k => cred (sgT false true c k))) ∗ bigSep (Finset.Ico 1 32) (fun k => cred (sgT false false c k))) := by
    rw [Pipeline.cred_finsetSum]
    unfold hopT
    simp only [credA, bigSep_sep']
  have e2 : (iprop(cred (tallyAt (barC c) 0 1) ∗ cred (tallyAt (barC c) 0 1)) : sProp 𝕄) = cred (tallyAt (barC c) 0 2) := by
    rw [← credA, tallyAt_add]
  unfold dueT
  rw [credA, credA, credA, credA, credA, credA, e]
  iintro ⟨⟨⟨⟨⟨⟨⟨⟨⟨⟨⟨⟨⟨S3, S2⟩, S1⟩, S0⟩, G3⟩, G2⟩, G1⟩, G0⟩, Z3⟩, Z2⟩, Z1⟩, Z0⟩, B0⟩, B1⟩
  ihave G0 := (cr_deal c false false) $$ G0
  ihave G1 := (cr_deal c false true) $$ G1
  ihave G2 := (cr_deal c true false) $$ G2
  ihave G3 := (cr_deal c true true) $$ G3
  ihave S0 := (rcv_x c false) $$ [Z0 S0]
  · iframe
  ihave S1 := (rcv_x c true) $$ [Z1 S1]
  · iframe
  ihave S2 := (rcv_a c false) $$ [Z2 S2]
  · iframe
  ihave S3 := (rcv_a c true) $$ [Z3 S3]
  · iframe
  icases S2 with ⟨Y2, S2⟩
  icases S3 with ⟨Y3, S3⟩
  ihave HB := (show iprop(cred (tallyAt (barC c) 0 1) ∗ cred (tallyAt (barC c) 0 1)) ⊢ (cred (tallyAt (barC c) 0 2) : sProp 𝕄) from by rw [e2]) $$ [B0 B1]
  · iframe
  iframe

/-- The hops' resources, column by column. -/
theorem fut_eq : (fut c 1 : sProp 𝕄)
    = iprop((bigSep (Finset.Ico 1 32) (sgTok c false false) ∗ bigSep (Finset.Ico 1 32) (sgTok c false true)
          ∗ bigSep (Finset.Ico 1 32) (sgTok c true false) ∗ bigSep (Finset.Ico 1 32) (sgTok c true true))
        ∗ (bigSep (Finset.Ico 1 32) (sdTok c false false) ∗ bigSep (Finset.Ico 1 32) (sdTok c false true)
          ∗ bigSep (Finset.Ico 1 32) (sdTok c true false) ∗ bigSep (Finset.Ico 1 32) (sdTok c true true))
        ∗ (bigSep (Finset.Ico 1 32) (rcvCr c false false) ∗ bigSep (Finset.Ico 1 32) (rcvCr c false true)
          ∗ bigSep (Finset.Ico 1 32) (rcvCr c true false) ∗ bigSep (Finset.Ico 1 32) (rcvCr c true true))
        ∗ (bigSep (Finset.Ico 1 32) (crCred c false false) ∗ bigSep (Finset.Ico 1 32) (crCred c false true)
          ∗ bigSep (Finset.Ico 1 32) (crCred c true false) ∗ bigSep (Finset.Ico 1 32) (crCred c true true))) := by
  unfold fut hopRes
  simp only [bigSep_sep']

end Cert.Proof.Ring

end
-- ==== Proof.Launch.lean ====
/-
  The launch, and the run of the whole program.
-/
module

public import proofs.«01_k».proof.Proof.Region
public import proofs.«01_k».proof.Proof.Deal

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
variable (m : (ℓ : Loc nD τ sig) → Buf (Elt F) ℓ) (ρ : Dev nD → PrngReg)

abbrev RDs : Rounds.Schedule (GSem nD τ sig) ℕ 𝕄 := ringRd (xcs (xD m)) (acs (xD m) (parD m))

def barEmb : Dev nD ↪ GSem nD τ sig := ⟨fun c => barC c, fun _ _ h => congrArg (fun g : GSem nD τ sig => g.1.1) h⟩
def scEmb : Dev nD × OK ↪ GSem nD τ sig :=
  ⟨fun p => cell p.1 (some p.2), fun _ _ h =>
    Prod.ext (congrArg (fun g : GSem nD τ sig => g.1.1) h) (osem_inj (congrArg Prod.snd h))⟩
def cellEmb : Dev nD × Option OK ↪ GSem nD τ sig :=
  ⟨fun p => cell p.1 p.2, fun _ _ h =>
    Prod.ext (congrArg (fun g : GSem nD τ sig => g.1.1) h) (asem_inj (congrArg Prod.snd h))⟩

/-- The barrier's cells, funded from their counters, and the kernel's own cells, funded closed. -/
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact Option.some_ne_none p.2 (asem_inj (show asem (some p.2) = asem none from congrArg Prod.snd h))

theorem all_sub : (Finset.univ.map cellEmb : Finset (GSem nD τ sig)) ⊆ barCells ∪ scCells := by
  intro g hg
  obtain ⟨⟨c, k⟩, -, rfl⟩ := Finset.mem_map.mp hg
  rcases k with _ | k
  · exact Finset.mem_union_left _ (Finset.mem_map_of_mem barEmb (Finset.mem_univ c))
  · exact Finset.mem_union_right _ (Finset.mem_map_of_mem scEmb (Finset.mem_univ (c, k)))

/-- The launch's ghost element: the pipeline's part and the ring's. -/
def u₀ : UU :=
  (initOf (Pipeline.cells (Pipeline.pin (pcfgs (F := F)) adm) cellOf_inj) (Pipeline.launchToks (Pipeline.pin (pcfgs (F := F)) adm) cellOf_inj),
    launchOf barCells scCells ringToks)

/-- One device holds `X`, the others nothing. -/
def atDev (c₀ : Dev nD) (X : sProp 𝕄) (c : Dev nD) : sProp 𝕄 := if c = c₀ then X else iprop(emp)
theorem bigSep_atDev (c₀ : Dev nD) (X : sProp 𝕄) : bigSep Finset.univ (atDev c₀ X) = X := by
  rw [bigSep_univ_at _ c₀, bigSep_congr (s := Finset.univ.erase c₀) (Ψ := fun _ => (BI.emp : sProp 𝕄))
      fun c hc => by unfold atDev; rw [if_neg (Finset.ne_of_mem_erase hc)]; rfl, BI.bigSep_emp_const]
  unfold atDev; rw [if_pos rfl]
  exact sepE X

def G : Dev nD → sProp 𝕄 := atDev 0 (BI.own (ER (launchOf barCells scCells ringToks)))

theorem joinU (Φ Ψ : Dev nD → sProp 𝕄) :
    iprop(bigSep Finset.univ Φ ∗ bigSep Finset.univ Ψ) ⊢ bigSep Finset.univ (fun c => iprop(Φ c ∗ Ψ c)) := by rw [bigSep_sep']
theorem cutU (Φ Ψ : Dev nD → sProp 𝕄) :
    bigSep Finset.univ (fun c => iprop(Φ c ∗ Ψ c)) ⊢ iprop(bigSep Finset.univ Φ ∗ bigSep Finset.univ Ψ) := by rw [bigSep_sep']

/-- What every device may consult. -/
def records (κ : GSem nD τ sig → ℕ) : sProp 𝕄 :=
  iprop((bigSep (barCells ∪ scCells) fun g => cellInv ER (RDs m) (κ g) g) ∗ bigSep barCells fun g => reached ER g 0)

instance records_persistent (κ : GSem nD τ sig → ℕ) : BI.Persistent (records m κ) := by unfold records; infer_instance

theorem reached_at (c : Dev nD) : (bigSep barCells fun g => (reached ER g 0 : sProp 𝕄)) ⊢ reached ER (barC c) 0 :=
  bigSep_elim (Finset.mem_map_of_mem barEmb (Finset.mem_univ c))

theorem invs_of (κ : GSem nD τ sig → ℕ) :
    (bigSep (barCells ∪ scCells) fun g => (cellInv ER (RDs m) (κ g) g : sProp 𝕄)) ⊢ invs (xcs (xD m)) (acs (xD m) (parD m)) κ := by
  have e : invs (xcs (xD m)) (acs (xD m) (parD m)) κ
      = bigSep (Finset.univ.map cellEmb) fun g => (cellInv ER (RDs m) (κ g) g : sProp 𝕄) := by
    rw [bigSep_map]; rfl
  rw [e]
  exact bigSep_subset all_sub

/-- What one device starts from. -/
def E0 (c : Dev nD) : sProp 𝕄 := iprop(Tk m c ∗ (∃ r, prngReg c r) ∗ ∃ W, owes (c : Thread nD τ) (O₀ c) W)
abbrev T₀ (c : Dev nD) : sProp 𝕄 := iprop(StableHlo.held (c : Thread nD τ) (Pipeline.ucRefs τ sig) (V0 m c) ∗ E0 m c)
abbrev Tₙ (c : Dev nD) : sProp 𝕄 := iprop(StableHlo.held (c : Thread nD τ) (Pipeline.ucRefs τ sig) (W2 m c) ∗ semVal (barC c) 0)

/-- A device's own ghost state. -/
def linear (c : Dev nD) : sProp 𝕄 :=
  iprop(atPos ER (barC c) 0 ∅ 0 ∗ (bigSep Finset.univ fun k : OK => openTok ER (cell c (some k)))
    ∗ (bigSep Finset.univ fun i : TI => dutyTok ER (cell (tDev c i) (tKey i)) (tRd i) (tDu i)))

/-- The rest of what a device holds at the launch. -/
def bundle (c : Dev nD) : sProp 𝕄 :=
  iprop(StableHlo.held (c : Thread nD τ) (Pipeline.ucRefs τ sig) (V0 m c) ∗ cred (dueT c) ∗ owes (c : Thread nD τ) (O₀ c) ∅ ∗ ∃ r, prngReg c r)

theorem Tk_intro (κ : GSem nD τ sig → ℕ) (c : Dev nD) : iprop(records m κ ∗ linear c ∗ cred (dueT c)) ⊢ Tk m c := by
  unfold records linear Tk
  iintro ⟨⟨#HI, #HR⟩, ⟨Hat, Hop, Ht⟩, Hc⟩
  ihave HT := (tok_deal c) $$ Ht
  ihave HC := (cred_deal c) $$ Hc
  icases HT with ⟨HB, HS, HT1, HT2⟩
  icases HC with ⟨Hcb, Hcl, HC1, HC2⟩
  rw [fut_eq]
  isplitr
  · iexists κ; iapply (invs_of m κ); iexact HI
  isplitr; · iapply (reached_at (F := F) (nxt true c)); iexact HR
  isplitr; · iapply (reached_at (F := F) (nxt false c)); iexact HR
  isplitl [HB]; · iexact HB
  isplitl [Hcb]; · iexact Hcb
  isplitl [Hat]; · iexact Hat
  isplitl [Hop]; · iexact Hop
  isplitl [HS]; · iexact HS
  isplitr [Hcl]
  · isplitl [HT1]; · iexact HT1
    isplitl [HT2]; · iexact HT2
    isplitl [HC1]; · iexact HC1
    iexact HC2
  iexact Hcl

theorem T₀_intro (κ : GSem nD τ sig → ℕ) (c : Dev nD) : iprop(records m κ ∗ (linear c ∗ bundle m c)) ⊢ T₀ m c := by
  unfold bundle T₀ E0
  iintro ⟨#HR, Hl, Hh, Hc, HO, Hp⟩
  isplitl [Hh]; · iexact Hh
  isplitl [Hl Hc]
  · iapply (Tk_intro m κ c)
    isplitr; · iexact HR
    isplitl [Hl] <;> iassumption
  isplitl [Hp]; · iexact Hp
  iexists ∅; iexact HO

theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide]
  exact bigSep_singleton

/-- The launch's global step. -/
theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(bundle m c ∗ (semVal (barC c) 0 ∗ G c)) : sProp 𝕄) := by
    rw [show unscopedBufs c (fun b => m ((c.tc : Thread nD τ).loc b)) = StableHlo.held (c : Thread nD τ) (Pipeline.ucRefs τ sig) (V0 m c)
        from Pipeline.unscopedBufs_held (Ix := ℕ) (Name := ℕ) (U := UU) (Lvl := ℕ) c (V0 m c),
      unscopedSems0_eq, launch_due]
    unfold bundle
    iintro ⟨Hh, Hus, HO, Hcr, Hp, HG⟩
    isplitl [Hh HO Hcr Hp]
    · isplitl [Hh]; · iexact Hh
      isplitl [Hcr]; · iexact Hcr
      isplitl [HO]; · iexact HO
      iexists (ρ c); iexact Hp
    isplitl [Hus] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun k : OK => (openTok ER (cell c (some k)) : sProp 𝕄)) :=
    Entails.of_eq (by rw [bigSep_map, bigSep_univ_prod]; rfl)
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (bigSep Finset.univ fun c : Dev nD => iprop(bundle m c ∗ (semVal (barC c) 0 ∗ G c)) : sProp 𝕄) from bigSep_mono fun c _ => hcore c) $$ H
  ihave H2 := (cutU _ _) $$ H'; icases H2 with ⟨HB, H3⟩
  ihave H4 := (cutU _ _) $$ H3; icases H4 with ⟨Hv, HG⟩
  ihave Hu := (show bigSep Finset.univ (G (F := F)) ⊢ BI.own (ER (launchOf barCells scCells ringToks)) from
    Entails.of_eq (bigSep_atDev (F := F) 0 (BI.own (ER (launchOf barCells scCells ringToks))))) $$ HG
  imod (Rounds.fund_launch ER (RDs m) disjoint_cells (fun g _ h => h) ringToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply (joinU _ _)
  isplitr [HB]
  · unfold linear
    iapply (joinU _ _); isplitl [Hat]; · iapply hat $$ Hat
    iapply (joinU _ _); isplitl [Hopen]; · iapply hopen $$ Hopen
    iapply (Entails.of_eq (ringToks_eq (F := F))) $$ Htok
  · iexact HB

theorem held_arr (c : Dev nD) (W : Valuation τ sig (Elt F)) :
    (StableHlo.held (c.tc : Thread nD τ) (Pipeline.ucRefs τ sig) W : sProp 𝕄)
      = iprop(StableHlo.held (c.tc : Thread nD τ) (Pipeline.arrRefs (τ := τ) spec0) W ∗ StableHlo.held (c.tc : Thread nD τ) restRefs W) :=
  StableHlo.held_sub_split (c.tc : Thread nD τ) (Pipeline.arrRefs_sub_ucRefs spec0 (by decide)) W

theorem reg0_pre (c : Dev nD) : iprop(StableHlo.held (c : Thread nD τ) (Pipeline.ucRefs τ sig) (V1 m c) ∗ E0 m c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) restRefs (V1 m c) ∗ emp) ∗ Tk m c ∗ ∃ Wd, owes (c : Thread nD τ) (0 + O₀ c) Wd)
  rw [held_arr, zero_add]
  unfold E0
  iintro ⟨⟨Ha, Hh⟩, HT, Hp, HO⟩
  isplitl [Ha]; · iexact Ha
  isplitl [Hp]; · iexact Hp
  isplitl [Hh]
  · isplitl [Hh]; · iexact Hh
    iempintro
  isplitl [HT]; · iexact HT
  iexact HO

theorem reg0_post (c : Dev nD) : (reg0 m).post c
    ⊢ iprop(Tₙ m c ∗ ∃ W, owes (c : Thread nD τ) (0 : CellTallies nD τ sig ℕ) W) := by
  show iprop(StableHlo.held (c.tc : Thread nD τ) (Pipeline.arrRefs (τ := τ) spec0) (W2 m c) ∗ (∃ r, prngReg c r)
    ∗ (StableHlo.held (c.tc : Thread nD τ) restRefs (W2 m c) ∗ emp) ∗ Yk c ∗ ∃ Wd, owes (c : Thread nD τ) (0 : CellTallies nD τ sig ℕ) Wd) ⊢ _
  unfold Tₙ
  rw [held_arr]
  unfold Yk
  iintro ⟨Ha, -, ⟨Hh, -⟩, Hb, HO⟩
  isplitr [HO]
  · isplitl [Ha Hh]
    · isplitl [Ha] <;> iassumption
    iexact Hb
  iexact HO

theorem unscoped_eq : ∀ sm : SemLoc sig, sm.isScoped .tc = false → sm = .reg barS := by decide

/-- What a final memory holds on device `c`. -/
def Fin1 (c : Dev nD) (f : (ℓ : Loc nD τ sig) → Buf (Elt F) ℓ) : Prop :=
  f ((c.tc : Thread nD τ).loc main_arg0) = m ((c.tc : Thread nD τ).loc main_arg0)
  ∧ f ((c.tc : Thread nD τ).loc main_arg1) = m ((c.tc : Thread nD τ).loc main_arg1)
  ∧ f ((c.tc : Thread nD τ).loc main_arg2) = m ((c.tc : Thread nD τ).loc main_arg2)
  ∧ f ((c.tc : Thread nD τ).loc main_arg3) = m ((c.tc : Thread nD τ).loc main_arg3)
  ∧ f ((c.tc : Thread nD τ).loc main_arg4) = m ((c.tc : Thread nD τ).loc main_arg4)

theorem ends_at (c : Dev nD) (r : Ref sig .tc) (hr : r ≠ main_v17) (hw : r ∉ hostOps0_W) :
    W2 m c (Proc.devRef .tc r) = m ((c.tc : Thread nD τ).loc r) :=
  (W2_ref m c r hr).trans (V1_of m c r hw)

theorem read_end (c : Dev nD) (s' : Phys nD τ sig (Elt F)) : iprop(Tₙ m c ∗ SI s')
    ⊢ |={Set.univ}=> iprop(⌜(Fin1 m c s'.mem.mem ∧ s'.mem.mem ((c.tc : Thread nD τ).loc main_v17) = outD m c) ∧ s'.mem.sem (barC c) = 0⌝ ∗ (SI s' : sProp 𝕄)) := by
  unfold Tₙ StableHlo.held
  iintro ⟨⟨Hh, Hb⟩, HSI⟩
  icombine HSI Hb gives %hb
  ihave Hr := (pointsTo_read_all (Pipeline.ucRefs τ sig) (fun b => ((c : Thread nD τ).1, b)) (W2 m c) s') $$ [Hh HSI]
  · isplitl [Hh] <;> iassumption
  icases Hr with ⟨%h, HSI⟩
  imodintro
  isplitr
  · ipureintro
    refine ⟨⟨⟨?_, ?_, ?_, ?_, ?_⟩, ?_⟩, by simpa using hb⟩
    · exact (h _ (Finset.mem_filter.mpr ⟨StableHlo.devRef_mem_tcRefs main_arg0, by decide⟩)).trans (ends_at m c main_arg0 (by decide) (by decide))
    · exact (h _ (Finset.mem_filter.mpr ⟨StableHlo.devRef_mem_tcRefs main_arg1, by decide⟩)).trans (ends_at m c main_arg1 (by decide) (by decide))
    · exact (h _ (Finset.mem_filter.mpr ⟨StableHlo.devRef_mem_tcRefs main_arg2, by decide⟩)).trans (ends_at m c main_arg2 (by decide) (by decide))
    · exact (h _ (Finset.mem_filter.mpr ⟨StableHlo.devRef_mem_tcRefs main_arg3, by decide⟩)).trans (ends_at m c main_arg3 (by decide) (by decide))
    · exact (h _ (Finset.mem_filter.mpr ⟨StableHlo.devRef_mem_tcRefs main_arg4, by decide⟩)).trans (ends_at m c main_arg4 (by decide) (by decide))
    · exact (h _ (Finset.mem_filter.mpr ⟨StableHlo.devRef_mem_tcRefs main_v17, by decide⟩)).trans (W2_self m c)
  · iexact HSI

set_option backward.isDefEq.respectTransparency.types false in
/-- The run: every execution of the program on the ring ends, each device keeps its arguments and holds its result, and every counter is zero. -/
theorem run_main : θ_run defs (onTc (τ := τ) (main (F := F))) ⟨m, fun _ => 0, ρ⟩
    (fun r => (∀ c : Dev nD, Fin1 m c r.2.mem ∧ r.2.mem ((c.tc : Thread nD τ).loc main_v17) = outD m c) ∧ r.2.sem = fun _ => 0) :=
  Pipeline.θ_run_regions_kit_dev_sems (pcfgs (F := F)) adm (pdats m) 0 cellOf_inj EP defs₀ 𝒱₀ L lv m ρ main
    (segs m 𝒱₀ L lv (fun _ => E0 m) 0 (pdats m) (reg0 m))
    (fun c Q => by
      rewrite [main_chain c, Pipeline.Seg.run_eq_chain,
        show (segs m 𝒱₀ L lv (fun _ => E0 m) 0 (pdats m) (reg0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_atDev]; iexact HX)
    (T₀ := T₀ m) (Tₙ := Tₙ m)
    (hch := fun c => ⟨.rfl, reg0_pre m c, reg0_post m c⟩)
    (hinit := init m ρ)
    (QY := fun c s => (Fin1 m c s.mem ∧ s.mem ((c.tc : Thread nD τ).loc main_v17) = outD m c) ∧ s.sem (barC c) = 0)
    (hfin := read_end m)
    (hQ := fun s h hs => ⟨fun c => (h c).1, sem_eq_zero hs fun c sm hsm => by
        obtain rfl := unscoped_eq sm hsm
        exact (h c).2⟩)

end Cert.Proof.Ring

end
-- ==== Proof.Softmax.lean ====
/-
  One row of attention over the extended reals: weights that are normalised before they meet the values, and weights
  that are normalised after. For finite scores the two agree.
-/
module

public import Idealize.ShloMosaic.PureOps.Ideal.Laws

@[expose] public section

noncomputable section

namespace Cert.Proof.Meet

open Idealize.ShloMosaic
open scoped BigOperators

/-- The largest score. -/
def rmax (s : Fin 128 → EReal) : EReal := (Finset.univ : Finset (Fin 128)).fold max ⊥ s

/-- The weight of a score before it is normalised. -/
def wgt (s : Fin 128 → EReal) (j : Fin 128) : EReal := Ideal.exp (s j - rmax s)

/-- The sum of the weights. -/
def den (s : Fin 128 → EReal) : EReal := ∑ j, wgt s j

/-- Normalise, then sum over the values. -/
def att (s v : Fin 128 → EReal) : EReal := ∑ j, Ideal.div (wgt s j) (den s) * v j

/-- Sum over the values, then normalise. -/
def quo (s v : Fin 128 → EReal) : EReal := Ideal.div (∑ j, v j * wgt s j) (den s)

/-- An extended real that is a real number. -/
def Fin' (x : EReal) : Prop := x ≠ ⊤ ∧ x ≠ ⊥

theorem Fin'.coe (r : ℝ) : Fin' (r : EReal) := ⟨EReal.coe_ne_top r, EReal.coe_ne_bot r⟩

theorem Fin'.eq {x : EReal} (h : Fin' x) : ∃ r : ℝ, (r : EReal) = x := ⟨x.toReal, EReal.coe_toReal h.1 h.2⟩

theorem Fin'.mul {x y : EReal} (hx : Fin' x) (hy : Fin' y) : Fin' (x * y) := by
  obtain ⟨a, rfl⟩ := hx.eq
  obtain ⟨b, rfl⟩ := hy.eq
  rw [← EReal.coe_mul]
  exact Fin'.coe _

theorem Fin'.add {x y : EReal} (hx : Fin' x) (hy : Fin' y) : Fin' (x + y) := by
  obtain ⟨a, rfl⟩ := hx.eq
  obtain ⟨b, rfl⟩ := hy.eq
  rw [← EReal.coe_add]
  exact Fin'.coe _

theorem Fin'.sum {ι : Type*} (t : Finset ι) (f : ι → EReal) (h : ∀ i, Fin' (f i)) : Fin' (∑ i ∈ t, f i) := by
  classical
  induction t using Finset.induction_on with
  | empty => rw [Finset.sum_empty]; exact Fin'.coe 0
  | insert a t ha ih => rw [Finset.sum_insert ha]; exact (h a).add ih

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The largest of finitely many real numbers is one. -/
theorem rmax_fin {s : Fin 128 → EReal} (h : ∀ j, Fin' (s j)) : Fin' (rmax s) := by
  constructor
  · exact ne_of_lt ((Finset.fold_max_lt _).2 ⟨bot_lt_top, fun j _ => lt_top_iff_ne_top.2 (h j).1⟩)
  · exact ne_of_gt ((Finset.lt_fold_max _).2 (.inr ⟨0, Finset.mem_univ _, bot_lt_iff_ne_bot.2 (h 0).2⟩))

/-- A nonnegative real factor goes into a sum of extended reals. -/
theorem sum_mul_coe {ι : Type*} (t : Finset ι) (f : ι → EReal) (w : ℝ) (hw : 0 ≤ w) :
    (∑ i ∈ t, f i) * (w : EReal) = ∑ i ∈ t, f i * (w : EReal) := by
  classical
  induction t using Finset.induction_on with
  | empty => simp
  | insert a t ha ih =>
    rw [Finset.sum_insert ha, Finset.sum_insert ha, ← ih, mul_comm, mul_comm (f a), mul_comm (∑ i ∈ t, f i)]
    exact EReal.left_distrib_of_nonneg_of_ne_top (by exact_mod_cast hw) (EReal.coe_ne_top w) _ _

/-- The two orders agree where the scores are real numbers. -/
theorem quo_eq_att (s v : Fin 128 → EReal) (h : ∀ j, Fin' (s j)) : quo s v = att s v := by
  obtain ⟨M, hM⟩ := (rmax_fin h).eq
  have hw : ∀ j, ∃ p : ℝ, 0 < p ∧ wgt s j = (p : EReal) := fun j => by
    obtain ⟨r, hr⟩ := (h j).eq
    refine ⟨Real.exp (r - M), Real.exp_pos _, ?_⟩
    rw [wgt, ← hM, ← hr, ← EReal.coe_sub, Ideal.exp_coe]
  choose p hp hpe using hw
  have hd : den s = ((∑ j, p j : ℝ) : EReal) := by rw [den, coe_sum]; exact Finset.sum_congr rfl fun j _ => hpe j
  have hpos : (0 : ℝ) < ∑ j, p j := Finset.sum_pos (fun j _ => hp j) ⟨0, Finset.mem_univ _⟩
  unfold quo att
  rw [hd, Ideal.div_coe hpos.ne', sum_mul_coe _ _ _ (one_div_pos.2 hpos).le]
  refine Finset.sum_congr rfl fun j _ => ?_
  rw [Ideal.div_coe hpos.ne', mul_assoc, mul_comm]

end Cert.Proof.Meet

end
-- ==== Proof.HeadAt.lean ====
/-
  What a device computes, read at an index over the extended reals: one head, the eight heads of a batch, the
  queries, and the contribution to an output row.
-/
module

public import proofs.«01_k».proof.Proof.Contents
public import proofs.«01_k».proof.Proof.Softmax
public import Idealize.ShloMosaic.Lib.ValueIdx
public import Idealize.ShloMosaic.Lib.MatmulPlain
public import Idealize.ShloMosaic.Lib.Pipeline.Value

@[expose] public section

noncomputable section

namespace Cert.Proof.Meet

open Cert.KernelIdeal Cert.KernelIdeal.Gen Cert.Proof.Ring
open Idealize.ShloMosaic Idealize.ShloMosaic.ValueIdx
open scoped BigOperators

/-- The factor on the scores. -/
def c8 : EReal := Ideal.ofBits .f32 0x3E000000#32

theorem bot32 : Ideal.ofBits .f32 0xFF800000#32 = ⊥ := by simp [Ideal.ofBits, Ideal.ieee]

/-- Column `64·n + d` of a matrix of eight heads. -/
abbrev col (n : Fin 8) (d : Fin 64) : Fin 512 := ⟨64 * n.val + d.val, by have := n.isLt; have := d.isLt; omega⟩

/-- A product with the columns of the right factor, onto zero. -/
theorem mm256 (a : FVec Ideal S256x512 .f32) (b : FVec Ideal S512x512 .f32) (r : Fin 256) (n : Fin 512) :
    matmul dot_S256x512_S512x512_S256x512_1_0_0_1_n_n none a b (constant S256x512 .f32 0x00000000#32) (ix2 r n)
      = ∑ k : Fin 512, a (ix2 r k) * b (ix2 k n) := by
  refine (Ideal.matmul_plain_apply (M := 256) (K := 512) (N := 512) none a b _ r n).trans ?_
  rw [constant_apply, Ideal.ofBits_zero_f32, zero_add]

theorem mmScores (a b : FVec Ideal S128x64 .f32) (r j : Fin 128) :
    matmul dot_S128x64_S128x64_S128x128_1_1_0_0_n_n none a b (constant S128x128 .f32 0x00000000#32) (ix2 r j)
      = ∑ k : Fin 64, a (ix2 r k) * b (ix2 j k) := by
  refine (Ideal.matmul_transposedRhs_apply (M := 128) (K := 64) (N := 128) none a b _ r j).trans ?_
  rw [constant_apply, Ideal.ofBits_zero_f32, zero_add]

theorem mmHead (a : FVec Ideal S128x128 .f32) (b : FVec Ideal S128x64 .f32) (r : Fin 128) (d : Fin 64) :
    matmul dot_S128x128_S128x64_S128x64_1_0_0_1_n_n none a b (constant S128x64 .f32 0x00000000#32) (ix2 r d)
      = ∑ k : Fin 128, a (ix2 r k) * b (ix2 k d) := by
  refine (Ideal.matmul_plain_apply (M := 128) (K := 128) (N := 64) none a b _ r d).trans ?_
  rw [constant_apply, Ideal.ofBits_zero_f32, zero_add]

/-- One head of a block, as a matrix. -/
theorem cut_apply (k : Vec Ideal S1x1x128x64 .f32) (j : Fin 128) (d : Fin 64) :
    shapeCast S128x64 k shapeCasts_S1x1x128x64_S128x64 (ix2 j d) = k (ix4 0 0 j d) := by
  refine shapeCast_apply (s := S1x1x128x64) (t := S128x64) k _ (ix2 j d) (ix4 0 0 j d) ?_
  rw [Shape.rowMajor_val_four, Shape.rowMajor_val_two]
  simp

/-- A scaled score. -/
theorem scores_apply (q : FVec Ideal S128x64 .f32) (k : Vec Ideal S1x1x128x64 .f32) (r j : Fin 128) :
    scores q k (ix2 r j) = (∑ d : Fin 64, q (ix2 r d) * k (ix4 0 0 j d)) * c8 := by
  unfold scores
  rw [mulf_apply, mmScores]
  refine congrArg (· * c8) (Finset.sum_congr rfl fun d _ => ?_)
  rw [cut_apply]

/-- The column that a row's single number is spread from. -/
theorem spread (x : FVec Ideal S128 .f32) (r j : Fin 128) :
    broadcastTo S128x128 (shapeCast S128x1 x shapeCasts_S128_S128x1) broadcasts_S128x1_S128x128 (ix2 r j) = x (ix1 r) := by
  refine (broadcastTo_apply (s := S128x1) (t := S128x128) _ _ (ix2 r j) (ix2 r 0) ?_).trans ?_
  · intro a
    match a with
    | ⟨0, _⟩ => rfl
    | ⟨1, _⟩ => rfl
  · refine shapeCast_apply (s := S128) (t := S128x1) x _ (ix2 r 0) (ix1 r) ?_
    rw [Shape.rowMajor_val_one, Shape.rowMajor_val_two]
    simp

theorem lift_row (h : S128x128.Reduces [1] S128) (r : Fin 128) (j : Fin 128) : h.lift (ix1 r) j = ix2 r j := by
  funext a
  apply Fin.ext
  match a with
  | ⟨0, _⟩ => rfl
  | ⟨1, _⟩ => rfl

theorem rowMax_apply (s : FVec Ideal S128x128 .f32) (r j : Fin 128) : rowMax s (ix2 r j) = rmax fun j' => s (ix2 r j') := by
  unfold rowMax rmax
  rw [spread]
  refine (Ideal.multiReduction_maximumf_single s _ reduces_S128x128_S128 _ _ _).trans ?_
  show Finset.fold max (Ideal.ofBits .f32 0xFF800000#32) _ _ = _
  rw [bot32]
  refine Finset.fold_congr fun j' _ => ?_
  exact congrArg s (lift_row _ r j')

theorem rowSum_apply (p : FVec Ideal S128x128 .f32) (r j : Fin 128) : rowSum p (ix2 r j) = ∑ j' : Fin 128, p (ix2 r j') := by
  unfold rowSum
  rw [spread]
  refine (Ideal.multiReduction_add_single p _ reduces_S128x128_S128 _ _ _).trans ?_
  exact Finset.sum_congr rfl fun j' _ => congrArg p (lift_row _ r j')

theorem expo_apply (s : FVec Ideal S128x128 .f32) (r j : Fin 128) : expo s (ix2 r j) = wgt (fun j' => s (ix2 r j')) j := by
  unfold expo wgt
  show Ideal.exp (s (ix2 r j) - rowMax s (ix2 r j)) = _
  rw [rowMax_apply]

/-- One head's output: the row's attention over the head's keys and values. -/
theorem head_apply (q : FVec Ideal S128x64 .f32) (k v : Vec Ideal S1x1x128x64 .f32) (r : Fin 128) (d : Fin 64) :
    head q k v (ix2 r d)
      = att (fun j => (∑ d' : Fin 64, q (ix2 r d') * k (ix4 0 0 j d')) * c8) (fun j => v (ix4 0 0 j d)) := by
  unfold head att
  rw [mmHead]
  refine Finset.sum_congr rfl fun j _ => ?_
  rw [divf_apply, rowSum_apply, cut_apply]
  simp only [expo_apply, scores_apply]
  rfl

end Cert.Proof.Meet

end
-- ==== Proof.PartAt.lean ====
/-
  A device's contribution to a row of the output, read at an index over the extended reals: a function of the row of the
  block that is present, of the device's columns of the query weights, of its keys and values, and of its rows of the
  output weights.
-/
module

public import proofs.«01_k».proof.Proof.HeadAt

@[expose] public section

noncomputable section

namespace Cert.Proof.Meet

open Cert.KernelIdeal Cert.KernelIdeal.Gen Cert.Proof.Ring
open Idealize.ShloMosaic Idealize.ShloMosaic.ValueIdx
open scoped BigOperators

/-- The eight heads as a list of pieces. -/
abbrev pieces (Q : FVec Ideal S128x512 .f32) (k v : Fin 8 → Vec Ideal S1x1x128x64 .f32) : List ((s : Shape) × (s.Idx → EReal)) :=
  [⟨S128x64, head (extractStridedSlice S128x64 ![0, 0] Q slices_S128x512_o0_0_S128x64) (k 0) (v 0)⟩,
    ⟨S128x64, head (extractStridedSlice S128x64 ![0, 64] Q slices_S128x512_o0_64_S128x64) (k 1) (v 1)⟩,
    ⟨S128x64, head (extractStridedSlice S128x64 ![0, 128] Q slices_S128x512_o0_128_S128x64) (k 2) (v 2)⟩,
    ⟨S128x64, head (extractStridedSlice S128x64 ![0, 192] Q slices_S128x512_o0_192_S128x64) (k 3) (v 3)⟩,
    ⟨S128x64, head (extractStridedSlice S128x64 ![0, 256] Q slices_S128x512_o0_256_S128x64) (k 4) (v 4)⟩,
    ⟨S128x64, head (extractStridedSlice S128x64 ![0, 320] Q slices_S128x512_o0_320_S128x64) (k 5) (v 5)⟩,
    ⟨S128x64, head (extractStridedSlice S128x64 ![0, 384] Q slices_S128x512_o0_384_S128x64) (k 6) (v 6)⟩,
    ⟨S128x64, head (extractStridedSlice S128x64 ![0, 448] Q slices_S128x512_o0_448_S128x64) (k 7) (v 7)⟩]

/-- Sixty-four columns from column `o`. -/
theorem slice_apply (o : Nat) (Q : FVec Ideal S128x512 .f32) (h : S128x512.Slices ![0, o] S128x64) (r : Fin 128) (d : Fin 64)
    (n : Fin 512) (hn : n.val = o + d.val) : extractStridedSlice S128x64 ![0, o] Q h (ix2 r d) = Q (ix2 r n) := by
  refine extractStridedSlice_apply (s := S128x512) (t := S128x64) _ Q h (ix2 r d) (ix2 r n) fun a => ?_
  match a with
  | ⟨0, _⟩ => exact (Nat.zero_add _).symm
  | ⟨1, _⟩ => exact hn

/-- Piece `n` is head `n` of the columns from `64·n` on. -/
theorem piece (Q : FVec Ideal S128x512 .f32) (k v : Fin 8 → Vec Ideal S1x1x128x64 .f32) (n : Fin 8) :
    ∃ q : FVec Ideal S128x64 .f32, (pieces Q k v)[n.val]'(n.isLt) = ⟨S128x64, head q (k n) (v n)⟩
      ∧ ∀ (r : Fin 128) (d : Fin 64), q (ix2 r d) = Q (ix2 r (col n d)) := by
  match n with
  | 0 => exact ⟨_, rfl, fun r d => slice_apply 0 Q _ r d _ rfl⟩
  | 1 => exact ⟨_, rfl, fun r d => slice_apply 64 Q _ r d _ rfl⟩
  | 2 => exact ⟨_, rfl, fun r d => slice_apply 128 Q _ r d _ rfl⟩
  | 3 => exact ⟨_, rfl, fun r d => slice_apply 192 Q _ r d _ rfl⟩
  | 4 => exact ⟨_, rfl, fun r d => slice_apply 256 Q _ r d _ rfl⟩
  | 5 => exact ⟨_, rfl, fun r d => slice_apply 320 Q _ r d _ rfl⟩
  | 6 => exact ⟨_, rfl, fun r d => slice_apply 384 Q _ r d _ rfl⟩
  | 7 => exact ⟨_, rfl, fun r d => slice_apply 448 Q _ r d _ rfl⟩

theorem before (Q : FVec Ideal S128x512 .f32) (k v : Fin 8 → Vec Ideal S1x1x128x64 .f32) (n : Fin 8) :
    ((((pieces Q k v).take n.val).map (·.1)).map fun s : Shape => if h : s.rank = S128x512.rank then s.size ((1 : Fin 2).cast h.symm) else 0).sum
      = 64 * n.val := by
  match n with
  | 0 => rfl
  | 1 => rfl
  | 2 => rfl
  | 3 => rfl
  | 4 => rfl
  | 5 => rfl
  | 6 => rfl
  | 7 => rfl

/-- The heads of one batch: at column `64·n + d` head `n` at `d`. -/
theorem heads_apply (Q : FVec Ideal S128x512 .f32) (k v : Fin 8 → Vec Ideal S1x1x128x64 .f32) (r : Fin 128) (n : Fin 8) (d : Fin 64) :
    heads Q k v (ix2 r (col n d))
      = att (fun j => (∑ d' : Fin 64, Q (ix2 r (col n d')) * k n (ix4 0 0 j d')) * c8) (fun j => v n (ix4 0 0 j d)) := by
  obtain ⟨q, hq, hqQ⟩ := piece Q k v n
  refine (concatenate_apply_piece (t := S128x512) 1 (pieces Q k v) concatenates_S128x64_S128x64_S128x64_S128x64_S128x64_S128x64_S128x64_S128x64_S128x512_d1
    (ix2 r (col n d)) n.val n.isLt S128x64 (head q (k n) (v n)) hq rfl (64 * n.val) (before Q k v n) (ix2 r d) ?_ rfl).trans ?_
  · intro b hb
    match b with
    | ⟨0, _⟩ => rfl
    | ⟨1, _⟩ => exact absurd rfl hb
  · rw [head_apply]
    refine congrArg (fun s => att s fun j => v n (ix4 0 0 j d)) (funext fun j => congrArg (· * c8) (Finset.sum_congr rfl fun d' _ => ?_))
    rw [hqQ]

/-- A block without its leading axis of extent one. -/
theorem blk_apply (x : Vec Ideal S1x128x512 .f32) (r : Fin 128) (k : Fin 512) :
    shapeCast S128x512 x shapeCasts_S1x128x512_S128x512 (ix2 r k) = x (ix3 0 r k) := by
  refine shapeCast_apply (s := S1x128x512) (t := S128x512) x _ (ix2 r k) (ix3 0 r k) ?_
  rw [Shape.rowMajor_val_three, Shape.rowMajor_val_two]
  simp

theorem unblk_apply (x : FVec Ideal S128x512 .f32) (r : Fin 128) (k : Fin 512) :
    shapeCast S1x128x512 x shapeCasts_S128x512_S1x128x512 (ix3 0 r k) = x (ix2 r k) := by
  refine shapeCast_apply (s := S128x512) (t := S1x128x512) x _ (ix3 0 r k) (ix2 r k) ?_
  rw [Shape.rowMajor_val_three, Shape.rowMajor_val_two]
  simp

/-- A whole matrix as it is loaded and cast to its own shape. -/
theorem whole_apply (w : Vec Ideal S512x512 .f32) (k n : Fin 512) :
    shapeCast S512x512 (ldW w) shapeCasts_S512x512_S512x512 (ix2 k n) = w (ix2 k n) := by
  refine (shapeCast_apply (s := S512x512) (t := S512x512) (ldW w) _ (ix2 k n) (ix2 k n) rfl).trans ?_
  unfold ldW rd
  refine congrArg w (funext fun a => Fin.ext ?_)
  match a with
  | ⟨0, _⟩ => show 0 + 1 * k.val = k.val; omega
  | ⟨1, _⟩ => show 0 + 1 * n.val = n.val; omega

/-- One head's block of the keys or the values. -/
theorem ldH_apply (w : Vec Ideal S2x8x128x64 .f32) (b : Fin 2) (n : Fin 8) (j : Fin 128) (d : Fin 64) :
    ldH w b n (ix4 0 0 j d) = w (ix4 b n j d) := by
  unfold ldH rd
  refine congrArg w (funext fun a => Fin.ext ?_)
  match a with
  | ⟨0, _⟩ => show b.val + 1 * 0 = b.val; omega
  | ⟨1, _⟩ => show n.val + 1 * 0 = n.val; omega
  | ⟨2, _⟩ => show 0 + 1 * j.val = j.val; omega
  | ⟨3, _⟩ => show 0 + 1 * d.val = d.val; omega

/-- The block of the two that batch `b` is about. -/
abbrev pick (b : Fin 2) (x0 x1 : Vec Ideal S1x128x512 .f32) : Vec Ideal S1x128x512 .f32 := if b = 0 then x0 else x1

/-- Row `r` of batch `b` in the two batches one above the other. -/
abbrev row (b : Fin 2) (r : Fin 128) : Fin 256 := ⟨128 * b.val + r.val, by have := b.isLt; have := r.isLt; omega⟩

/-- Two matrices one above the other. -/
theorem stack_apply (A B : FVec Ideal S128x512 .f32) (b : Fin 2) (r : Fin 128) (k : Fin 512) :
    concatenate S256x512 0 [⟨S128x512, A⟩, ⟨S128x512, B⟩] concatenates_S128x512_S128x512_S256x512_d0 (ix2 (row b r) k)
      = (if b = 0 then A else B) (ix2 r k) := by
  match b with
  | 0 =>
    refine concatenate_pair_apply_left (t := S256x512) (s₁ := S128x512) (s₂ := S128x512) 0 A B _ (ix2 (row 0 r) k) rfl (ix2 r k) fun a => ?_
    match a with
    | ⟨0, _⟩ => show r.val = 128 * 0 + r.val; omega
    | ⟨1, _⟩ => rfl
  | 1 =>
    refine concatenate_pair_apply_right (t := S256x512) (s₁ := S128x512) (s₂ := S128x512) 0 A B _ (ix2 (row 1 r) k) rfl rfl (ix2 r k) (fun a ha => ?_) ?_
    · match a with
      | ⟨0, _⟩ => exact absurd rfl ha
      | ⟨1, _⟩ => rfl
    · show r.val + 128 = 128 * 1 + r.val; omega

/-- The rows of batch `b` of a stack. -/
theorem rows_apply (A : FVec Ideal S256x512 .f32) (b : Fin 2) (h : S256x512.Slices ![128 * b.val, 0] S128x512) (r : Fin 128) (k : Fin 512) :
    extractStridedSlice S128x512 ![128 * b.val, 0] A h (ix2 r k) = A (ix2 (row b r) k) := by
  refine extractStridedSlice_apply (s := S256x512) (t := S128x512) _ A h (ix2 r k) (ix2 (row b r) k) fun a => ?_
  match a with
  | ⟨0, _⟩ => rfl
  | ⟨1, _⟩ => exact (Nat.zero_add _).symm

/-- A query's coordinate: the row of the block against a column of the weights. -/
theorem query_apply (x0 x1 : Vec Ideal S1x128x512 .f32) (w : Vec Ideal S512x512 .f32) (b : Fin 2) (r : Fin 128) (n : Fin 512) :
    query x0 x1 (ldW w) (ix2 (row b r) n) = ∑ k : Fin 512, pick b x0 x1 (ix3 0 r k) * w (ix2 k n) := by
  unfold query
  rw [mm256]
  refine Finset.sum_congr rfl fun k _ => ?_
  rw [whole_apply, stack_apply]
  refine congrArg (· * w (ix2 k n)) ?_
  match b with
  | 0 => exact blk_apply x0 r k
  | 1 => exact blk_apply x1 r k

/-- The score of a row's query against key `j` of head `n`. -/
def sco (b : Fin 2) (p : Par Ideal) (x : Vec Ideal S1x128x512 .f32) (r : Fin 128) (n : Fin 8) (j : Fin 128) : EReal :=
  (∑ d : Fin 64, (∑ k : Fin 512, x (ix3 0 r k) * p.wq (ix2 k (col n d))) * p.kt (ix4 b n j d)) * c8

theorem attend_apply (p : Par Ideal) (x0 x1 : Vec Ideal S1x128x512 .f32) (b : Fin 2) (r : Fin 128) (n : Fin 8) (d : Fin 64) :
    attend p x0 x1 (ix2 (row b r) (col n d)) = att (sco b p (pick b x0 x1) r n) (fun j => p.vt (ix4 b n j d)) := by
  unfold attend
  rw [stack_apply]
  match b with
  | 0 =>
    refine (heads_apply _ _ _ r n d).trans ?_
    refine congrArg₂ att (funext fun j => congrArg (· * c8) (Finset.sum_congr rfl fun d' _ => ?_)) (funext fun j => ldH_apply _ _ _ _ _)
    rw [ldH_apply]
    exact congrArg (· * _) ((rows_apply _ 0 _ r _).trans (query_apply x0 x1 p.wq 0 r _))
  | 1 =>
    refine (heads_apply _ _ _ r n d).trans ?_
    refine congrArg₂ att (funext fun j => congrArg (· * c8) (Finset.sum_congr rfl fun d' _ => ?_)) (funext fun j => ldH_apply _ _ _ _ _)
    rw [ldH_apply]
    exact congrArg (· * _) ((rows_apply _ 1 _ r _).trans (query_apply x0 x1 p.wq 1 r _))

/-- Which head a column is in, and where in it. -/
abbrev hd (k : Fin 512) : Fin 8 := ⟨k.val / 64, by have := k.isLt; omega⟩
abbrev dm (k : Fin 512) : Fin 64 := ⟨k.val % 64, Nat.mod_lt _ (by decide)⟩

theorem col_hd (k : Fin 512) : col (hd k) (dm k) = k := Fin.ext (Nat.div_add_mod k.val 64)

/-- The contribution of a device with parameters `p` to row `r` of batch `b`, column `n`, the row's block being `x`. -/
def con (b : Fin 2) (p : Par Ideal) (x : Vec Ideal S1x128x512 .f32) (r : Fin 128) (n : Fin 512) : EReal :=
  ∑ k : Fin 512, att (sco b p x r (hd k)) (fun j => p.vt (ix4 b (hd k) j (dm k))) * p.wo (ix2 k n)

theorem contrib_apply (p : Par Ideal) (x0 x1 : Vec Ideal S1x128x512 .f32) (b : Fin 2) (r : Fin 128) (n : Fin 512) :
    contrib p x0 x1 (ix2 (row b r) n) = con b p (pick b x0 x1) r n := by
  unfold contrib con
  rw [mm256]
  refine Finset.sum_congr rfl fun k _ => ?_
  rw [whole_apply, ← attend_apply, col_hd]

/-- The batch a direction carries. -/
abbrev bat (d : Bool) : Fin 2 := if d then 1 else 0

theorem part_apply (d : Bool) (p : Par Ideal) (x0 x1 : Vec Ideal S1x128x512 .f32) (r : Fin 128) (n : Fin 512) :
    part d p x0 x1 (ix2 r n) = con (bat d) p (if d then x1 else x0) r n := by
  cases d
  · exact (rows_apply (contrib p x0 x1) 0 slices_S256x512_o0_0_S128x512 r n).trans (contrib_apply p x0 x1 0 r n)
  · exact (rows_apply (contrib p x0 x1) 1 slices_S256x512_o128_0_S128x512 r n).trans (contrib_apply p x0 x1 1 r n)

theorem accFirst_apply (d : Bool) (p : Par Ideal) (x0 x1 : Vec Ideal S1x128x512 .f32) (r : Fin 128) (n : Fin 512) :
    accFirst d p x0 x1 (ix3 0 r n) = con (bat d) p (if d then x1 else x0) r n := by
  unfold accFirst
  rw [unblk_apply, part_apply]

theorem accNext_apply (d : Bool) (p : Par Ideal) (x0 x1 a : Vec Ideal S1x128x512 .f32) (r : Fin 128) (n : Fin 512) :
    accNext d p x0 x1 a (ix3 0 r n) = a (ix3 0 r n) + con (bat d) p (if d then x1 else x0) r n := by
  unfold accNext
  rw [unblk_apply, addf_apply, part_apply, blk_apply]

end Cert.Proof.Meet

end
-- ==== Proof.RingSum.lean ====
/-
  What a device writes out is the sum over all devices of their contributions to the device's own block.
-/
module

public import proofs.«01_k».proof.Proof.PartAt

@[expose] public section

noncomputable section

namespace Cert.Proof.Meet

open Cert.KernelIdeal Cert.KernelIdeal.Gen Cert.Proof.Ring
open Idealize.ShloMosaic Idealize.ShloMosaic.ValueIdx
open scoped BigOperators

theorem xcs_iter (x : Bool → Dev nD → Blk Ideal) (d : Bool) (t : ℕ) (c : Dev nD) : xcs x d c t = x d ((nxt (!d))^[t] c) := by
  induction t generalizing c with
  | zero => rfl
  | succ t ih => exact ih _

theorem xcs_pick (x : Bool → Dev nD → Blk Ideal) (d : Bool) (t : ℕ) (c : Dev nD) :
    (if d then xcs x true c t else xcs x false c t) = x d ((nxt (!d))^[t] c) := by
  cases d <;> exact xcs_iter x _ t c

/-- The sum that has travelled `t` steps: the contributions of the last `t + 1` devices to the block that travels with it. -/
theorem acs_sum (x : Bool → Dev nD → Blk Ideal) (p : Dev nD → Par Ideal) (d : Bool) (r : Fin 128) (n : Fin 512) (t : ℕ) (c : Dev nD) :
    acs x p d c t (ix3 0 r n)
      = ∑ i ∈ Finset.range (t + 1), con (bat d) (p ((nxt (!d))^[i] c)) (x d ((nxt (!d))^[t] c)) r n := by
  induction t generalizing c with
  | zero =>
    refine (accFirst_apply d (p c) _ _ r n).trans ?_
    rw [xcs_pick, Finset.sum_range_one]
    rfl
  | succ t ih =>
    refine (accNext_apply d (p c) _ _ _ r n).trans ?_
    rw [xcs_pick, ih]
    exact (Finset.sum_range_succ' (fun i => con (bat d) (p ((nxt (!d))^[i] c)) (x d ((nxt (!d))^[t + 1] c)) r n) (t + 1)).symm

/-- Thirty-two steps around the ring lead back, and pass every device once. -/
theorem around (d : Bool) (c : Dev nD) : (nxt (!d))^[31] (nxt (!d) c) = c := by
  cases d <;> revert c <;> decide

theorem passes (d : Bool) (c : Dev nD) : Function.Bijective fun i : Fin 32 => (nxt (!d))^[i.val] (nxt (!d) c) := by
  have h : Function.Injective fun i : Fin 32 => (nxt (!d))^[i.val] (nxt (!d) c) := by
    have e : ∀ (i : ℕ) (c : Dev nD), ((nxt (!d))^[i] c).val = (c.val + i * (if (!d) then 31 else 1)) % 32 := by
      intro i
      induction i with
      | zero => intro c; rw [Nat.zero_mul, Nat.add_zero]; exact (Nat.mod_eq_of_lt c.isLt).symm
      | succ i ih =>
        intro c
        refine (ih _).trans ?_
        show ((c.val + (if (!d) then 31 else 1)) % 32 + i * (if (!d) then 31 else 1)) % 32 = _
        cases d <;> simp <;> omega
    intro i j hij
    have hv := congrArg Fin.val hij
    have hi := i.isLt
    have hj := j.isLt
    simp only [e] at hv
    apply Fin.ext
    cases d <;> simp at hv <;> omega
  exact (Fintype.bijective_iff_injective_and_card _).2 ⟨h, by simp⟩

theorem outV_sum (x : Bool → Dev nD → Blk Ideal) (p : Dev nD → Par Ideal) (d : Bool) (c : Dev nD) (r : Fin 128) (n : Fin 512) :
    outV x p d c (ix3 0 r n) = ∑ e : Dev nD, con (bat d) (p e) (x d c) r n := by
  unfold outV
  rw [unblk_apply, blk_apply, acs_sum, around, Finset.sum_range]
  exact (passes d c).sum_comp fun e => con (bat d) (p e) (x d c) r n

end Cert.Proof.Meet

end
-- ==== Proof.HostVal.lean ====
/-
  The keys and values that a device's kernel is given: of its own batches' 256 heads the eight from `8·c` on, the heads'
  axis moved in front of the positions'.
-/
module

public import proofs.«01_k».proof.Proof.Gen.KernelIdeal.Regions
public import Idealize.ShloMosaic.Lib.ValueIdx
public import Idealize.ShloMosaic.Lib.WordCmp
public import Idealize.ShloMosaic.Lib.Pipeline.Value
public import Idealize.ShloMosaic.Lib.StableHlo.RunRead

@[expose] public section

noncomputable section

namespace Cert.Proof.Meet

open Cert.KernelIdeal Cert.KernelIdeal.Gen
open Idealize.ShloMosaic Idealize.ShloMosaic.ValueIdx Idealize.ShloMosaic.StableHlo Idealize.ShloMosaic.TcCoe

variable (m : (ℓ : Loc nD τ sig) → Buf (Elt Ideal) ℓ)

/-- The device's number times eight, as the host computes it. -/
def eight (c : Dev nD) : Vec Ideal S_ .i32 :=
  muli (Host.remui (Host.divui (constantI S_ 32 (Dev.word c)) (constantI S_ 32 1#32)) (constantI S_ 32 32#32)) (constantI S_ 32 8#32)

/-- The first head, as the host computes it: a negative number would count from the end. -/
def first (c : Dev nD) : Vec Ideal S_ .i32 :=
  select (cmpi .slt (eight c) (constantI S_ 32 0#32)) (addi (eight c) (constantI S_ 32 256#32)) (eight c)

theorem first_toInt (c : Dev nD) (i : S_.Idx) : (first c i).toInt = ((8 * c.val : ℕ) : ℤ) := by
  have h : ∀ c : Dev nD, (first c fun a => a.elim0).toInt = ((8 * c.val : ℕ) : ℤ) := by decide +kernel
  have e : i = fun a => a.elim0 := funext fun a => a.elim0
  rw [e]
  exact h c

/-- The eight heads of a device, brought in front. -/
def mine (c : Dev nD) (x : Vec Ideal S2x128x256x64 .f32) : Vec Ideal S2x8x128x64 .f32 :=
  transpose S2x8x128x64 [0, 2, 1, 3]
    (Host.dynamicSlice S2x128x8x64 x (fun k => ((![constantI S_ 32 0#32, constantI S_ 32 0#32, first c, constantI S_ 32 0#32] : Fin 4 → Vec Ideal S_ .i32) k (Shape.Idx.first h_S_)).toInt)
      sliceFits_S2x128x256x64_S2x128x8x64) transposes_S2x128x8x64_S2x8x128x64_0_2_1_3

/-- A head of the device's, among all the heads. -/
abbrev glob (c : Dev nD) (h : Fin 8) : Fin 256 := ⟨8 * c.val + h.val, by have h1 : c.val < 32 := c.isLt; have := h.isLt; omega⟩

theorem mine_apply (c : Dev nD) (x : Vec Ideal S2x128x256x64 .f32) (b : Fin 2) (h : Fin 8) (j : Fin 128) (d : Fin 64) :
    mine c x (ix4 b h j d) = x (ix4 b j (glob c h) d) := by
  have h1 : c.val < 32 := c.isLt
  unfold mine
  rw [WordCmp.dynamicSlice_eq_extract (s := S2x128x256x64) S2x128x8x64 x _ _ ![0, 0, 8 * c.val, 0] ⟨rfl, fun a => by
    match a with
    | ⟨0, _⟩ => exact Nat.le_refl 2
    | ⟨1, _⟩ => exact Nat.le_refl 128
    | ⟨2, _⟩ => show 8 * c.val + 8 ≤ 256; omega
    | ⟨3, _⟩ => exact Nat.le_refl 64⟩ fun a => by
    match a with
    | ⟨0, _⟩ => rfl
    | ⟨1, _⟩ => rfl
    | ⟨2, _⟩ => exact first_toInt c _
    | ⟨3, _⟩ => rfl]
  refine (transpose_apply (s := S2x128x8x64) (t := S2x8x128x64) _ _ _ (ix4 b h j d) (ix4 b j h d) fun a => ?_).trans ?_
  · match a with
    | ⟨0, _⟩ => rfl
    | ⟨1, _⟩ => rfl
    | ⟨2, _⟩ => rfl
    | ⟨3, _⟩ => rfl
  · refine extractStridedSlice_apply (s := S2x128x256x64) (t := S2x128x8x64) _ x _ (ix4 b j h d) (ix4 b j (glob c h) d) fun a => ?_
    match a with
    | ⟨0, _⟩ => exact (Nat.zero_add _).symm
    | ⟨1, _⟩ => exact (Nat.zero_add _).symm
    | ⟨2, _⟩ => rfl
    | ⟨3, _⟩ => exact (Nat.zero_add _).symm

theorem keys_read (c : Dev nD) (V : Valuation τ sig (Elt Ideal)) :
    after (hostOps0 c) V (Proc.devRef .tc main_v15) = mine c (V (Proc.devRef .tc main_arg2)) := by
  after_reads_simp [unaryIndexed_result_read, indexContents_cons, indexContents_empty]
  unfold mine
  refine congrArg (fun st => transpose S2x8x128x64 [0, 2, 1, 3] (Host.dynamicSlice S2x128x8x64 _ st sliceFits_S2x128x256x64_S2x128x8x64)
    transposes_S2x128x8x64_S2x8x128x64_0_2_1_3) (funext fun k => ?_)
  match k with
  | 0 => rfl
  | 1 => rfl
  | 2 => rfl
  | 3 => rfl

theorem vals_read (c : Dev nD) (V : Valuation τ sig (Elt Ideal)) :
    after (hostOps0 c) V (Proc.devRef .tc main_v16) = mine c (V (Proc.devRef .tc main_arg3)) := by
  after_reads_simp [unaryIndexed_result_read, indexContents_cons, indexContents_empty]
  unfold mine
  refine congrArg (fun st => transpose S2x8x128x64 [0, 2, 1, 3] (Host.dynamicSlice S2x128x8x64 _ st sliceFits_S2x128x256x64_S2x128x8x64)
    transposes_S2x128x8x64_S2x8x128x64_0_2_1_3) (funext fun k => ?_)
  match k with
  | 0 => rfl
  | 1 => rfl
  | 2 => rfl
  | 3 => rfl

theorem V1_keys (c : Dev nD) : V1 m c main_v15 = mine c (m ((c.tc : Thread nD τ).loc main_arg2)) := keys_read c _
theorem V1_vals (c : Dev nD) : V1 m c main_v16 = mine c (m ((c.tc : Thread nD τ).loc main_arg3)) := vals_read c _

end Cert.Proof.Meet

end
-- ==== Proof.RefVal.lean ====
/-
  The reference read at an index over the extended reals: a sum over all 16384 columns of the softmax quotient of the
  head a column is in, times the output weight.
-/
module

public import proofs.«01_k».proof.Proof.Gen.ReferenceIdeal.Read
public import proofs.«01_k».proof.Proof.HeadAt

@[expose] public section

noncomputable section

namespace Cert.Proof.Meet.Ref

open Cert.ReferenceIdeal Cert.ReferenceIdeal.Gen Cert.ReferenceIdeal.Read Cert.Proof.Meet
open Idealize.ShloMosaic Idealize.ShloMosaic.ValueIdx
open scoped BigOperators

variable (x0 : FVec Ideal S2x4096x512 .f32) (x1 : FVec Ideal S512x16384 .f32) (x2 x3 : FVec Ideal S2x128x256x64 .f32)
  (x4 : FVec Ideal S16384x512 .f32)

theorem zero32 : Ideal.ofBits .f32 0x00000000#32 = 0 := Ideal.ofBits_zero_f32

/-- Column `64·h + d` of a matrix of 256 heads. -/
abbrev wide (h : Fin 256) (d : Fin 64) : Fin 16384 := ⟨64 * h.val + d.val, by have := h.isLt; have := d.isLt; omega⟩

/-- Which head a column is in, and where in it. -/
abbrev hdW (K : Fin 16384) : Fin 256 := ⟨K.val / 64, by have := K.isLt; omega⟩
abbrev dmW (K : Fin 16384) : Fin 64 := ⟨K.val % 64, Nat.mod_lt _ (by decide)⟩

/-- The score of a row's query against key `j` of head `h`. -/
def sc (b : Fin 2) (I : Fin 4096) (h : Fin 256) (j : Fin 128) : EReal :=
  (∑ d : Fin 64, (∑ k : Fin 512, x0 (ix3 b I k) * x1 (ix2 k (wide h d))) * x2 (ix4 b j h d)) * c8

theorem v0_at (b : Fin 2) (I : Fin 4096) (N : Fin 16384) :
    val_main_v0 (F := Ideal) x0 x1 (ix3 b I N) = ∑ k : Fin 512, x0 (ix3 b I k) * x1 (ix2 k N) := by
  rw [val_main_v0_apply]
  refine Finset.sum_congr rfl fun k _ => congrArg₂ (fun i j => x0 i * x1 j) (funext fun a => ?_) (funext fun a => ?_)
  · match a with
    | ⟨0, _⟩ => rfl
    | ⟨1, _⟩ => rfl
    | ⟨2, _⟩ => rfl
  · match a with
    | ⟨0, _⟩ => rfl
    | ⟨1, _⟩ => rfl

theorem v1_at (b : Fin 2) (I : Fin 4096) (h : Fin 256) (d : Fin 64) :
    val_main_v1 (F := Ideal) x0 x1 (ix4 b I h d) = ∑ k : Fin 512, x0 (ix3 b I k) * x1 (ix2 k (wide h d)) := by
  rw [val_main_v1_apply, ← v0_at]
  have hb := b.isLt; have hI := I.isLt; have hh := h.isLt; have hd := d.isLt
  refine congrArg _ (funext fun a => Fin.ext ?_)
  match a with
  | ⟨0, _⟩ => show (((b.val * 4096 + I.val) * 256 + h.val) * 64 + d.val) / 67108864 = b.val; omega
  | ⟨1, _⟩ => show (((b.val * 4096 + I.val) * 256 + h.val) * 64 + d.val) / 16384 % 4096 = I.val; omega
  | ⟨2, _⟩ => show (((b.val * 4096 + I.val) * 256 + h.val) * 64 + d.val) % 16384 = 64 * h.val + d.val; omega

theorem v7_at (b : Fin 2) (h : Fin 256) (I : Fin 4096) (j : Fin 128) :
    val_main_v7 (F := Ideal) x0 x1 x2 (ix4 b h I j) = sc x0 x1 x2 b I h j := by
  rw [val_main_v7_apply, val_main_v5_apply, val_main_v6_apply, val_main_cst_2_apply]
  refine congrArg (· * c8) (Finset.sum_congr rfl fun d _ => ?_)
  rw [← v1_at]
  refine congrArg₂ (fun i j => val_main_v1 (F := Ideal) x0 x1 i * x2 j) (funext fun a => ?_) (funext fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

theorem v8_at (b : Fin 2) (h : Fin 256) (I : Fin 4096) :
    val_main_v8 (F := Ideal) x0 x1 x2 (ix3 b h I) = rmax (sc x0 x1 x2 b I h) := by
  unfold val_main_v8 rmax
  refine (Host.reduce_eq_fold_single (α := EReal) max _ _ reducesTo_S2x256x4096x128_S2x256x4096_d3 (by decide) h_S_ _).trans ?_
  show Finset.fold max (Ideal.ofBits .f32 0xFF800000#32) _ _ = _
  rw [bot32]
  refine Finset.fold_congr fun j _ => ?_
  refine Eq.trans ?_ (v7_at x0 x1 x2 b h I j)
  refine congrArg (val_main_v7 (F := Ideal) x0 x1 x2) (funext fun a => Fin.ext ?_)
  match a with
  | ⟨0, _⟩ => rfl
  | ⟨1, _⟩ => rfl
  | ⟨2, _⟩ => rfl
  | ⟨3, _⟩ => rfl

theorem v10_at (b : Fin 2) (h : Fin 256) (I : Fin 4096) :
    val_main_v10 (F := Ideal) x0 x1 x2 (ix4 b h I 0) = rmax (sc x0 x1 x2 b I h) := by
  rw [val_main_v10_apply, val_main_v3_apply, val_main_cst_0_apply, val_main_v9_apply, ← v8_at]
  show max (Ideal.ofBits .f32 0xFF800000#32) _ = _
  rw [bot32, max_eq_right bot_le]
  refine congrArg _ (funext fun a => ?_)
  match a with
  | ⟨0, _⟩ => rfl
  | ⟨1, _⟩ => rfl
  | ⟨2, _⟩ => rfl

theorem v15_at (b : Fin 2) (h : Fin 256) (I : Fin 4096) (j : Fin 128) :
    val_main_v15 (F := Ideal) x0 x1 x2 (ix4 b h I j) = wgt (sc x0 x1 x2 b I h) j := by
  rw [val_main_v15_apply, val_main_v14_apply, v7_at, val_main_v13_apply]
  unfold wgt
  refine congrArg (fun z => Ideal.exp (sc x0 x1 x2 b I h j - z)) ?_
  rw [← v10_at]
  refine congrArg _ (funext fun a => ?_)
  match a with
  | ⟨0, _⟩ => rfl
  | ⟨1, _⟩ => rfl
  | ⟨2, _⟩ => rfl
  | ⟨3, _⟩ => rfl

theorem v17_at (b : Fin 2) (h : Fin 256) (I : Fin 4096) :
    val_main_v17 (F := Ideal) x0 x1 x2 (ix3 b h I) = den (sc x0 x1 x2 b I h) := by
  rw [val_main_v17_apply, val_main_cst_4_apply]
  show Ideal.ofBits .f32 0x00000000#32 + _ = _
  rw [zero32, zero_add]
  refine Finset.sum_congr rfl fun j _ => ?_
  rw [← v15_at]
  refine congrArg _ (funext fun a => ?_)
  match a with
  | ⟨0, _⟩ => rfl
  | ⟨1, _⟩ => rfl
  | ⟨2, _⟩ => rfl
  | ⟨3, _⟩ => rfl

theorem v19_at (b : Fin 2) (h : Fin 256) (I : Fin 4096) :
    val_main_v19 (F := Ideal) x0 x1 x2 (ix4 b h I 0) = den (sc x0 x1 x2 b I h) := by
  rw [val_main_v19_apply, val_main_v16_apply, val_main_v4_apply, val_main_cst_1_apply, val_main_v18_apply, ← v17_at]
  show Ideal.ofBits .f32 0x00000000#32 * _ + _ = _
  rw [zero32, zero_mul, zero_add]
  refine congrArg _ (funext fun a => ?_)
  match a with
  | ⟨0, _⟩ => rfl
  | ⟨1, _⟩ => rfl
  | ⟨2, _⟩ => rfl

theorem v27_at (b : Fin 2) (I : Fin 4096) (h : Fin 256) (d : Fin 64) :
    val_main_v27 (F := Ideal) x0 x1 x2 (ix4 b I h d) = den (sc x0 x1 x2 b I h) := by
  rw [val_main_v27_apply, val_main_v26_apply, ← v19_at]
  refine congrArg _ (funext fun a => ?_)
  match a with
  | ⟨0, _⟩ => rfl
  | ⟨1, _⟩ => rfl
  | ⟨2, _⟩ => rfl
  | ⟨3, _⟩ => rfl

theorem v25_at (b : Fin 2) (I : Fin 4096) (h : Fin 256) (d : Fin 64) :
    val_main_v25 (F := Ideal) x0 x1 x2 x3 (ix4 b I h d) = ∑ j : Fin 128, x3 (ix4 b j h d) * wgt (sc x0 x1 x2 b I h) j := by
  rw [val_main_v25_apply, val_main_v22_apply, val_main_v2_apply, val_main_cst_apply, val_main_v24_apply, val_main_v23_apply]
  show Ideal.ofBits .f32 0x00000000#32 * _ + _ = _
  rw [zero32, zero_mul, zero_add]
  refine Finset.sum_congr rfl fun j _ => ?_
  rw [← v15_at]
  refine congrArg₂ (fun i j => x3 i * val_main_v15 (F := Ideal) x0 x1 x2 j) (funext fun a => ?_) (funext fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

theorem v28_at (b : Fin 2) (I : Fin 4096) (h : Fin 256) (d : Fin 64) :
    val_main_v28 (F := Ideal) x0 x1 x2 x3 (ix4 b I h d) = quo (sc x0 x1 x2 b I h) (fun j => x3 (ix4 b j h d)) := by
  rw [val_main_v28_apply, v25_at, v27_at]
  rfl

theorem v29_at (b : Fin 2) (I : Fin 4096) (K : Fin 16384) :
    val_main_v29 (F := Ideal) x0 x1 x2 x3 (ix3 b I K) = quo (sc x0 x1 x2 b I (hdW K)) (fun j => x3 (ix4 b j (hdW K) (dmW K))) := by
  rw [val_main_v29_apply, ← v28_at]
  have hb := b.isLt; have hI := I.isLt; have hK := K.isLt
  refine congrArg _ (funext fun a => Fin.ext ?_)
  match a with
  | ⟨0, _⟩ => show ((b.val * 4096 + I.val) * 16384 + K.val) / 67108864 = b.val; omega
  | ⟨1, _⟩ => show ((b.val * 4096 + I.val) * 16384 + K.val) / 16384 % 4096 = I.val; omega
  | ⟨2, _⟩ => show ((b.val * 4096 + I.val) * 16384 + K.val) / 64 % 256 = K.val / 64; omega
  | ⟨3, _⟩ => show ((b.val * 4096 + I.val) * 16384 + K.val) % 64 = K.val % 64; omega

/-- The reference at row `I` of batch `b`, column `n`. -/
theorem v30_at (b : Fin 2) (I : Fin 4096) (n : Fin 512) :
    val_main_v30 (F := Ideal) x0 x1 x2 x3 x4 (ix3 b I n)
      = ∑ K : Fin 16384, quo (sc x0 x1 x2 b I (hdW K)) (fun j => x3 (ix4 b j (hdW K) (dmW K))) * x4 (ix2 K n) := by
  rw [val_main_v30_apply]
  refine Finset.sum_congr rfl fun K _ => ?_
  rw [← v29_at]
  refine congrArg₂ (fun i j => val_main_v29 (F := Ideal) x0 x1 x2 x3 i * x4 j) (funext fun a => ?_) (funext fun a => ?_)
  · match a with
    | ⟨0, _⟩ => rfl
    | ⟨1, _⟩ => rfl
    | ⟨2, _⟩ => rfl
  · match a with
    | ⟨0, _⟩ => rfl
    | ⟨1, _⟩ => rfl

end Cert.Proof.Meet.Ref

end
-- ==== Proof.Finite.lean ====
/-
  What the precondition says over the extended reals: no element of a device's blocks of the input, of the query weights
  and of the keys is an infinity.
-/
module

public import proofs.«01_k».proof.Pre_finite_KernelIdeal
public import proofs.«01_k».proof.Proof.Softmax
public import proofs.«01_k».proof.Proof.HeadAt
public import Idealize.ShloMosaic.Lib.ReduceAll

@[expose] public section

noncomputable section

namespace Cert.Proof.Meet

open Idealize.ShloMosaic

theorem top32 : Ideal.ofBits .f32 0x7F800000#32 = ⊤ := by simp [Ideal.ofBits, Ideal.ieee]

theorem fin_c8 : Fin' c8 := by
  have h : ∃ r : ℝ, c8 = (r : EReal) := by
    unfold c8
    simp only [Ideal.ofBits, Ideal.ieee]
    rw [if_neg (by decide), if_neg (by decide)]
    exact ⟨_, rfl⟩
  obtain ⟨r, h⟩ := h
  rw [h]
  exact Fin'.coe r

/-- A number whose absolute value is less than the infinity's word is finite. -/
theorem fin_of_lt (x : EReal) (h : Ideal.cmp .olt (max x (-x)) (Ideal.ofBits .f32 0x7F800000#32) = 1#1) : Fin' x := by
  rw [top32] at h
  have h' : max x (-x) < ⊤ := by
    by_contra hn
    have e : Ideal.cmp .olt (max x (-x)) ⊤ = 0#1 := by
      show BitVec.ofBool (decide (max x (-x) < ⊤)) = 0#1
      rw [decide_eq_false hn]; rfl
    rw [e] at h
    exact absurd h (by decide)
  obtain ⟨h1, h2⟩ := max_lt_iff.1 h'
  refine ⟨h1.ne, fun hb => ?_⟩
  rw [hb] at h2
  exact absurd h2 (by simp)

theorem and_one {a b : BitVec 1} (h : a &&& b = 1#1) : a = 1#1 ∧ b = 1#1 := by
  revert a b; decide

instance : Subsingleton Pre_finite_KernelIdeal.S_.Idx := ⟨fun a b => funext fun i => i.elim0⟩

theorem fin_of_pre [Pre_finite_KernelIdeal.Facts] (a0 : FVec Ideal Pre_finite_KernelIdeal.S2x128x512 .f32) (a1 : FVec Ideal Pre_finite_KernelIdeal.S512x512 .f32)
    (a2 a3 : FVec Ideal Pre_finite_KernelIdeal.S2x128x256x64 .f32) (a4 : FVec Ideal Pre_finite_KernelIdeal.S512x512 .f32)
    (h : Pre_finite_KernelIdeal.fn (F := Ideal) a0 a1 a2 a3 a4 = fun _ => 1#1) :
    (∀ i, Fin' (a0 i)) ∧ (∀ i, Fin' (a1 i)) ∧ ∀ i, Fin' (a2 i) := by
  have h := congrFun h (fun i => i.elim0)
  unfold Pre_finite_KernelIdeal.fn at h
  obtain ⟨h, h2⟩ := and_one h
  obtain ⟨h0, h1⟩ := and_one h
  refine ⟨fun i => fin_of_lt _ ?_, fun i => fin_of_lt _ ?_, fun i => fin_of_lt _ ?_⟩
  · exact Host.reduce_andi_all _ _ _ _ _ h0 i
  · exact Host.reduce_andi_all _ _ _ _ _ h1 i
  · exact Host.reduce_andi_all _ _ _ _ _ h2 i

end Cert.Proof.Meet

end
-- ==== Proof.Meet.lean ====
/-
  Where the two programs meet: a device's result is its block of the reference's. Device `e`'s 512 columns are the
  reference's columns from `512·e` on, its heads the heads from `8·e` on, and its rows the rows from `128·e` on.
-/
module

public import proofs.«01_k».proof.Proof.RingSum
public import proofs.«01_k».proof.Proof.HostVal
public import proofs.«01_k».proof.Proof.RefVal
public import proofs.«01_k».proof.Proof.Finite
public import proofs.«01_k».proof.Proof.Launch
public import Idealize.ShloMosaic.Lib.Layout

@[expose] public section

noncomputable section

namespace Cert.Proof.Meet

open Idealize.ShloMosaic Idealize.ShloMosaic.ValueIdx Cert.KernelIdeal Cert.KernelIdeal.Gen Cert.Proof.Ring
open scoped BigOperators

/-- Column `k` of device `e`'s, among all columns. -/
def gcol (e : Fin 32) (k : Fin 512) : Fin 16384 := ⟨512 * e.val + k.val, by omega⟩

/-- Row `r` of device `c`'s, among all rows. -/
def grow (c : Fin 32) (r : Fin 128) : Fin 4096 := ⟨128 * c.val + r.val, by omega⟩

theorem hdW_gcol (e : Fin 32) (k : Fin 512) : Ref.hdW (gcol e k) = glob e (hd k) := by
  apply Fin.ext
  show (512 * e.val + k.val) / 64 = 8 * e.val + k.val / 64
  omega

theorem dmW_gcol (e : Fin 32) (k : Fin 512) : Ref.dmW (gcol e k) = dm k := by
  apply Fin.ext
  show (512 * e.val + k.val) % 64 = k.val % 64
  omega

theorem wide_glob (e : Fin 32) (h : Fin 8) (d : Fin 64) : Ref.wide (glob e h) d = gcol e (col h d) := by
  apply Fin.ext
  show 64 * (8 * e.val + h.val) + d.val = 512 * e.val + (64 * h.val + d.val)
  omega

/-- A sum over all columns is a sum over the devices and their columns. -/
theorem sum_cols (f : Fin 16384 → EReal) : ∑ K, f K = ∑ e : Fin 32, ∑ k : Fin 512, f (gcol e k) := by
  rw [← Fintype.sum_prod_type']
  symm
  refine Fintype.sum_bijective (fun p : Fin 32 × Fin 512 => gcol p.1 p.2) ⟨?_, ?_⟩ _ _ fun _ => rfl
  · rintro ⟨e, k⟩ ⟨e', k'⟩ h
    have h : 512 * e.val + k.val = 512 * e'.val + k'.val := congrArg Fin.val h
    refine Prod.ext (Fin.ext ?_) (Fin.ext ?_)
    · show e.val = e'.val
      omega
    · show k.val = k'.val
      omega
  · intro K
    refine ⟨⟨⟨K.val / 512, by omega⟩, ⟨K.val % 512, by omega⟩⟩, Fin.ext ?_⟩
    show 512 * (K.val / 512) + K.val % 512 = K.val
    omega

theorem bat_onto : ∀ b : Fin 2, ∃ d : Bool, bat d = b := by decide

section Mem

variable (m : (ℓ : Loc nD τ sig) → Buf (Elt Ideal) ℓ)

theorem xin_eq (c : Dev nD) : xin m c = m ((c.tc : Thread nD τ).loc main_arg0) := V1_of m c main_arg0 (by decide)

theorem wq_eq (c : Dev nD) : (parD m c).wq = m ((c.tc : Thread nD τ).loc main_arg1) := V1_of m c main_arg1 (by decide)

theorem wo_eq (c : Dev nD) : (parD m c).wo = m ((c.tc : Thread nD τ).loc main_arg4) := V1_of m c main_arg4 (by decide)

theorem kt_eq (c : Dev nD) : (parD m c).kt = mine c (m ((c.tc : Thread nD τ).loc main_arg2)) := V1_keys m c

theorem vt_eq (c : Dev nD) : (parD m c).vt = mine c (m ((c.tc : Thread nD τ).loc main_arg3)) := V1_vals m c

theorem xBlk_at (X : Vec Ideal S2x128x512 .f32) (d : Bool) (r : Fin 128) (k : Fin 512) : xBlk X d (ix3 0 r k) = X (ix3 (bat d) r k) := by
  cases d
  · refine congrArg X (funext fun a => Fin.ext ?_)
    match a with
    | 0 => rfl
    | 1 => show 0 + 1 * r.val = r.val; omega
    | 2 => show 0 + 1 * k.val = k.val; omega
  · refine congrArg X (funext fun a => Fin.ext ?_)
    match a with
    | 0 => rfl
    | 1 => show 0 + 1 * r.val = r.val; omega
    | 2 => show 0 + 1 * k.val = k.val; omega

theorem oJoin_at (v : Bool → Blk Ideal) (d : Bool) (r : Fin 128) (n : Fin 512) : oJoin v (ix3 (bat d) r n) = v d (ix3 0 r n) := by
  have e : rowOf (ix3 (bat d) r n) = ix3 0 r n := by
    funext a
    apply Fin.ext
    match a with
    | 0 => rfl
    | 1 => rfl
    | 2 => rfl
  show v (decide _) (rowOf _) = _
  rw [e]
  cases d <;> rfl

end Mem

/-! ### Blocks at an index -/

theorem blockX (x : Buf (Elt Ideal) (((0 : Dev Cert.ReferenceIdeal.nD).tc : Thread Cert.ReferenceIdeal.nD Cert.ReferenceIdeal.τ).loc Cert.ReferenceIdeal.main_arg0))
    (c : Fin 32) (b : Fin 2) (r : Fin 128) (k : Fin 512) :
    Layout.block ⟨3, ![2, 128, 512]⟩ ⟨3, ![2, 4096, 512]⟩ 1 32 c x (by decide) (ix3 b r k) = x (ix3 b (grow c r) k) := by
  refine congrArg x (funext fun a => Fin.ext ?_)
  match a with
  | 0 => rfl
  | 1 => show c.val * 128 + r.val = 128 * c.val + r.val; omega
  | 2 => rfl

theorem blockQ (x : Buf (Elt Ideal) (((0 : Dev Cert.ReferenceIdeal.nD).tc : Thread Cert.ReferenceIdeal.nD Cert.ReferenceIdeal.τ).loc Cert.ReferenceIdeal.main_arg1))
    (c : Fin 32) (k N : Fin 512) :
    Layout.block ⟨2, ![512, 512]⟩ ⟨2, ![512, 16384]⟩ 1 32 c x (by decide) (ix2 k N) = x (ix2 k (gcol c N)) := by
  refine congrArg x (funext fun a => Fin.ext ?_)
  match a with
  | 0 => rfl
  | 1 => show c.val * 512 + N.val = 512 * c.val + N.val; omega

theorem blockO (x : Buf (Elt Ideal) (((0 : Dev Cert.ReferenceIdeal.nD).tc : Thread Cert.ReferenceIdeal.nD Cert.ReferenceIdeal.τ).loc Cert.ReferenceIdeal.main_arg4))
    (c : Fin 32) (k n : Fin 512) :
    Layout.block ⟨2, ![512, 512]⟩ ⟨2, ![16384, 512]⟩ 0 32 c x (by decide) (ix2 k n) = x (ix2 (gcol c k) n) := by
  refine congrArg x (funext fun a => Fin.ext ?_)
  match a with
  | 0 => show c.val * 512 + k.val = 512 * c.val + k.val; omega
  | 1 => rfl

/-! ### The values -/

section Values

variable (b : Fin 2) (p : Par Ideal) (x : Vec Ideal S1x128x512 .f32) (r : Fin 128)

/-- The scores of finite inputs are finite. -/
theorem fin_sco (hx : ∀ i, Fin' (x i)) (hq : ∀ i, Fin' (p.wq i)) (hk : ∀ i, Fin' (p.kt i)) (h : Fin 8) (j : Fin 128) : Fin' (sco b p x r h j) :=
  (Fin'.sum _ _ fun _ => (Fin'.sum _ _ fun _ => (hx _).mul (hq _)).mul (hk _)).mul fin_c8

variable (X : Vec Ideal Cert.ReferenceIdeal.S2x4096x512 .f32) (Q : Vec Ideal Cert.ReferenceIdeal.S512x16384 .f32)
  (K V : Vec Ideal S2x128x256x64 .f32) (O : Vec Ideal Cert.ReferenceIdeal.S16384x512 .f32) (e : Fin 32) (I : Fin 4096)

theorem sco_eq (hx : ∀ k, x (ix3 0 r k) = X (ix3 b I k)) (hq : ∀ k N, p.wq (ix2 k N) = Q (ix2 k (gcol e N)))
    (hk : ∀ h j d, p.kt (ix4 b h j d) = K (ix4 b j (glob e h) d)) (h : Fin 8) : sco b p x r h = Ref.sc X Q K b I (glob e h) := by
  funext j
  refine congrArg (· * c8) (Finset.sum_congr rfl fun d _ => ?_)
  rw [hk]
  refine congrArg (· * _) (Finset.sum_congr rfl fun k _ => ?_)
  rw [hx, hq, wide_glob]

/-- What a device's columns add to the reference's sum. -/
theorem con_eq (hx : ∀ k, x (ix3 0 r k) = X (ix3 b I k)) (hq : ∀ k N, p.wq (ix2 k N) = Q (ix2 k (gcol e N)))
    (hk : ∀ h j d, p.kt (ix4 b h j d) = K (ix4 b j (glob e h) d)) (hv : ∀ h j d, p.vt (ix4 b h j d) = V (ix4 b j (glob e h) d))
    (ho : ∀ k n, p.wo (ix2 k n) = O (ix2 (gcol e k) n))
    (fx : ∀ i, Fin' (x i)) (fq : ∀ i, Fin' (p.wq i)) (fk : ∀ i, Fin' (p.kt i)) (n : Fin 512) :
    con b p x r n = ∑ k : Fin 512, quo (Ref.sc X Q K b I (Ref.hdW (gcol e k))) (fun j => V (ix4 b j (Ref.hdW (gcol e k)) (Ref.dmW (gcol e k)))) * O (ix2 (gcol e k) n) := by
  refine Finset.sum_congr rfl fun k _ => ?_
  rw [hdW_gcol, dmW_gcol, ← sco_eq b p x r X Q K e I hx hq hk, quo_eq_att _ _ (fin_sco b p x r fx fq fk (hd k)), ho]
  exact congrArg (fun v => att _ v * _) (funext fun j => hv _ j _)

end Values

/-- A device's result is its block of the reference's. -/
theorem meet (m : (ℓ : Loc nD τ sig) → Buf (Elt Ideal) ℓ)
    (X : Buf (Elt Ideal) (((0 : Dev Cert.ReferenceIdeal.nD).tc : Thread Cert.ReferenceIdeal.nD Cert.ReferenceIdeal.τ).loc Cert.ReferenceIdeal.main_arg0))
    (Q : Buf (Elt Ideal) (((0 : Dev Cert.ReferenceIdeal.nD).tc : Thread Cert.ReferenceIdeal.nD Cert.ReferenceIdeal.τ).loc Cert.ReferenceIdeal.main_arg1))
    (K : Buf (Elt Ideal) (((0 : Dev Cert.ReferenceIdeal.nD).tc : Thread Cert.ReferenceIdeal.nD Cert.ReferenceIdeal.τ).loc Cert.ReferenceIdeal.main_arg2))
    (V : Buf (Elt Ideal) (((0 : Dev Cert.ReferenceIdeal.nD).tc : Thread Cert.ReferenceIdeal.nD Cert.ReferenceIdeal.τ).loc Cert.ReferenceIdeal.main_arg3))
    (O : Buf (Elt Ideal) (((0 : Dev Cert.ReferenceIdeal.nD).tc : Thread Cert.ReferenceIdeal.nD Cert.ReferenceIdeal.τ).loc Cert.ReferenceIdeal.main_arg4))
    (f0 : ∀ (c : Dev nD) i, Fin' (m ((c.tc : Thread nD τ).loc main_arg0) i)) (f1 : ∀ (c : Dev nD) i, Fin' (m ((c.tc : Thread nD τ).loc main_arg1) i))
    (f2 : ∀ (c : Dev nD) i, Fin' (m ((c.tc : Thread nD τ).loc main_arg2) i))
    (h0 : ∀ c : Dev nD, m ((c.tc : Thread nD τ).loc main_arg0) = Layout.block ⟨3, ![2, 128, 512]⟩ ⟨3, ![2, 4096, 512]⟩ 1 32 c X)
    (h1 : ∀ c : Dev nD, m ((c.tc : Thread nD τ).loc main_arg1) = Layout.block ⟨2, ![512, 512]⟩ ⟨2, ![512, 16384]⟩ 1 32 c Q)
    (h2 : ∀ c : Dev nD, m ((c.tc : Thread nD τ).loc main_arg2) = K) (h3 : ∀ c : Dev nD, m ((c.tc : Thread nD τ).loc main_arg3) = V)
    (h4 : ∀ c : Dev nD, m ((c.tc : Thread nD τ).loc main_arg4) = Layout.block ⟨2, ![512, 512]⟩ ⟨2, ![16384, 512]⟩ 0 32 c O) (c : Dev nD) :
    outD m c = Layout.block ⟨3, ![2, 128, 512]⟩ ⟨3, ![2, 4096, 512]⟩ 1 32 c (Cert.ReferenceIdeal.Read.val_main_v30 (F := Ideal) X Q K V O) := by
  have main : ∀ (d : Bool) (r : Fin 128) (n : Fin 512), outD m c (ix3 (bat d) r n)
      = Cert.ReferenceIdeal.Read.val_main_v30 (F := Ideal) X Q K V O (ix3 (bat d) (grow c r) n) := by
    intro d r n
    refine (oJoin_at _ d r n).trans ?_
    rw [outV_sum, Ref.v30_at, sum_cols]
    refine Finset.sum_congr rfl fun e _ => ?_
    refine con_eq (bat d) (parD m e) (xD m d c) r X Q K V O e (grow c r) ?_ ?_ ?_ ?_ ?_ ?_ ?_ ?_ n
    · intro k
      refine (xBlk_at _ d r k).trans ?_
      rw [xin_eq, h0]
      exact blockX X c (bat d) r k
    · intro k N
      rw [wq_eq, h1]
      exact blockQ Q e k N
    · intro h j t
      rw [kt_eq, mine_apply, h2]
    · intro h j t
      rw [vt_eq, mine_apply, h3]
    · intro k n
      rw [wo_eq, h4]
      exact blockO O e k n
    · intro i
      rw [eq_ix3 i, show i 0 = (0 : Fin 1) from Subsingleton.elim (α := Fin 1) _ _]
      have e0 := xBlk_at (xin m c) d (i 1) (i 2)
      rw [xin_eq] at e0
      have e1 := f0 c (ix3 (bat d) (i 1) (i 2))
      rw [← e0] at e1
      unfold xD
      rw [xin_eq]
      exact e1
    · intro i
      rw [wq_eq]
      exact f1 e i
    · intro i
      rw [kt_eq, eq_ix4 i]
      exact (mine_apply e _ (i 0) (i 1) (i 2) (i 3)).symm ▸ f2 e _
  funext i
  have hb : ∃ d : Bool, bat d = (i 0 : Fin 2) := bat_onto (i 0)
  obtain ⟨d, hb⟩ := hb
  rw [eq_ix3 i]
  refine Eq.trans ?_ ((main d (i 1) (i 2)).trans ?_)
  · exact congrArg (fun b : Fin 2 => outD m c (ix3 b (i 1) (i 2))) hb.symm
  · rw [hb]
    refine congrArg (Cert.ReferenceIdeal.Read.val_main_v30 (F := Ideal) X Q K V O) (funext fun a => Fin.ext ?_)
    match a with
    | 0 => rfl
    | 1 => show 128 * c.val + (i 1).val = c.val * 128 + (i 1).val; omega
    | 2 => rfl

end Cert.Proof.Meet

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Meet

@[expose] public section

noncomputable section

namespace Cert.Proof

open Idealize.ShloMosaic Idealize.SL.Sem

/-- The body tables of the two printed programs are one table: their labels run the same function. -/
theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (_, _) => rfl

/-- So are their tables with the regions. -/
theorem defs_eq : Cert.Kernel.defs (F := Bits) = Cert.KernelIdeal.defs (F := Bits) :=
  congrArg (Pipeline.defs (Cert.KernelIdeal.pcfgs (F := Bits))) defs₀_eq

/-- The kernel as printed runs on every start, over the machine's floats, and keeps its arguments. -/
theorem frame_kernel : Cert.quiescent_Kernel := fun m ρ _ => by
  have h := Ring.run_main (F := Bits) m ρ
  rw [← defs_eq] at h
  exact (θ_run Cert.Kernel.defs _ _).mono (fun _ h => ⟨fun c => (h.1 c).1, h.2⟩) h

theorem frame_ideal : Cert.quiescent_KernelIdeal := fun m ρ _ =>
  (θ_run Cert.KernelIdeal.defs _ _).mono (fun _ h => ⟨fun c => (h.1 c).1, h.2⟩) (Ring.run_main (F := Ideal) m ρ)

theorem no_sem : ∀ s : SemLoc Cert.ReferenceIdeal.sig, False := by decide

theorem frame_reference : Cert.quiescent_ReferenceIdeal := fun m ρ _ =>
  (θ_run Cert.ReferenceIdeal.defs _ _).mono (fun _ h => ⟨fun c => (h c).2, funext fun g => (no_sem g.2).elim⟩) (Cert.ReferenceIdeal.Value.run (F := Ideal) m ρ)

/-- The side conditions of the precondition at one device's shapes. -/
theorem pre_kernel : Cert.Pre_finite_KernelIdeal.Facts where
  bcast_S_S2x128x512 := by decide
  reducesTo_S2x128x512_S_d0_1_2 := by decide
  h_S_ := by decide
  bcast_S_S512x512 := by decide
  reducesTo_S512x512_S_d0_1 := by decide
  bcast_S_S2x128x256x64 := by decide
  reducesTo_S2x128x256x64_S_d0_1_2_3 := by decide

/-- And at the whole arrays' shapes. -/
theorem pre_reference : Cert.Pre_finite_ReferenceIdeal.Facts where
  bcast_S_S2x4096x512 := by decide
  reducesTo_S2x4096x512_S_d0_1_2 := by decide
  h_S_ := by decide
  bcast_S_S512x16384 := by decide
  reducesTo_S512x16384_S_d0_1 := by decide
  bcast_S_S2x128x256x64 := by decide
  reducesTo_S2x128x256x64_S_d0_1_2_3 := by decide

theorem frame_ideal_pre : Cert.quiescent_KernelIdeal_pre_finite_KernelIdeal (hPre_finite_KernelIdeal := pre_kernel) := fun m ρ _ =>
  (θ_run Cert.KernelIdeal.defs _ _).mono (fun _ h => ⟨fun c => (h.1 c).1, h.2⟩) (Ring.run_main (F := Ideal) m ρ)

theorem frame_reference_pre : Cert.quiescent_ReferenceIdeal_pre_finite_ReferenceIdeal (hPre_finite_ReferenceIdeal := pre_reference) := fun m ρ _ =>
  (θ_run Cert.ReferenceIdeal.defs _ _).mono (fun _ h => ⟨fun c => (h c).2, funext fun g => (no_sem g.2).elim⟩) (Cert.ReferenceIdeal.Value.run (F := Ideal) m ρ)

/-- Each device ends with its block of the reference's result. -/
theorem value : Cert.algebraic_KernelIdeal_ReferenceIdeal_pre_finite_KernelIdeal (hPre_finite_KernelIdeal := pre_kernel) := by
  intro m g m' g' hp ha
  have := pre_kernel
  have hf := fun c => Meet.fin_of_pre _ _ _ _ _ (hp c)
  have e := Meet.meet m _ _ _ _ _ (fun c => (hf c).1) (fun c => (hf c).2.1) (fun c => (hf c).2.2) (fun c => (ha c).1) (fun c => (ha c).2.1)
    (fun c => (ha c).2.2.1) (fun c => (ha c).2.2.2.1) (fun c => (ha c).2.2.2.2)
  refine ⟨_, (θ_run Cert.KernelIdeal.defs _ _).mono (fun _ h c => ⟨(h.1 c).2.trans (e c), (h.1 c).1⟩) (Ring.run_main (F := Ideal) m g), ?_⟩
  exact (θ_run Cert.ReferenceIdeal.defs _ _).mono (fun _ h => ⟨(h 0).1.trans (Cert.ReferenceIdeal.Read.val_main_v30_eq m' 0), (h 0).2⟩)
    (Cert.ReferenceIdeal.Value.run (F := Ideal) m' g')

theorem claim : Cert.Claim := ⟨Cert.Kernel.Gen.facts, Cert.KernelIdeal.Gen.facts, Cert.ReferenceIdeal.Gen.facts, pre_kernel, pre_reference,
  frame_kernel, frame_ideal, frame_ideal_pre, frame_reference, frame_reference_pre, trivial, value⟩

end Cert.Proof

end
